-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lam_nonneg [hPre_lam_nonneg : Cert.Pre_lam_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_lam_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lam_nonneg [hPre_lam_nonneg : Cert.Pre_lam_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lam_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_lam_nonneg [hKernelIdeal : Cert.KernelIdeal.Facts] [hPre_lam_nonneg : Cert.Pre_lam_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lam_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_lam_nonneg [hReferenceIdeal : Cert.ReferenceIdeal.Facts] [hPre_lam_nonneg : Cert.Pre_lam_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lam_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_lam_nonneg [hKernelIdeal : Cert.KernelIdeal.Facts] [hReferenceIdeal : Cert.ReferenceIdeal.Facts] [hPre_lam_nonneg : Cert.Pre_lam_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lam_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v113_0)) (v1 : (c : Dev Cert.KernelIdeal.nD) → Buf (Elt Ideal) ((c.tc : Thread Cert.KernelIdeal.nD Cert.KernelIdeal.τ).loc Cert.KernelIdeal.main_v113_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113_0) = v0 c
          ∧ r.2.mem ((c.tc : Thread Cert.KernelIdeal.nD Cert.KernelIdeal.τ).loc Cert.KernelIdeal.main_v113_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v32_0)) (v1 : (c : Dev Cert.Kernel4Ideal.nD) → Buf (Elt Ideal) ((c.tc : Thread Cert.Kernel4Ideal.nD Cert.Kernel4Ideal.τ).loc Cert.Kernel4Ideal.main_v32_1)) (v2 : (c : Dev Cert.Kernel4Ideal.nD) → Buf (Elt Ideal) ((c.tc : Thread Cert.Kernel4Ideal.nD Cert.Kernel4Ideal.τ).loc Cert.Kernel4Ideal.main_v32_2)) (v3 : (c : Dev Cert.Kernel4Ideal.nD) → Buf (Elt Ideal) ((c.tc : Thread Cert.Kernel4Ideal.nD Cert.Kernel4Ideal.τ).loc Cert.Kernel4Ideal.main_v32_3)) (v4 : (c : Dev Cert.Kernel4Ideal.nD) → Buf (Elt Ideal) ((c.tc : Thread Cert.Kernel4Ideal.nD Cert.Kernel4Ideal.τ).loc Cert.Kernel4Ideal.main_v32_4)) (v5 : (c : Dev Cert.Kernel4Ideal.nD) → Buf (Elt Ideal) ((c.tc : Thread Cert.Kernel4Ideal.nD Cert.Kernel4Ideal.τ).loc Cert.Kernel4Ideal.main_v32_5)) (v6 : (c : Dev Cert.Kernel4Ideal.nD) → Buf (Elt Ideal) ((c.tc : Thread Cert.Kernel4Ideal.nD Cert.Kernel4Ideal.τ).loc Cert.Kernel4Ideal.main_v32_6)) (v7 : (c : Dev Cert.Kernel4Ideal.nD) → Buf (Elt Ideal) ((c.tc : Thread Cert.Kernel4Ideal.nD Cert.Kernel4Ideal.τ).loc Cert.Kernel4Ideal.main_v32_7)) (v8 : (c : Dev Cert.Kernel4Ideal.nD) → Buf (Elt Ideal) ((c.tc : Thread Cert.Kernel4Ideal.nD Cert.Kernel4Ideal.τ).loc Cert.Kernel4Ideal.main_v32_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32_0) = v0 c
          ∧ r.2.mem ((c.tc : Thread Cert.Kernel4Ideal.nD Cert.Kernel4Ideal.τ).loc Cert.Kernel4Ideal.main_v32_1) = v1 c
          ∧ r.2.mem ((c.tc : Thread Cert.Kernel4Ideal.nD Cert.Kernel4Ideal.τ).loc Cert.Kernel4Ideal.main_v32_2) = v2 c
          ∧ r.2.mem ((c.tc : Thread Cert.Kernel4Ideal.nD Cert.Kernel4Ideal.τ).loc Cert.Kernel4Ideal.main_v32_3) = v3 c
          ∧ r.2.mem ((c.tc : Thread Cert.Kernel4Ideal.nD Cert.Kernel4Ideal.τ).loc Cert.Kernel4Ideal.main_v32_4) = v4 c
          ∧ r.2.mem ((c.tc : Thread Cert.Kernel4Ideal.nD Cert.Kernel4Ideal.τ).loc Cert.Kernel4Ideal.main_v32_5) = v5 c
          ∧ r.2.mem ((c.tc : Thread Cert.Kernel4Ideal.nD Cert.Kernel4Ideal.τ).loc Cert.Kernel4Ideal.main_v32_6) = v6 c
          ∧ r.2.mem ((c.tc : Thread Cert.Kernel4Ideal.nD Cert.Kernel4Ideal.τ).loc Cert.Kernel4Ideal.main_v32_7) = v7 c
          ∧ r.2.mem ((c.tc : Thread Cert.Kernel4Ideal.nD Cert.Kernel4Ideal.τ).loc Cert.Kernel4Ideal.main_v32_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v120) = v0 c
          ∧ r.2.mem ((c.tc : Thread Cert.Reference4Ideal.nD Cert.Reference4Ideal.τ).loc Cert.Reference4Ideal.main_v160) = v1 c
          ∧ r.2.mem ((c.tc : Thread Cert.Reference4Ideal.nD Cert.Reference4Ideal.τ).loc Cert.Reference4Ideal.main_v163) = v2 c
          ∧ r.2.mem ((c.tc : Thread Cert.Reference4Ideal.nD Cert.Reference4Ideal.τ).loc Cert.Reference4Ideal.main_v166) = v3 c
          ∧ r.2.mem ((c.tc : Thread Cert.Reference4Ideal.nD Cert.Reference4Ideal.τ).loc Cert.Reference4Ideal.main_v169) = v4 c
          ∧ r.2.mem ((c.tc : Thread Cert.Reference4Ideal.nD Cert.Reference4Ideal.τ).loc Cert.Reference4Ideal.main_v173) = v5 c
          ∧ r.2.mem ((c.tc : Thread Cert.Reference4Ideal.nD Cert.Reference4Ideal.τ).loc Cert.Reference4Ideal.main_v174) = v6 c
          ∧ r.2.mem ((c.tc : Thread Cert.Reference4Ideal.nD Cert.Reference4Ideal.τ).loc Cert.Reference4Ideal.main_v175) = v7 c
          ∧ r.2.mem ((c.tc : Thread Cert.Reference4Ideal.nD Cert.Reference4Ideal.τ).loc Cert.Reference4Ideal.main_v177) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_lam_nonneg : Cert.Pre_lam_nonneg.Facts),
    quiescent_Kernel (hKernel := hKernel)
    ∧ quiescent_KernelIdeal (hKernelIdeal := hKernelIdeal)
    ∧ quiescent_KernelIdeal_pre_lam_nonneg (hKernelIdeal := hKernelIdeal) (hPre_lam_nonneg := hPre_lam_nonneg)
    ∧ quiescent_ReferenceIdeal (hReferenceIdeal := hReferenceIdeal)
    ∧ quiescent_ReferenceIdeal_pre_lam_nonneg (hReferenceIdeal := hReferenceIdeal) (hPre_lam_nonneg := hPre_lam_nonneg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_lam_nonneg (hKernelIdeal := hKernelIdeal) (hReferenceIdeal := hReferenceIdeal) (hPre_lam_nonneg := hPre_lam_nonneg)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_lam_nonneg.lean ====
abbrev S16384x512 : Shape := ⟨2, ![16384, 512]⟩
abbrev S1x4x512 : Shape := ⟨3, ![1, 4, 512]⟩
abbrev S1x512 : Shape := ⟨2, ![1, 512]⟩
abbrev S1x8x64x64 : Shape := ⟨4, ![1, 8, 64, 64]⟩
abbrev S_ : Shape := ⟨0, ![]⟩

class Facts : Prop where
  bcast_S_S1x512 : S_.BroadcastsInDim S1x512 (![] : Fin 0 → Fin S1x512.rank)

variable [Facts]

def fn {F : FTy → Type} [FloatOps F] (main_arg0 : FVec F S16384x512 .f32) (main_arg1 : FVec F S16384x512 .f32) (main_arg2 : FVec F S1x4x512 .f32) (main_arg3 : FVec F S1x512 .f32) (main_arg4 : FVec F S1x8x64x64 .f32) (main_arg5 : FVec F S1x512 .f32) (main_arg6 : FVec F S1x8x64x64 .f32) (main_arg7 : FVec F S1x512 .f32) (main_arg8 : FVec F S1x512 .f32) (main_arg9 : FVec F S1x512 .f32) : IVec S1x512 1 :=
  let main_cst : FVec F S_ .f32 := constant S_ .f32 0x00000000#32
  let main_v0 : FVec F S1x512 .f32 := broadcastInDim S1x512 ![] bcast_S_S1x512 main_cst
  let main_v1 : IVec S1x512 1 := cmpf .oge main_arg8 main_v0
  main_v1
-- ==== Kernel.lean ====
abbrev S16384x512 : Shape := ⟨2, ![16384, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S8x64x64 : Shape := ⟨3, ![8, 64, 64]⟩
abbrev S1x64x64 : Shape := ⟨3, ![1, 64, 64]⟩
abbrev S64x64 : Shape := ⟨2, ![64, 64]⟩
abbrev S1x64x1x64 : Shape := ⟨4, ![1, 64, 1, 64]⟩
abbrev S1x64x8x64 : Shape := ⟨4, ![1, 64, 8, 64]⟩
abbrev S64x512 : Shape := ⟨2, ![64, 512]⟩
abbrev S512x512 : Shape := ⟨2, ![512, 512]⟩
abbrev S_ : Shape := ⟨0, ![]⟩
abbrev S8x1x512 : Shape := ⟨3, ![8, 1, 512]⟩
abbrev S1x1x512 : Shape := ⟨3, ![1, 1, 512]⟩
abbrev S8x512 : Shape := ⟨2, ![8, 512]⟩
abbrev S520x512 : Shape := ⟨2, ![520, 512]⟩
abbrev S64x8x512 : Shape := ⟨3, ![64, 8, 512]⟩
abbrev S1x8x1 : Shape := ⟨3, ![1, 8, 1]⟩
abbrev S1x8x512 : Shape := ⟨3, ![1, 8, 512]⟩
abbrev S512x1 : Shape := ⟨2, ![512, 1]⟩

abbrev nBuf : Space → Nat
  | .hbm => 133
  | .vmem => 18
  | .smem => 0
  | _ => 0

abbrev hbmTy0_0 (i : Nat) : BufTy := match i % 128 with
  | 0 => ⟨S16384x512, .f32⟩
  | 1 => ⟨S16384x512, .f32⟩
  | 2 => ⟨S1x4x512, .f32⟩
  | 3 => ⟨S1x512, .f32⟩
  | 4 => ⟨S1x8x64x64, .f32⟩
  | 5 => ⟨S1x512, .f32⟩
  | 6 => ⟨S1x8x64x64, .f32⟩
  | 7 => ⟨S1x512, .f32⟩
  | 8 => ⟨S1x512, .f32⟩
  | 9 => ⟨S1x512, .f32⟩
  | 10 => ⟨S4x512, .f32⟩
  | 11 => ⟨S512, .f32⟩
  | 12 => ⟨S1x512, .f32⟩
  | 13 => ⟨S8x64x64, .f32⟩
  | 14 => ⟨S8x64x64, .bf16⟩
  | 15 => ⟨S1x64x64, .bf16⟩
  | 16 => ⟨S64x64, .bf16⟩
  | 17 => ⟨S1x64x1x64, .bf16⟩
  | 18 => ⟨S1x64x8x64, .bf16⟩
  | 19 => ⟨S64x512, .bf16⟩
  | 20 => ⟨S1x64x64, .bf16⟩
  | 21 => ⟨S64x64, .bf16⟩
  | 22 => ⟨S1x64x1x64, .bf16⟩
  | 23 => ⟨S1x64x8x64, .bf16⟩
  | 24 => ⟨S64x512, .bf16⟩
  | 25 => ⟨S1x64x64, .bf16⟩
  | 26 => ⟨S64x64, .bf16⟩
  | 27 => ⟨S1x64x1x64, .bf16⟩
  | 28 => ⟨S1x64x8x64, .bf16⟩
  | 29 => ⟨S64x512, .bf16⟩
  | 30 => ⟨S1x64x64, .bf16⟩
  | 31 => ⟨S64x64, .bf16⟩
  | 32 => ⟨S1x64x1x64, .bf16⟩
  | 33 => ⟨S1x64x8x64, .bf16⟩
  | 34 => ⟨S64x512, .bf16⟩
  | 35 => ⟨S1x64x64, .bf16⟩
  | 36 => ⟨S64x64, .bf16⟩
  | 37 => ⟨S1x64x1x64, .bf16⟩
  | 38 => ⟨S1x64x8x64, .bf16⟩
  | 39 => ⟨S64x512, .bf16⟩
  | 40 => ⟨S1x64x64, .bf16⟩
  | 41 => ⟨S64x64, .bf16⟩
  | 42 => ⟨S1x64x1x64, .bf16⟩
  | 43 => ⟨S1x64x8x64, .bf16⟩
  | 44 => ⟨S64x512, .bf16⟩
  | 45 => ⟨S1x64x64, .bf16⟩
  | 46 => ⟨S64x64, .bf16⟩
  | 47 => ⟨S1x64x1x64, .bf16⟩
  | 48 => ⟨S1x64x8x64, .bf16⟩
  | 49 => ⟨S64x512, .bf16⟩
  | 50 => ⟨S1x64x64, .bf16⟩
  | 51 => ⟨S64x64, .bf16⟩
  | 52 => ⟨S1x64x1x64, .bf16⟩
  | 53 => ⟨S1x64x8x64, .bf16⟩
  | 54 => ⟨S64x512, .bf16⟩
  | 55 => ⟨S512x512, .bf16⟩
  | 56 => ⟨S512x512, .i32⟩
  | 57 => ⟨S512x512, .i32⟩
  | 58 => ⟨S_, .i32⟩
  | 59 => ⟨S512x512, .i32⟩
  | 60 => ⟨S512x512, .i32⟩
  | 61 => ⟨S_, .i32⟩
  | 62 => ⟨S512x512, .i32⟩
  | 63 => ⟨S512x512, .i32⟩
  | 64 => ⟨S512x512, .i1⟩
  | 65 => ⟨S_, .bf16⟩
  | 66 => ⟨S512x512, .bf16⟩
  | 67 => ⟨S512x512, .bf16⟩
  | 68 => ⟨S8x64x64, .f32⟩
  | 69 => ⟨S8x64x64, .bf16⟩
  | 70 => ⟨S1x64x64, .bf16⟩
  | 71 => ⟨S64x64, .bf16⟩
  | 72 => ⟨S1x64x1x64, .bf16⟩
  | 73 => ⟨S1x64x8x64, .bf16⟩
  | 74 => ⟨S64x512, .bf16⟩
  | 75 => ⟨S1x64x64, .bf16⟩
  | 76 => ⟨S64x64, .bf16⟩
  | 77 => ⟨S1x64x1x64, .bf16⟩
  | 78 => ⟨S1x64x8x64, .bf16⟩
  | 79 => ⟨S64x512, .bf16⟩
  | 80 => ⟨S1x64x64, .bf16⟩
  | 81 => ⟨S64x64, .bf16⟩
  | 82 => ⟨S1x64x1x64, .bf16⟩
  | 83 => ⟨S1x64x8x64, .bf16⟩
  | 84 => ⟨S64x512, .bf16⟩
  | 85 => ⟨S1x64x64, .bf16⟩
  | 86 => ⟨S64x64, .bf16⟩
  | 87 => ⟨S1x64x1x64, .bf16⟩
  | 88 => ⟨S1x64x8x64, .bf16⟩
  | 89 => ⟨S64x512, .bf16⟩
  | 90 => ⟨S1x64x64, .bf16⟩
  | 91 => ⟨S64x64, .bf16⟩
  | 92 => ⟨S1x64x1x64, .bf16⟩
  | 93 => ⟨S1x64x8x64, .bf16⟩
  | 94 => ⟨S64x512, .bf16⟩
  | 95 => ⟨S1x64x64, .bf16⟩
  | 96 => ⟨S64x64, .bf16⟩
  | 97 => ⟨S1x64x1x64, .bf16⟩
  | 98 => ⟨S1x64x8x64, .bf16⟩
  | 99 => ⟨S64x512, .bf16⟩
  | 100 => ⟨S1x64x64, .bf16⟩
  | 101 => ⟨S64x64, .bf16⟩
  | 102 => ⟨S1x64x1x64, .bf16⟩
  | 103 => ⟨S1x64x8x64, .bf16⟩
  | 104 => ⟨S64x512, .bf16⟩
  | 105 => ⟨S1x64x64, .bf16⟩
  | 106 => ⟨S64x64, .bf16⟩
  | 107 => ⟨S1x64x1x64, .bf16⟩
  | 108 => ⟨S1x64x8x64, .bf16⟩
  | 109 => ⟨S64x512, .bf16⟩
  | 110 => ⟨S512x512, .bf16⟩
  | 111 => ⟨S512x512, .i32⟩
  | 112 => ⟨S512x512, .i32⟩
  | 113 => ⟨S_, .i32⟩
  | 114 => ⟨S512x512, .i32⟩
  | 115 => ⟨S512x512, .i32⟩
  | 116 => ⟨S_, .i32⟩
  | 117 => ⟨S512x512, .i32⟩
  | 118 => ⟨S512x512, .i32⟩
  | 119 => ⟨S512x512, .i1⟩
  | 120 => ⟨S_, .bf16⟩
  | 121 => ⟨S512x512, .bf16⟩
  | 122 => ⟨S512x512, .bf16⟩
  | 123 => ⟨S512, .f32⟩
  | 124 => ⟨S1x512, .f32⟩
  | 125 => ⟨S512, .f32⟩
  | 126 => ⟨S1x512, .f32⟩
  | 127 => ⟨S512, .f32⟩
  | _ => ⟨S16384x512, .f32⟩

abbrev hbmTy0_1 (i : Nat) : BufTy := match i % 128 with
  | 0 => ⟨S1x512, .f32⟩
  | 1 => ⟨S512, .f32⟩
  | 2 => ⟨S1x512, .f32⟩
  | 3 => ⟨S16384x512, .bf16⟩
  | 4 => ⟨S8x1x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S1x1x512, .f32⟩
  | .local _ .vmem, ⟨15, _⟩ => ⟨S1x1x512, .f32⟩
  | .local _ .vmem, ⟨16, _⟩ => ⟨S8x512, .f32⟩
  | .local _ .vmem, ⟨17, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c : Ref sig .tc := ⟨.hbm, 58, rfl⟩
abbrev main_v48 : Ref sig .tc := ⟨.hbm, 59, rfl⟩
abbrev main_v49 : Ref sig .tc := ⟨.hbm, 60, rfl⟩
abbrev main_c_0 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst : Ref sig .tc := ⟨.hbm, 65, rfl⟩
abbrev main_call0_v0 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_c_1 : Ref sig .tc := ⟨.hbm, 113, rfl⟩
abbrev main_v99 : Ref sig .tc := ⟨.hbm, 114, rfl⟩
abbrev main_v100 : Ref sig .tc := ⟨.hbm, 115, rfl⟩
abbrev main_c_2 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_3 : Ref sig .tc := ⟨.hbm, 120, rfl⟩
abbrev main_call1_v0 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113_0 : Ref sig .tc := ⟨.hbm, 131, rfl⟩
abbrev main_v113_1 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16384x512 : Shape := ⟨2, ![16384, 512]⟩
abbrev S1x4x512 : Shape := ⟨3, ![1, 4, 512]⟩
abbrev S1x512 : Shape := ⟨2, ![1, 512]⟩
abbrev S1x8x64x64 : Shape := ⟨4, ![1, 8, 64, 64]⟩
abbrev S8x2048x512 : Shape := ⟨3, ![8, 2048, 512]⟩
abbrev S_ : Shape := ⟨0, ![]⟩
abbrev S8x3x512 : Shape := ⟨3, ![8, 3, 512]⟩
abbrev S8x2051x512 : Shape := ⟨3, ![8, 2051, 512]⟩
abbrev S4x512 : Shape := ⟨2, ![4, 512]⟩
abbrev S512 : Shape := ⟨1, ![512]⟩
abbrev S1x1x512 : Shape := ⟨3, ![1, 1, 512]⟩
abbrev S8x2048x8x64 : Shape := ⟨4, ![8, 2048, 8, 64]⟩
abbrev S8x64x64 : Shape := ⟨3, ![8, 64, 64]⟩
abbrev S8x64x8x2048 : Shape := ⟨4, ![8, 64, 8, 2048]⟩
abbrev S8x512 : Shape := ⟨2, ![8, 512]⟩
abbrev S2048x8x512 : Shape := ⟨3, ![2048, 8, 512]⟩
abbrev S1x8x512 : Shape := ⟨3, ![1, 8, 512]⟩
abbrev S8x2048 : Shape := ⟨2, ![8, 2048]⟩
abbrev S8x2048x1 : Shape := ⟨3, ![8, 2048, 1]⟩
abbrev S8x1x512 : Shape := ⟨3, ![8, 1, 512]⟩

abbrev nBuf : Space → Nat
  | .hbm => 180
  | .vmem => 0
  | .smem => 0
  | _ => 0

abbrev hbmTy0_0 (i : Nat) : BufTy := match i % 128 with
  | 0 => ⟨S16384x512, .f32⟩
  | 1 => ⟨S16384x512, .f32⟩
  | 2 => ⟨S1x4x512, .f32⟩
  | 3 => ⟨S1x512, .f32⟩
  | 4 => ⟨S1x8x64x64, .f32⟩
  | 5 => ⟨S1x512, .f32⟩
  | 6 => ⟨S1x8x64x64, .f32⟩
  | 7 => ⟨S1x512, .f32⟩
  | 8 => ⟨S1x512, .f32⟩
  | 9 => ⟨S1x512, .f32⟩
  | 10 => ⟨S8x2048x512, .f32⟩
  | 11 => ⟨S_, .f32⟩
  | 12 => ⟨S8x3x512, .f32⟩
  | 13 => ⟨S8x2051x512, .f32⟩
  | 14 => ⟨S4x512, .f32⟩
  | 15 => ⟨S512, .f32⟩
  | 16 => ⟨S1x512, .f32⟩
  | 17 => ⟨S512, .f32⟩
  | 18 => ⟨S8x2048x512, .f32⟩
  | 19 => ⟨S1x1x512, .f32⟩
  | 20 => ⟨S8x2048x512, .f32⟩
  | 21 => ⟨S8x2048x512, .f32⟩
  | 22 => ⟨S1x1x512, .f32⟩
  | 23 => ⟨S8x2048x512, .f32⟩
  | 24 => ⟨S8x2048x512, .f32⟩
  | 25 => ⟨S1x512, .f32⟩
  | 26 => ⟨S512, .f32⟩
  | 27 => ⟨S8x2048x512, .f32⟩
  | 28 => ⟨S1x1x512, .f32⟩
  | 29 => ⟨S8x2048x512, .f32⟩
  | 30 => ⟨S8x2048x512, .f32⟩
  | 31 => ⟨S8x2048x512, .f32⟩
  | 32 => ⟨S1x512, .f32⟩
  | 33 => ⟨S512, .f32⟩
  | 34 => ⟨S8x2048x512, .f32⟩
  | 35 => ⟨S1x1x512, .f32⟩
  | 36 => ⟨S8x2048x512, .f32⟩
  | 37 => ⟨S8x2048x512, .f32⟩
  | 38 => ⟨S8x2048x512, .f32⟩
  | 39 => ⟨S1x512, .f32⟩
  | 40 => ⟨S512, .f32⟩
  | 41 => ⟨S8x2048x512, .f32⟩
  | 42 => ⟨S1x1x512, .f32⟩
  | 43 => ⟨S8x2048x512, .f32⟩
  | 44 => ⟨S8x2048x512, .f32⟩
  | 45 => ⟨S8x2048x512, .f32⟩
  | 46 => ⟨S8x2048x8x64, .f32⟩
  | 47 => ⟨S8x64x64, .f32⟩
  | 48 => ⟨S8x64x8x2048, .f32⟩
  | 49 => ⟨S8x2048x8x64, .f32⟩
  | 50 => ⟨S8x2048x512, .f32⟩
  | 51 => ⟨S512, .f32⟩
  | 52 => ⟨S1x1x512, .f32⟩
  | 53 => ⟨S8x2048x512, .f32⟩
  | 54 => ⟨S8x2048x512, .f32⟩
  | 55 => ⟨S8x2048x512, .f32⟩
  | 56 => ⟨S8x2048x512, .f32⟩
  | 57 => ⟨S_, .f32⟩
  | 58 => ⟨S8x2048x512, .f32⟩
  | 59 => ⟨S8x2048x512, .f32⟩
  | 60 => ⟨S_, .f32⟩
  | 61 => ⟨S8x2048x512, .f32⟩
  | 62 => ⟨S8x2048x512, .f32⟩
  | 63 => ⟨S8x64x64, .f32⟩
  | 64 => ⟨S8x64x8x2048, .f32⟩
  | 65 => ⟨S8x2048x8x64, .f32⟩
  | 66 => ⟨S8x2048x512, .f32⟩
  | 67 => ⟨S512, .f32⟩
  | 68 => ⟨S1x1x512, .f32⟩
  | 69 => ⟨S8x2048x512, .f32⟩
  | 70 => ⟨S8x2048x512, .f32⟩
  | 71 => ⟨S8x2048x512, .f32⟩
  | 72 => ⟨S8x2048x512, .f32⟩
  | 73 => ⟨S_, .f32⟩
  | 74 => ⟨S8x2048x512, .f32⟩
  | 75 => ⟨S8x2048x512, .f32⟩
  | 76 => ⟨S_, .f32⟩
  | 77 => ⟨S8x2048x512, .f32⟩
  | 78 => ⟨S8x2048x512, .f32⟩
  | 79 => ⟨S_, .f32⟩
  | 80 => ⟨S8x2048x512, .f32⟩
  | 81 => ⟨S8x2048x512, .f32⟩
  | 82 => ⟨S512, .f32⟩
  | 83 => ⟨S512, .f32⟩
  | 84 => ⟨S_, .f32⟩
  | 85 => ⟨S512, .f32⟩
  | 86 => ⟨S512, .f32⟩
  | 87 => ⟨S512, .f32⟩
  | 88 => ⟨S512, .f32⟩
  | 89 => ⟨S512, .i1⟩
  | 90 => ⟨S512, .f32⟩
  | 91 => ⟨S512, .f32⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S1x1x512, .f32⟩
  | 99 => ⟨S8x2048x512, .f32⟩
  | 100 => ⟨S8x2048x512, .f32⟩
  | 101 => ⟨S8x2048x512, .f32⟩
  | 102 => ⟨S_, .f32⟩
  | 103 => ⟨S8x2048x512, .f32⟩
  | 104 => ⟨S8x2048x512, .f32⟩
  | 105 => ⟨S8x2048x512, .f32⟩
  | 106 => ⟨S8x2048x512, .f32⟩
  | 107 => ⟨S8x2048x512, .f32⟩
  | 108 => ⟨S8x2048x512, .f32⟩
  | 109 => ⟨S8x2048x512, .f32⟩
  | 110 => ⟨S_, .f32⟩
  | 111 => ⟨S8x512, .f32⟩
  | 112 => ⟨S2048x8x512, .f32⟩
  | 113 => ⟨S2048x8x512, .f32⟩
  | 114 => ⟨S_, .f32⟩
  | 115 => ⟨S2048x8x512, .f32⟩
  | 116 => ⟨S_, .i32⟩
  | 117 => ⟨S2048x8x512, .f32⟩
  | 118 => ⟨S2048x8x512, .f32⟩
  | 119 => ⟨S_, .i32⟩
  | 120 => ⟨S8x512, .f32⟩
  | 121 => ⟨S2048x8x512, .f32⟩
  | 122 => ⟨S_, .i32⟩
  | 123 => ⟨S_, .i1⟩
  | 124 => ⟨S_, .i32⟩
  | 125 => ⟨S_, .i32⟩
  | 126 => ⟨S1x8x512, .f32⟩
  | 127 => ⟨S8x512, .f32⟩
  | _ => ⟨S16384x512, .f32⟩

abbrev hbmTy0_1 (i : Nat) : BufTy := match i % 128 with
  | 0 => ⟨S_, .i32⟩
  | 1 => ⟨S_, .i32⟩
  | 2 => ⟨S1x8x512, .f32⟩
  | 3 => ⟨S8x512, .f32⟩
  | 4 => ⟨S8x512, .f32⟩
  | 5 => ⟨S8x512, .f32⟩
  | 6 => ⟨S1x8x512, .f32⟩
  | 7 => ⟨S_, .i32⟩
  | 8 => ⟨S_, .i32⟩
  | 9 => ⟨S2048x8x512, .f32⟩
  | 10 => ⟨S_, .i32⟩
  | 11 => ⟨S_, .i32⟩
  | 12 => ⟨S8x2048x512, .f32⟩
  | 13 => ⟨S8x2048x512, .f32⟩
  | 14 => ⟨S8x2048x512, .f32⟩
  | 15 => ⟨S_, .f32⟩
  | 16 => ⟨S8x2048x512, .f32⟩
  | 17 => ⟨S8x2048x512, .f32⟩
  | 18 => ⟨S8x2048x512, .f32⟩
  | 19 => ⟨S_, .f32⟩
  | 20 => ⟨S8x2048x512, .f32⟩
  | 21 => ⟨S8x2048x512, .f32⟩
  | 22 => ⟨S8x2048x512, .f32⟩
  | 23 => ⟨S_, .f32⟩
  | 24 => ⟨S8x2048x512, .f32⟩
  | 25 => ⟨S8x2048x512, .f32⟩
  | 26 => ⟨S_, .f32⟩
  | 27 => ⟨S8x2048x512, .f32⟩
  | 28 => ⟨S8x2048x512, .f32⟩
  | 29 => ⟨S8x2048x512, .f32⟩
  | 30 => ⟨S8x2048x512, .f32⟩
  | 31 => ⟨S8x2048x512, .f32⟩
  | 32 => ⟨S8x2048x512, .f32⟩
  | 33 => ⟨S_, .f32⟩
  | 34 => ⟨S8x2048, .f32⟩
  | 35 => ⟨S8x2048x1, .f32⟩
  | 36 => ⟨S_, .f32⟩
  | 37 => ⟨S8x2048x1, .f32⟩
  | 38 => ⟨S8x2048x1, .f32⟩
  | 39 => ⟨S_, .f32⟩
  | 40 => ⟨S8x2048x1, .f32⟩
  | 41 => ⟨S8x2048x1, .f32⟩
  | 42 => ⟨S8x2048x1, .f32⟩
  | 43 => ⟨S8x2048x512, .f32⟩
  | 44 => ⟨S8x2048x512, .f32⟩
  | 45 => ⟨S512, .f32⟩
  | 46 => ⟨S1x1x512, .f32⟩
  | 47 => ⟨S8x2048x512, .f32⟩
  | 48 => ⟨S8x2048x512, .f32⟩
  | 49 => ⟨S16384x512, .f32⟩
  | 50 => ⟨S16384x512, .bf16⟩
  | 51 => ⟨S8x1x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_v46 : Ref sig .tc := ⟨.hbm, 58, rfl⟩
abbrev main_v47 : Ref sig .tc := ⟨.hbm, 59, rfl⟩
abbrev main_cst_1 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_2 : Ref sig .tc := ⟨.hbm, 73, rfl⟩
abbrev main_v60 : Ref sig .tc := ⟨.hbm, 74, rfl⟩
abbrev main_v61 : Ref sig .tc := ⟨.hbm, 75, rfl⟩
abbrev main_cst_3 : Ref sig .tc := ⟨.hbm, 76, rfl⟩
abbrev main_v62 : Ref sig .tc := ⟨.hbm, 77, rfl⟩
abbrev main_v63 : Ref sig .tc := ⟨.hbm, 78, rfl⟩
abbrev main_cst_4 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_5 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_6 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_7 : Ref sig .tc := ⟨.hbm, 114, rfl⟩
abbrev main_v83 : Ref sig .tc := ⟨.hbm, 115, rfl⟩
abbrev main_c : Ref sig .tc := ⟨.hbm, 116, rfl⟩
abbrev main_v84_0 : Ref sig .tc := ⟨.hbm, 117, rfl⟩
abbrev main_v84_1 : Ref sig .tc := ⟨.hbm, 118, rfl⟩
abbrev main_v84_2 : Ref sig .tc := ⟨.hbm, 119, rfl⟩
abbrev main_v84_3 : Ref sig .tc := ⟨.hbm, 120, rfl⟩
abbrev main_v84_4 : Ref sig .tc := ⟨.hbm, 121, rfl⟩
abbrev main_while0c_c_19 : Ref sig .tc := ⟨.hbm, 122, rfl⟩
abbrev main_while0c_v118 : Ref sig .tc := ⟨.hbm, 123, rfl⟩
abbrev main_while0b_call1_c : Ref sig .tc := ⟨.hbm, 124, rfl⟩
abbrev main_while0b_call1_c_0 : Ref sig .tc := ⟨.hbm, 125, rfl⟩
abbrev main_while0b_call1_v0 : Ref sig .tc := ⟨.hbm, 126, rfl⟩
abbrev main_while0b_v118 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_v0 : Ref sig .tc := ⟨.hbm, 130, rfl⟩
abbrev main_while0b_v119 : Ref sig .tc := ⟨.hbm, 131, rfl⟩
abbrev main_while0b_v120 : Ref sig .tc := ⟨.hbm, 132, rfl⟩
abbrev main_while0b_v121 : Ref sig .tc := ⟨.hbm, 133, rfl⟩
abbrev main_while0b_call3_v0 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_v122 : Ref sig .tc := ⟨.hbm, 137, rfl⟩
abbrev main_while0b_c_19 : Ref sig .tc := ⟨.hbm, 138, rfl⟩
abbrev main_while0b_v123 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_8 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_9 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_10 : Ref sig .tc := ⟨.hbm, 151, rfl⟩
abbrev main_v94 : Ref sig .tc := ⟨.hbm, 152, rfl⟩
abbrev main_v95 : Ref sig .tc := ⟨.hbm, 153, rfl⟩
abbrev main_cst_11 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_12 : Ref sig .tc := ⟨.hbm, 161, rfl⟩
abbrev main_v102 : Ref sig .tc := ⟨.hbm, 162, rfl⟩
abbrev main_v103 : Ref sig .tc := ⟨.hbm, 163, rfl⟩
abbrev main_cst_13 : Ref sig .tc := ⟨.hbm, 164, rfl⟩
abbrev main_v104 : Ref sig .tc := ⟨.hbm, 165, rfl⟩
abbrev main_v105 : Ref sig .tc := ⟨.hbm, 166, rfl⟩
abbrev main_cst_14 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16384x1024 : Shape := ⟨2, ![16384, 1024]⟩
abbrev S512x16384 : Shape := ⟨2, ![512, 16384]⟩
abbrev S16384x512 : Shape := ⟨2, ![16384, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512 : Shape := ⟨1, ![512]⟩
abbrev S512x1 : Shape := ⟨2, ![512, 1]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 21
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S512x16384, .f32⟩
  | .hbm, ⟨2, _⟩ => ⟨S16384x512, .bf16⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1024, .f32⟩
  | .hbm, ⟨9, _⟩ => ⟨S512, .f32⟩
  | .hbm, ⟨10, _⟩ => ⟨S512x1, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1, .f32⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
abbrev S16384x1024 : Shape := ⟨2, ![16384, 1024]⟩
abbrev S512x16384 : Shape := ⟨2, ![512, 16384]⟩
abbrev S16384x512 : Shape := ⟨2, ![16384, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512 : Shape := ⟨1, ![512]⟩
abbrev S512x1 : Shape := ⟨2, ![512, 1]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 21
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S512x16384, .f32⟩
  | .hbm, ⟨2, _⟩ => ⟨S16384x512, .bf16⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1024, .f32⟩
  | .hbm, ⟨9, _⟩ => ⟨S512, .f32⟩
  | .hbm, ⟨10, _⟩ => ⟨S512x1, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1, .f32⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S512x16384 : Shape := ⟨2, ![512, 16384]⟩
abbrev S16384x512 : Shape := ⟨2, ![16384, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512 : Shape := ⟨1, ![512]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1024x4096 : Shape := ⟨2, ![1024, 4096]⟩
abbrev S16384x4096 : Shape := ⟨2, ![16384, 4096]⟩
abbrev S4096x1024 : Shape := ⟨2, ![4096, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x16384, .f32⟩
  | .hbm, ⟨2, _⟩ => ⟨S16384x512, .bf16⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1024, .f32⟩
  | .hbm, ⟨9, _⟩ => ⟨S16384x512, .f32⟩
  | .hbm, ⟨10, _⟩ => ⟨S512, .f32⟩
  | .hbm, ⟨11, _⟩ => ⟨S16384x512, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x1024, .f32⟩
  | .hbm, ⟨29, _⟩ => ⟨S1024x1024, .f32⟩
  | .hbm, ⟨30, _⟩ => ⟨S16384x1024, .f32⟩
  | .hbm, ⟨31, _⟩ => ⟨S16384x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1024x4096, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S4096x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel3.lean ====
abbrev S512x1024 : Shape := ⟨2, ![512, 1024]⟩
abbrev S512x512 : Shape := ⟨2, ![512, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512 : Shape := ⟨1, ![512]⟩
abbrev S512x1 : Shape := ⟨2, ![512, 1]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 21
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .bf16⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1024, .f32⟩
  | .hbm, ⟨9, _⟩ => ⟨S512, .f32⟩
  | .hbm, ⟨10, _⟩ => ⟨S512x1, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S512x1024, .f32⟩
  | .local _ .vmem, ⟨0, _⟩ => ⟨S512x1024, .f32⟩
  | .local _ .vmem, ⟨1, _⟩ => ⟨S512x512, .f32⟩
  | .local _ .vmem, ⟨2, _⟩ => ⟨S512x512, .bf16⟩
  | .local _ .vmem, ⟨3, _⟩ => ⟨S512x1, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference3Ideal.lean ====
abbrev S512x1024 : Shape := ⟨2, ![512, 1024]⟩
abbrev S512x512 : Shape := ⟨2, ![512, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512 : Shape := ⟨1, ![512]⟩
abbrev S_ : Shape := ⟨0, ![]⟩
abbrev S512x1 : Shape := ⟨2, ![512, 1]⟩
abbrev S1024x1024 : Shape := ⟨2, ![1024, 1024]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 74
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .bf16⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024x4096, .f32⟩
  | .hbm, ⟨7, _⟩ => ⟨S1x4096x1024, .f32⟩
  | .hbm, ⟨8, _⟩ => ⟨S1024, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x1, .f32⟩
  | .hbm, ⟨22, _⟩ => ⟨S512x512, .f32⟩
  | .hbm, ⟨23, _⟩ => ⟨S512x512, .f32⟩
  | .hbm, ⟨24, _⟩ => ⟨S1x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x1024, .f32⟩
  | .hbm, ⟨29, _⟩ => ⟨S1024x1024, .f32⟩
  | .hbm, ⟨30, _⟩ => ⟨S512x1024, .f32⟩
  | .hbm, ⟨31, _⟩ => ⟨S512x1024, .f32⟩
  | .hbm, ⟨32, _⟩ => ⟨S1024, .f32⟩
  | .hbm, ⟨33, _⟩ => ⟨S512x1024, .f32⟩
  | .hbm, ⟨34, _⟩ => ⟨S_, .f32⟩
  | .hbm, ⟨35, _⟩ => ⟨S512, .f32⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S512x1, .f32⟩
  | .hbm, ⟨44, _⟩ => ⟨S512x1024, .f32⟩
  | .hbm, ⟨45, _⟩ => ⟨S512x1024, .f32⟩
  | .hbm, ⟨46, _⟩ => ⟨S1x1024, .f32⟩
  | .hbm, ⟨47, _⟩ => ⟨S512x1024, .f32⟩
  | .hbm, ⟨48, _⟩ => ⟨S512x1024, .f32⟩
  | .hbm, ⟨49, _⟩ => ⟨S1024x4096, .f32⟩
  | .hbm, ⟨50, _⟩ => ⟨S512x4096, .f32⟩
  | .hbm, ⟨51, _⟩ => ⟨S_, .f32⟩
  | .hbm, ⟨52, _⟩ => ⟨S512x4096, .f32⟩
  | .hbm, ⟨53, _⟩ => ⟨S512x4096, .f32⟩
  | .hbm, ⟨54, _⟩ => ⟨S512x4096, .f32⟩
  | .hbm, ⟨55, _⟩ => ⟨S4096x1024, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S_, .f32⟩
  | .hbm, ⟨60, _⟩ => ⟨S512, .f32⟩
  | .hbm, ⟨61, _⟩ => ⟨S512x1, .f32⟩
  | .hbm, ⟨62, _⟩ => ⟨S_, .f32⟩
  | .hbm, ⟨63, _⟩ => ⟨S512x1, .f32⟩
  | .hbm, ⟨64, _⟩ => ⟨S512x1, .f32⟩
  | .hbm, ⟨65, _⟩ => ⟨S_, .f32⟩
  | .hbm, ⟨66, _⟩ => ⟨S512x1, .f32⟩
  | .hbm, ⟨67, _⟩ => ⟨S512x1, .f32⟩
  | .hbm, ⟨68, _⟩ => ⟨S512x1, .f32⟩
  | .hbm, ⟨69, _⟩ => ⟨S512x1024, .f32⟩
  | .hbm, ⟨70, _⟩ => ⟨S512x1024, .f32⟩
  | .hbm, ⟨71, _⟩ => ⟨S1x1024, .f32⟩
  | .hbm, ⟨72, _⟩ => ⟨S512x1024, .f32⟩
  | .hbm, ⟨73, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel4.lean ====
abbrev S8x2048x1024 : Shape := ⟨3, ![8, 2048, 1024]⟩
abbrev S1x1024x2328 : Shape := ⟨3, ![1, 1024, 2328]⟩
abbrev S1x1024 : Shape := ⟨2, ![1, 1024]⟩
abbrev S1024x2328 : Shape := ⟨2, ![1024, 2328]⟩
abbrev S2328x1024 : Shape := ⟨2, ![2328, 1024]⟩
abbrev S512x1024 : Shape := ⟨2, ![512, 1024]⟩
abbrev S768x1024 : Shape := ⟨2, ![768, 1024]⟩
abbrev S24x1024 : Shape := ⟨2, ![24, 1024]⟩
abbrev S3x2x4x1024 : Shape := ⟨4, ![3, 2, 4, 1024]⟩
abbrev S2x3x4x1024 : Shape := ⟨4, ![2, 3, 4, 1024]⟩
abbrev S2x12x1024 : Shape := ⟨3, ![2, 12, 1024]⟩
abbrev S_ : Shape := ⟨0, ![]⟩
abbrev S2x16x1024 : Shape := ⟨3, ![2, 16, 1024]⟩
abbrev S32x1024 : Shape := ⟨2, ![32, 1024]⟩
abbrev S1024x1024 : Shape := ⟨2, ![1024, 1024]⟩
abbrev S1024 : Shape := ⟨1, ![1024]⟩
abbrev S16384x1024 : Shape := ⟨2, ![16384, 1024]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S8x2048 : Shape := ⟨2, ![8, 2048]⟩
abbrev S8x512x2048 : Shape := ⟨3, ![8, 512, 2048]⟩
abbrev S8x256x2048 : Shape := ⟨3, ![8, 256, 2048]⟩
abbrev S8x4x64x2048 : Shape := ⟨4, ![8, 4, 64, 2048]⟩
abbrev S8x4x128x2048 : Shape := ⟨4, ![8, 4, 128, 2048]⟩
abbrev S16384x512 : Shape := ⟨2, ![16384, 512]⟩
abbrev S8x32x2048 : Shape := ⟨3, ![8, 32, 2048]⟩
abbrev S8x512 : Shape := ⟨2, ![8, 512]⟩
abbrev S1x512x512 : Shape := ⟨3, ![1, 512, 512]⟩
abbrev S1x256x512 : Shape := ⟨3, ![1, 256, 512]⟩
abbrev S1x4x64x512 : Shape := ⟨4, ![1, 4, 64, 512]⟩
abbrev S1x4x128x512 : Shape := ⟨4, ![1, 4, 128, 512]⟩
abbrev S512x512 : Shape := ⟨2, ![512, 512]⟩
abbrev S1x32x512 : Shape := ⟨3, ![1, 32, 512]⟩
abbrev S512 : Shape := ⟨1, ![512]⟩
abbrev S512x1 : Shape := ⟨2, ![512, 1]⟩
abbrev S48x512 : Shape := ⟨2, ![48, 512]⟩
abbrev S768x512 : Shape := ⟨2, ![768, 512]⟩
abbrev S256x512 : Shape := ⟨2, ![256, 512]⟩
abbrev S1x8x512 : Shape := ⟨3, ![1, 8, 512]⟩
abbrev S64x512 : Shape := ⟨2, ![64, 512]⟩
abbrev S1x64x512 : Shape := ⟨3, ![1, 64, 512]⟩
abbrev S1x1x64x512 : Shape := ⟨4, ![1, 1, 64, 512]⟩
abbrev S32x512 : Shape := ⟨2, ![32, 512]⟩

abbrev nBuf : Space → Nat
  | .hbm => 48
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2328, .f32⟩
  | .hbm, ⟨2, _⟩ => ⟨S1x1024, .f32⟩
  | .hbm, ⟨3, _⟩ => ⟨S1024x2328, .f32⟩
  | .hbm, ⟨4, _⟩ => ⟨S2328x1024, .f32⟩
  | .hbm, ⟨5, _⟩ => ⟨S2328x1024, .bf16⟩
  | .hbm, ⟨6, _⟩ => ⟨S512x1024, .bf16⟩
  | .hbm, ⟨7, _⟩ => ⟨S768x1024, .bf16⟩
  | .hbm, ⟨8, _⟩ => ⟨S24x1024, .bf16⟩
  | .hbm, ⟨9, _⟩ => ⟨S3x2x4x1024, .bf16⟩
  | .hbm, ⟨10, _⟩ => ⟨S2x3x4x1024, .bf16⟩
  | .hbm, ⟨11, _⟩ => ⟨S2x12x1024, .bf16⟩
  | .hbm, ⟨12, _⟩ => ⟨S_, .i32⟩
  | .hbm, ⟨13, _⟩ => ⟨S_, .bf16⟩
  | .hbm, ⟨14, _⟩ => ⟨S2x16x1024, .bf16⟩
  | .hbm, ⟨15, _⟩ => ⟨S32x1024, .bf16⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S2048, .i32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S2048, .f32⟩
  | .hbm, ⟨30, _⟩ => ⟨S2048x1, .f32⟩
  | .hbm, ⟨31, _⟩ => ⟨S1x8, .f32⟩
  | .hbm, ⟨32, _⟩ => ⟨S2048x8, .f32⟩
  | .hbm, ⟨33, _⟩ => ⟨S2048x8, .f32⟩
  | .hbm, ⟨34, _⟩ => ⟨S2048x8, .f32⟩
  | .hbm, ⟨35, _⟩ => ⟨S2048x8, .f32⟩
  | .hbm, ⟨36, _⟩ => ⟨S8x2048, .f32⟩
  | .hbm, ⟨37, _⟩ => ⟨S2048x8, .f32⟩
  | .hbm, ⟨38, _⟩ => ⟨S8x2048, .f32⟩
  | .hbm, ⟨39, _⟩ => ⟨S8x512x2048, .bf16⟩
  | .hbm, ⟨40, _⟩ => ⟨S8x512x2048, .bf16⟩
  | .hbm, ⟨41, _⟩ => ⟨S8x512x2048, .f32⟩
  | .hbm, ⟨42, _⟩ => ⟨S8x256x2048, .f32⟩
  | .hbm, ⟨43, _⟩ => ⟨S8x4x64x2048, .bf16⟩
  | .hbm, ⟨44, _⟩ => ⟨S8x4x128x2048, .bf16⟩
  | .hbm, ⟨45, _⟩ => ⟨S16384x512, .f32⟩
  | .hbm, ⟨46, _⟩ => ⟨S16384x512, .f32⟩
  | .hbm, ⟨47, _⟩ => ⟨S8x32x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S768x1024, .bf16⟩
  | .local _ .vmem, ⟨5, _⟩ => ⟨S1024x1024, .bf16⟩
  | .local _ .vmem, ⟨6, _⟩ => ⟨S32x1024, .bf16⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .f32⟩
  | .local _ .vmem, ⟨16, _⟩ => ⟨S1x512x512, .f32⟩
  | .local _ .vmem, ⟨17, _⟩ => ⟨S1x256x512, .f32⟩
  | .local _ .vmem, ⟨18, _⟩ => ⟨S1x256x512, .f32⟩
  | .local _ .vmem, ⟨19, _⟩ => ⟨S1x4x64x512, .bf16⟩
  | .local _ .vmem, ⟨20, _⟩ => ⟨S1x4x64x512, .bf16⟩
  | .local _ .vmem, ⟨21, _⟩ => ⟨S1x4x128x512, .bf16⟩
  | .local _ .vmem, ⟨22, _⟩ => ⟨S1x4x128x512, .bf16⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S1x32x512, .f32⟩
  | .local _ .vmem, ⟨28, _⟩ => ⟨S1x32x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev main_v32_5 : Ref sig .tc := ⟨.hbm, 44, rfl⟩
abbrev main_v32_6 : Ref sig .tc := ⟨.hbm, 45, rfl⟩
abbrev main_v32_7 : Ref sig .tc := ⟨.hbm, 46, rfl⟩
abbrev main_v32_8 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S8x2048x1024 : Shape := ⟨3, ![8, 2048, 1024]⟩
abbrev S1x1024x2328 : Shape := ⟨3, ![1, 1024, 2328]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x2328 : Shape := ⟨2, ![1024, 2328]⟩
abbrev S8x2048x2328 : Shape := ⟨3, ![8, 2048, 2328]⟩
abbrev S8x2048x512 : Shape := ⟨3, ![8, 2048, 512]⟩
abbrev S8x2048x8x64 : Shape := ⟨4, ![8, 2048, 8, 64]⟩
abbrev S8x2048x128 : Shape := ⟨3, ![8, 2048, 128]⟩
abbrev S8x2048x2x64 : Shape := ⟨4, ![8, 2048, 2, 64]⟩
abbrev S8x2048x24 : Shape := ⟨3, ![8, 2048, 24]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x2x8 : Shape := ⟨4, ![8, 2048, 2, 8]⟩
abbrev S8x2048x2x48 : Shape := ⟨4, ![8, 2048, 2, 48]⟩
abbrev S1x2048x1x8 : Shape := ⟨4, ![1, 2048, 1, 8]⟩
abbrev S8x4x1x2048 : Shape := ⟨4, ![8, 4, 1, 2048]⟩
abbrev S8x4x63x2048 : Shape := ⟨4, ![8, 4, 63, 2048]⟩
abbrev S8x4x64x2048 : Shape := ⟨4, ![8, 4, 64, 2048]⟩
abbrev S8x2048x3x2x4 : Shape := ⟨5, ![8, 2048, 3, 2, 4]⟩
abbrev S8x2048x2x3x4 : Shape := ⟨5, ![8, 2048, 2, 3, 4]⟩
abbrev S8x2048x2x12 : Shape := ⟨4, ![8, 2048, 2, 12]⟩
abbrev S8x2048x2x16 : Shape := ⟨4, ![8, 2048, 2, 16]⟩
abbrev S8x512x2048 : Shape := ⟨3, ![8, 512, 2048]⟩
abbrev S8x2048x8x8 : Shape := ⟨4, ![8, 2048, 8, 8]⟩
abbrev S8x2048x8x48 : Shape := ⟨4, ![8, 2048, 8, 48]⟩
abbrev S8x2048x4x64 : Shape := ⟨4, ![8, 2048, 4, 64]⟩
abbrev S8x2048x256 : Shape := ⟨3, ![8, 2048, 256]⟩
abbrev S8x256x2048 : Shape := ⟨3, ![8, 256, 2048]⟩
abbrev S8x4x128x2048 : Shape := ⟨4, ![8, 4, 128, 2048]⟩
abbrev S16384x512 : Shape := ⟨2, ![16384, 512]⟩
abbrev S8x2048x32 : Shape := ⟨3, ![8, 2048, 32]⟩
abbrev S8x32x2048 : Shape := ⟨3, ![8, 32, 2048]⟩

abbrev nBuf : Space → Nat
  | .hbm => 198
  | .vmem => 0
  | .smem => 0
  | _ => 0

abbrev hbmTy0_0 (i : Nat) : BufTy := match i % 128 with
  | 0 => ⟨S8x2048x1024, .f32⟩
  | 1 => ⟨S1x1024x2328, .f32⟩
  | 2 => ⟨S1x1024, .f32⟩
  | 3 => ⟨S8x2048x1024, .f32⟩
  | 4 => ⟨S_, .f32⟩
  | 5 => ⟨S8x2048, .f32⟩
  | 6 => ⟨S8x2048x1, .f32⟩
  | 7 => ⟨S_, .f32⟩
  | 8 => ⟨S8x2048x1, .f32⟩
  | 9 => ⟨S8x2048x1, .f32⟩
  | 10 => ⟨S_, .f32⟩
  | 11 => ⟨S8x2048x1, .f32⟩
  | 12 => ⟨S8x2048x1, .f32⟩
  | 13 => ⟨S8x2048x1, .f32⟩
  | 14 => ⟨S8x2048x1024, .f32⟩
  | 15 => ⟨S8x2048x1024, .f32⟩
  | 16 => ⟨S1024, .f32⟩
  | 17 => ⟨S1x1x1024, .f32⟩
  | 18 => ⟨S8x2048x1024, .f32⟩
  | 19 => ⟨S8x2048x1024, .f32⟩
  | 20 => ⟨S1024x2328, .f32⟩
  | 21 => ⟨S8x2048x2328, .f32⟩
  | 22 => ⟨S8x2048x512, .f32⟩
  | 23 => ⟨S8x2048x8x64, .f32⟩
  | 24 => ⟨S8x2048x128, .f32⟩
  | 25 => ⟨S8x2048x2x64, .f32⟩
  | 26 => ⟨S8x2048x128, .f32⟩
  | 27 => ⟨S8x2048x2x64, .f32⟩
  | 28 => ⟨S8x2048x128, .f32⟩
  | 29 => ⟨S8x2048x2x64, .f32⟩
  | 30 => ⟨S8x2048x128, .f32⟩
  | 31 => ⟨S8x2048x2x64, .f32⟩
  | 32 => ⟨S8x2048x128, .f32⟩
  | 33 => ⟨S8x2048x2x64, .f32⟩
  | 34 => ⟨S8x2048x128, .f32⟩
  | 35 => ⟨S8x2048x2x64, .f32⟩
  | 36 => ⟨S8x2048x24, .f32⟩
  | 37 => ⟨S8x2048x512, .f32⟩
  | 38 => ⟨S8x2048x512, .f32⟩
  | 39 => ⟨S8, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S2048, .i32⟩
  | 48 => ⟨S2048, .f32⟩
  | 49 => ⟨S2048x1, .f32⟩
  | 50 => ⟨S1x8, .f32⟩
  | 51 => ⟨S2048x8, .f32⟩
  | 52 => ⟨S2048x8, .f32⟩
  | 53 => ⟨S2048x8, .f32⟩
  | 54 => ⟨S2048x8, .f32⟩
  | 55 => ⟨S2048x1x8, .f32⟩
  | 56 => ⟨S2048x8, .f32⟩
  | 57 => ⟨S2048x1x8, .f32⟩
  | 58 => ⟨S8x2048x2x8, .f32⟩
  | 59 => ⟨S8x2048x2x8, .f32⟩
  | 60 => ⟨S8x2048x2x48, .f32⟩
  | 61 => ⟨S1x2048x1x8, .f32⟩
  | 62 => ⟨S8x2048x2x8, .f32⟩
  | 63 => ⟨S8x2048x2x8, .f32⟩
  | 64 => ⟨S1x2048x1x8, .f32⟩
  | 65 => ⟨S8x2048x2x8, .f32⟩
  | 66 => ⟨S8x2048x2x8, .f32⟩
  | 67 => ⟨S8x2048x2x8, .f32⟩
  | 68 => ⟨S1x2048x1x8, .f32⟩
  | 69 => ⟨S8x2048x2x8, .f32⟩
  | 70 => ⟨S8x2048x2x8, .f32⟩
  | 71 => ⟨S1x2048x1x8, .f32⟩
  | 72 => ⟨S8x2048x2x8, .f32⟩
  | 73 => ⟨S8x2048x2x8, .f32⟩
  | 74 => ⟨S8x2048x2x8, .f32⟩
  | 75 => ⟨S8x2048x2x64, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S2048, .i32⟩
  | 85 => ⟨S2048, .f32⟩
  | 86 => ⟨S2048x1, .f32⟩
  | 87 => ⟨S1x8, .f32⟩
  | 88 => ⟨S2048x8, .f32⟩
  | 89 => ⟨S2048x8, .f32⟩
  | 90 => ⟨S2048x8, .f32⟩
  | 91 => ⟨S2048x8, .f32⟩
  | 92 => ⟨S2048x1x8, .f32⟩
  | 93 => ⟨S2048x8, .f32⟩
  | 94 => ⟨S2048x1x8, .f32⟩
  | 95 => ⟨S8x2048x2x8, .f32⟩
  | 96 => ⟨S8x2048x2x8, .f32⟩
  | 97 => ⟨S8x2048x2x48, .f32⟩
  | 98 => ⟨S1x2048x1x8, .f32⟩
  | 99 => ⟨S8x2048x2x8, .f32⟩
  | 100 => ⟨S8x2048x2x8, .f32⟩
  | 101 => ⟨S1x2048x1x8, .f32⟩
  | 102 => ⟨S8x2048x2x8, .f32⟩
  | 103 => ⟨S8x2048x2x8, .f32⟩
  | 104 => ⟨S8x2048x2x8, .f32⟩
  | 105 => ⟨S1x2048x1x8, .f32⟩
  | 106 => ⟨S8x2048x2x8, .f32⟩
  | 107 => ⟨S8x2048x2x8, .f32⟩
  | 108 => ⟨S1x2048x1x8, .f32⟩
  | 109 => ⟨S8x2048x2x8, .f32⟩
  | 110 => ⟨S8x2048x2x8, .f32⟩
  | 111 => ⟨S8x2048x2x8, .f32⟩
  | 112 => ⟨S8x2048x2x64, .f32⟩
  | 113 => ⟨S_, .bf16⟩
  | 114 => ⟨S8x4x1x2048, .bf16⟩
  | 115 => ⟨S_, .bf16⟩
  | 116 => ⟨S8x4x63x2048, .bf16⟩
  | 117 => ⟨S8x4x64x2048, .bf16⟩
  | 118 => ⟨S8x2048x3x2x4, .f32⟩
  | 119 => ⟨S8x2048x2x3x4, .f32⟩
  | 120 => ⟨S8x2048x2x12, .f32⟩
  | 121 => ⟨S_, .i32⟩
  | 122 => ⟨S_, .f32⟩
  | 123 => ⟨S8x2048x2x16, .f32⟩
  | 124 => ⟨S8x2048x2x16, .f32⟩
  | 125 => ⟨S8x2048x2x16, .f32⟩
  | 126 => ⟨S_, .f32⟩
  | 127 => ⟨S8x2048x2x16, .f32⟩
  | _ => ⟨S8x2048x1024, .f32⟩

abbrev hbmTy0_1 (i : Nat) : BufTy := match i % 128 with
  | 0 => ⟨S8x2048x2x16, .f32⟩
  | 1 => ⟨S_, .f32⟩
  | 2 => ⟨S8x2048x2x16, .f32⟩
  | 3 => ⟨S8x2048x2x16, .f32⟩
  | 4 => ⟨S8x2048x512, .f32⟩
  | 5 => ⟨S8x512x2048, .f32⟩
  | 6 => ⟨S_, .f32⟩
  | 7 => ⟨S8x512x2048, .f32⟩
  | 8 => ⟨S8x512x2048, .f32⟩
  | 9 => ⟨S8x512x2048, .bf16⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S2048, .i32⟩
  | 19 => ⟨S2048, .f32⟩
  | 20 => ⟨S2048x1, .f32⟩
  | 21 => ⟨S1x8, .f32⟩
  | 22 => ⟨S2048x8, .f32⟩
  | 23 => ⟨S2048x8, .f32⟩
  | 24 => ⟨S2048x8, .f32⟩
  | 25 => ⟨S2048x8, .f32⟩
  | 26 => ⟨S2048x1x8, .f32⟩
  | 27 => ⟨S2048x8, .f32⟩
  | 28 => ⟨S2048x1x8, .f32⟩
  | 29 => ⟨S8x2048x8x8, .f32⟩
  | 30 => ⟨S8x2048x8x8, .f32⟩
  | 31 => ⟨S8x2048x8x48, .f32⟩
  | 32 => ⟨S1x2048x1x8, .f32⟩
  | 33 => ⟨S8x2048x8x8, .f32⟩
  | 34 => ⟨S8x2048x8x8, .f32⟩
  | 35 => ⟨S1x2048x1x8, .f32⟩
  | 36 => ⟨S8x2048x8x8, .f32⟩
  | 37 => ⟨S8x2048x8x8, .f32⟩
  | 38 => ⟨S8x2048x8x8, .f32⟩
  | 39 => ⟨S1x2048x1x8, .f32⟩
  | 40 => ⟨S8x2048x8x8, .f32⟩
  | 41 => ⟨S8x2048x8x8, .f32⟩
  | 42 => ⟨S1x2048x1x8, .f32⟩
  | 43 => ⟨S8x2048x8x8, .f32⟩
  | 44 => ⟨S8x2048x8x8, .f32⟩
  | 45 => ⟨S8x2048x8x8, .f32⟩
  | 46 => ⟨S8x2048x8x64, .f32⟩
  | 47 => ⟨S8x2048x512, .f32⟩
  | 48 => ⟨S8x512x2048, .f32⟩
  | 49 => ⟨S_, .f32⟩
  | 50 => ⟨S8x512x2048, .f32⟩
  | 51 => ⟨S8x512x2048, .f32⟩
  | 52 => ⟨S8x512x2048, .bf16⟩
  | 53 => ⟨S8x2048x8x64, .f32⟩
  | 54 => ⟨S8x2048x512, .f32⟩
  | 55 => ⟨S8x512x2048, .f32⟩
  | 56 => ⟨S8x2048x4x64, .f32⟩
  | 57 => ⟨S8x2048x256, .f32⟩
  | 58 => ⟨S8x256x2048, .f32⟩
  | 59 => ⟨S8x2048x4x64, .f32⟩
  | 60 => ⟨S8x4x64x2048, .f32⟩
  | 61 => ⟨S8x4x64x2048, .bf16⟩
  | 62 => ⟨S8x2048x4x64, .f32⟩
  | 63 => ⟨S8x4x64x2048, .f32⟩
  | 64 => ⟨S8x4x64x2048, .bf16⟩
  | 65 => ⟨S8x4x128x2048, .bf16⟩
  | 66 => ⟨S16384x512, .f32⟩
  | 67 => ⟨S16384x512, .f32⟩
  | 68 => ⟨S8x2048x32, .f32⟩
  | 69 => ⟨S8x32x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_cst_6 : Ref sig .tc := ⟨.hbm, 113, rfl⟩
abbrev main_v103 : Ref sig .tc := ⟨.hbm, 114, rfl⟩
abbrev main_cst_7 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_c : Ref sig .tc := ⟨.hbm, 121, rfl⟩
abbrev main_call0_v0 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_cst_8 : Ref sig .tc := ⟨.hbm, 126, rfl⟩
abbrev main_v112 : Ref sig .tc := ⟨.hbm, 127, rfl⟩
abbrev main_v113 : Ref sig .tc := ⟨.hbm, 128, rfl⟩
abbrev main_cst_9 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_10 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_cst_11 : Ref sig .tc := ⟨.hbm, 140, rfl⟩
abbrev main_v123 : Ref sig .tc := ⟨.hbm, 141, rfl⟩
abbrev main_v124 : Ref sig .tc := ⟨.hbm, 142, rfl⟩
abbrev main_cst_12 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_cst_13 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩

abbrev nD : Nat := 1
abbrev τ : Topo := Topo.v7x

variable {F : FTy → Type} [FloatOps F]
-- ==== Proof.RefRun.lean ====
/-
  The reference's run, stated over one trip of its loop over time: at a valuation that holds a state, one trip of the
  printed loop leaves `step` of the state, so the results are read off state number 2048 of any sequence of states that
  starts at `init` and goes on by `step`. The trip's values (`b0` … `b13`), `init` and `step` are those of the generated
  module of the step.
-/
module

public import proofs.«01_k».proof.Proof.Gen.ReferenceIdeal.Run
public import proofs.«01_k».proof.Proof.Gen.ReferenceIdeal.Step

@[expose] public section

noncomputable section

namespace Cert.ReferenceIdeal.Iter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v84_3) = s.main_v84_3
  f_4 : V0 (Proc.devRef .tc main_v84_4) = s.main_v84_4
  f_0 : V0 (Proc.devRef .tc main_v84_0) = s.main_v84_0
  f_1 : V0 (Proc.devRef .tc main_v84_1) = s.main_v84_1
  n_2 : V0 (Proc.devRef .tc main_v84_2) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x512 (V0 (Proc.devRef .tc main_v84_0)) (fun k => (((![V0 (Proc.devRef .tc main_v84_2), constantI S_ 32 0#32, constantI S_ 32 0#32] : Fin 3 → (⟨S_, .i32⟩ : BufTy).Contents (Elt F))) k (Shape.Idx.first h_S_)).toInt) sliceFits_S2048x8x512_S1x8x512 : (Proc.devRef .tc main_while0b_call1_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S8x512 (Host.dynamicSlice S1x8x512 (V0 (Proc.devRef .tc main_v84_0)) (fun k => (((![V0 (Proc.devRef .tc main_v84_2), constantI S_ 32 0#32, constantI S_ 32 0#32] : Fin 3 → (⟨S_, .i32⟩ : BufTy).Contents (Elt F))) k (Shape.Idx.first h_S_)).toInt) sliceFits_S2048x8x512_S1x8x512) shapeCasts_S1x8x512_S8x512 : (Proc.devRef .tc main_while0b_v118 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call2_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call2_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x512 (V0 (Proc.devRef .tc main_v84_1)) (fun k => (((![V0 (Proc.devRef .tc main_v84_2), constantI S_ 32 0#32, constantI S_ 32 0#32] : Fin 3 → (⟨S_, .i32⟩ : BufTy).Contents (Elt F))) k (Shape.Idx.first h_S_)).toInt) sliceFits_S2048x8x512_S1x8x512 : (Proc.devRef .tc main_while0b_call2_v0 : DevRef τ sig).ty.Contents (Elt F)) = Cert.ReferenceIdeal.Step.b6 j s := by
  unfold Cert.ReferenceIdeal.Step.b6
  rw [← al_4 h, ← al_5 h, h.f_1, h.n_2]
  try rfl
set_option maxRecDepth 8192 in
theorem al_7 (h : Holds V0 s j) : (shapeCast S8x512 (Host.dynamicSlice S1x8x512 (V0 (Proc.devRef .tc main_v84_1)) (fun k => (((![V0 (Proc.devRef .tc main_v84_2), constantI S_ 32 0#32, constantI S_ 32 0#32] : Fin 3 → (⟨S_, .i32⟩ : BufTy).Contents (Elt F))) k (Shape.Idx.first h_S_)).toInt) sliceFits_S2048x8x512_S1x8x512) shapeCasts_S1x8x512_S8x512 : (Proc.devRef .tc main_while0b_v119 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (shapeCast S8x512 (Host.dynamicSlice S1x8x512 (V0 (Proc.devRef .tc main_v84_0)) (fun k => (((![V0 (Proc.devRef .tc main_v84_2), constantI S_ 32 0#32, constantI S_ 32 0#32] : Fin 3 → (⟨S_, .i32⟩ : BufTy).Contents (Elt F))) k (Shape.Idx.first h_S_)).toInt) sliceFits_S2048x8x512_S1x8x512) shapeCasts_S1x8x512_S8x512) (V0 (Proc.devRef .tc main_v84_3)) : (Proc.devRef .tc main_while0b_v120 : DevRef τ sig).ty.Contents (Elt F)) = Cert.ReferenceIdeal.Step.b8 j s := by
  unfold Cert.ReferenceIdeal.Step.b8
  rw [← al_3 h, h.f_3]
  try rfl
set_option maxRecDepth 8192 in
theorem al_9 (h : Holds V0 s j) : (res_main_while0b_v121 V0 : (Proc.devRef .tc main_while0b_v121 : DevRef τ sig).ty.Contents (Elt F)) = Cert.ReferenceIdeal.Step.b9 j s := by
  unfold res_main_while0b_v121 Cert.ReferenceIdeal.Step.b9
  rw [← al_8 h, ← al_7 h]
  try rfl
set_option maxRecDepth 8192 in
theorem al_10 (h : Holds V0 s j) : (broadcastInDim S1x8x512 ![1, 2] bcast_S8x512_S1x8x512_1_2 (res_main_while0b_v121 V0) : (Proc.devRef .tc main_while0b_call3_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call3_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call3_c_0 : DevRef τ sig).ty.Contents (Elt F)) = Cert.ReferenceIdeal.Step.b12 j s := by
  unfold Cert.ReferenceIdeal.Step.b12
  rfl
set_option maxRecDepth 8192 in
theorem al_13 (h : Holds V0 s j) : (Host.dynamicUpdateSlice (V0 (Proc.devRef .tc main_v84_4)) (broadcastInDim S1x8x512 ![1, 2] bcast_S8x512_S1x8x512_1_2 (res_main_while0b_v121 V0)) (fun k => (((![V0 (Proc.devRef .tc main_v84_2), constantI S_ 32 0#32, constantI S_ 32 0#32] : Fin 3 → (⟨S_, .i32⟩ : BufTy).Contents (Elt F))) k (Shape.Idx.first h_S_)).toInt) updateFits_S2048x8x512_S1x8x512 : (Proc.devRef .tc main_while0b_v122 : DevRef τ sig).ty.Contents (Elt F)) = Cert.ReferenceIdeal.Step.b13 j s := by
  unfold Cert.ReferenceIdeal.Step.b13
  rw [← al_10 h, ← al_11 h, ← al_12 h, h.f_4, h.n_2]
  try rfl

/-! One trip's step of the carried values is `step`, field by field; a counter steps to the next number. -/

theorem step_3 (h : Holds V0 s j) : step_main_v84_3 V0 = (step j s).main_v84_3 := by
  unfold step_main_v84_3 Cert.ReferenceIdeal.Step.step
  show id (res_main_while0b_v121 V0) = _
  rw [al_9 h]
  try rfl
theorem step_4 (h : Holds V0 s j) : step_main_v84_4 V0 = (step j s).main_v84_4 := by
  unfold step_main_v84_4 Cert.ReferenceIdeal.Step.step
  show id (Host.dynamicUpdateSlice (V0 (Proc.devRef .tc main_v84_4)) (broadcastInDim S1x8x512 ![1, 2] bcast_S8x512_S1x8x512_1_2 (res_main_while0b_v121 V0)) (fun k => (((![V0 (Proc.devRef .tc main_v84_2), constantI S_ 32 0#32, constantI S_ 32 0#32] : Fin 3 → (⟨S_, .i32⟩ : BufTy).Contents (Elt F))) k (Shape.Idx.first h_S_)).toInt) updateFits_S2048x8x512_S1x8x512) = _
  exact al_13 h
theorem step_2 (h : Holds V0 s j) : step_main_v84_2 V0 = constantI S_ 32 (BitVec.ofNat 32 (j + 1)) := by
  unfold step_main_v84_2
  rw [h.n_2]
  funext i
  show BitVec.ofNat 32 j + 1#32 = BitVec.ofNat 32 (j + 1)
  simp only [BitVec.ofNat_add]

set_option maxRecDepth 8192 in
theorem out_main_v116_holds (h : Holds V0 s j) {x_main_arg1 : (⟨S16384x512, .f32⟩ : BufTy).Contents (Elt F)} (h_main_arg1 : V0 (Proc.devRef .tc main_arg1) = x_main_arg1) {x_main_arg9 : (⟨S1x512, .f32⟩ : BufTy).Contents (Elt F)} (h_main_arg9 : V0 (Proc.devRef .tc main_arg9) = x_main_arg9) : out_main_v116 V0 = Cert.ReferenceIdeal.Step.R_main_v116 s x_main_arg1 x_main_arg9 := by
  unfold out_main_v116 Cert.ReferenceIdeal.Step.R_main_v116
  rw [h.f_4, h_main_arg1, h_main_arg9]
  try rfl

set_option maxRecDepth 8192 in
theorem out_main_v117_holds (h : Holds V0 s j) : out_main_v117 V0 = Cert.ReferenceIdeal.Step.R_main_v117 s := by
  unfold out_main_v117 Cert.ReferenceIdeal.Step.R_main_v117
  rw [h.f_3]
  try rfl

/-- One trip keeps the valuation holding: `step` of the state, the same set-up values, the next number. -/
theorem holds_step (h : Holds V0 s j) : Holds (STEP V0) (step j s) (j + 1) where
  f_3 := (STEP_main_v84_3 V0).trans (step_3 h)
  f_4 := (STEP_main_v84_4 V0).trans (step_4 h)
  n_2 := (STEP_main_v84_2 V0).trans (step_2 h)
  f_0 := (STEP_main_v84_0 V0).trans h.f_0
  f_1 := (STEP_main_v84_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v116) = Cert.ReferenceIdeal.Step.R_main_v116 (it c 2048) (m ((c.tc : Thread nD τ).loc main_arg1)) (m ((c.tc : Thread nD τ).loc main_arg9))
      ∧ r.2.mem ((c.tc : Thread nD τ).loc main_v117) = Cert.ReferenceIdeal.Step.R_main_v117 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 2048
    ⟨(h c).1.trans (out_main_v116_holds hk (iter_main_arg1 m c 2048) (iter_main_arg9 m c 2048)), (h c).2.1.trans (out_main_v117_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.ReferenceIdeal.Iter

end
-- ==== Proof.Block.lean ====
/-
  One point of the kernel's grid: what its stores leave in the two output blocks and the two scratches, as the named
  computations of the blocks it reads. The 64 tiles of eight rows, which the body writes out one after the other, are
  here one recursion.
-/
module

public import proofs.«01_k».proof.Proof.Gen.KernelIdeal.Frame
public import Idealize.ShloMosaic.Lib.Pointwise
public import Idealize.ShloMosaic.Lib.ValueIdx

@[expose] public section

set_option maxRecDepth 16384

noncomputable section

namespace Cert.Lru

open Idealize.ShloMosaic Cert.KernelIdeal Cert.KernelIdeal.Gen

variable {F : FTy → Type} [FloatOps F]

/-- The eight rows of tile `n`, of the composed coefficients `A`, `B` of its rows and the state before it. -/
def tile (A B : FVec F S64x8x512 .f32) (n : ℕ) (h : S64x8x512.Slices ![n, 0, 0] S1x8x512) (st : FVec F S1x512 .f32) : FVec F S8x512 .f32 :=
  addf (mulf (shapeCast S8x512 (extractStridedSlice S1x8x512 ![n, 0, 0] A h) shapeCasts_S1x8x512_S8x512)
      (broadcastTo S8x512 st broadcasts_S1x512_S8x512))
    (shapeCast S8x512 (extractStridedSlice S1x8x512 ![n, 0, 0] B h) shapeCasts_S1x8x512_S8x512)

/-- A tile's last row: the state after it. -/
def lastRow (x : FVec F S8x512 .f32) : FVec F S1x512 .f32 := extractStridedSlice S1x512 ![7, 0] x slices_S8x512_o7_0_S1x512

theorem slice_tile (n : ℕ) (hn : n < 64) : S64x8x512.Slices ![n, 0, 0] S1x8x512 :=
  ⟨rfl, fun a => by fin_cases a <;> simp [S64x8x512, S1x8x512] <;> omega⟩

/-- Tile `n` of the chunk, from the state before the chunk. -/
def tiles (A B : FVec F S64x8x512 .f32) (st : FVec F S1x512 .f32) : (n : ℕ) → n < 64 → FVec F S8x512 .f32
  | 0, h => tile A B 0 (slice_tile 0 h) st
  | n + 1, h => tile A B (n + 1) (slice_tile _ h) (lastRow (tiles A B st n (Nat.lt_of_succ_lt h)))

/-- The rows of a point's block, in eight-row positions. -/
abbrev sub : IVec S1x8x1 32 := iota .tc S1x8x1 32 [1] iota_S1x8x1_d1_w32

/-- The composed decay of every row within its tile, of the decays. -/
def cA (a : FVec F S512x512 .f32) : FVec F S64x8x512 .f32 := k0_pay18 sub (k0_pay13 a) (k0_pay14 a)
/-- The composed input of every row within its tile. -/
def cB (xc i a x em : FVec F S512x512 .f32) : FVec F S64x8x512 .f32 :=
  k0_pay17 sub (k0_pay13 a) (k0_pay14 a) (k0_pay15 xc i a x em)

theorem hz2 : (![0, 0] : Fin 2 → Nat) = fun _ => 0 := funext fun a => by fin_cases a <;> rfl
theorem hz3 : (![0, 0, 0] : Fin 3 → Nat) = fun _ => 0 := funext fun a => by fin_cases a <;> rfl

/-- Which list of shapes the 64 tiles are laid one below the other as. -/
theorem tiles_concat (f : Fin 64 → FVec F S8x512 .f32) :
    Shape.Concatenates ((List.ofFn fun n : Fin 64 => (⟨S8x512, f n⟩ : (s : Shape) × (s.Idx → F .f32))).map (·.1)) S512x512 0 := by
  rw [List.map_ofFn]
  exact concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S512x512_d0

/-- The chunk's 512 rows of states. -/
def rows (A B : FVec F S64x8x512 .f32) (st : FVec F S1x512 .f32) : FVec F S512x512 .f32 :=
  concatenate S512x512 0 (List.ofFn fun n : Fin 64 => (⟨S8x512, tiles A B st n.val n.isLt⟩ : (s : Shape) × (s.Idx → F .f32))) (tiles_concat _)

/-- The state after the chunk. -/
def endState (A B : FVec F S64x8x512 .f32) (st : FVec F S1x512 .f32) : FVec F S1x512 .f32 :=
  lastRow (tiles A B st 63 (by omega))

section Chunk
variable (x0 : Vec F S512x512 .f32) (x1 : Vec F S512x512 .f32) (x2 : Vec F S4x512 .f32) (x3 : Vec F S1x512 .f32) (x4 : Vec F S512x512 .bf16) (x5 : Vec F S512x512 .bf16) (x6 : Vec F S1x512 .f32) (x7 : Vec F S1x512 .f32) (x8 : Vec F S1x512 .f32) (x9 : Vec F S1x512 .f32) (xs0 : Vec F S8x512 .f32) (xs1 : Vec F S1x512 .f32)

/-- The composed decays of a point, of the blocks it reads. -/
def cAx : FVec F S64x8x512 .f32 := cA (k0_pay9 (k0_pay6 x0 xs0 x2 x3) x4 x6 x8)
/-- The composed inputs of a point, of the blocks it reads. -/
def cBx : FVec F S64x8x512 .f32 :=
  cB (k0_pay4 x0 xs0 x2 x3) (k0_pay7 (k0_pay6 x0 xs0 x2 x3) x5 x7) (k0_pay9 (k0_pay6 x0 xs0 x2 x3) x4 x6 x8)
    (k0_pay10 (k0_pay6 x0 xs0 x2 x3) x4 x6 x8) (k0_pay11 (k0_pay6 x0 xs0 x2 x3) x4 x6 x8)
/-- The 512 rows of states of a point. -/
def rowsx : FVec F S512x512 .f32 := rows (cAx x0 x2 x3 x4 x6 x8 xs0) (cBx x0 x2 x3 x4 x5 x6 x7 x8 xs0) xs1
/-- The state after a point. -/
def endx : FVec F S1x512 .f32 := endState (cAx x0 x2 x3 x4 x6 x8 xs0) (cBx x0 x2 x3 x4 x5 x6 x7 x8 xs0) xs1
/-- The block of results of a point. -/
def outx : FVec F S512x512 .bf16 :=
  k0_pay1 (k0_pay103 x9) (k0_pay104 (rowsx x0 x2 x3 x4 x5 x6 x7 x8 xs0 xs1) x1) (k0_pay105 (rowsx x0 x2 x3 x4 x5 x6 x7 x8 xs0 xs1) x1)
end Chunk

section Point
variable (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x1x512 .f32) (harg13 : arg13.IsWhole) (arg14 : Memref sig .tc .vmem S8x512 .f32) (harg14 : arg14.IsWhole) (arg15 : Memref sig .tc .vmem S1x512 .f32) (harg15 : arg15.IsWhole)
    (x0 : Vec F S512x512 .f32) (x1 : Vec F S512x512 .f32) (x2 : Vec F S4x512 .f32) (x3 : Vec F S1x512 .f32) (x4 : Vec F S512x512 .bf16) (x5 : Vec F S512x512 .bf16) (x6 : Vec F S1x512 .f32) (x7 : Vec F S1x512 .f32) (x8 : Vec F S1x512 .f32) (x9 : Vec F S1x512 .f32) (xs0 : Vec F S8x512 .f32) (xs1 : Vec F S1x512 .f32)

set_option maxHeartbeats 4000000 in
/-- At a later point of a sequence: the rows kept for the next point. -/
theorem sout0_B_0_eq (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = k0_pay5 x0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1)]
  unfold kernelRun0_B; dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x512) hz2, View.ld_unit_zero (S := S4x512) hz2, View.ld_unit_zero (S := S1x512) hz2, View.ld_unit_zero (S := S8x512) hz2]

set_option maxHeartbeats 4000000 in
/-- At a later point of a sequence: the state kept for the next point. -/
theorem sout0_B_1_eq (hc0 : ¬cond0_0 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = k0_pay101 (endx x0 x2 x3 x4 x5 x6 x7 x8 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1)]
  unfold kernelRun0_B; dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x512) hz2, View.ld_unit_zero (S := S4x512) hz2, View.ld_unit_zero (S := S1x512) hz2, View.ld_unit_zero (S := S8x512) hz2]
  rfl

set_option maxHeartbeats 4000000 in
/-- At a later point of a sequence: the state written out. -/
theorem out0_B_11_eq (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = k0_pay102 (endx x0 x2 x3 x4 x5 x6 x7 x8 xs0 xs1) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1)]
  unfold kernelRun0_B; dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x512) hz2, View.ld_unit_zero (S := S4x512) hz2, View.ld_unit_zero (S := S1x512) hz2, View.ld_unit_zero (S := S8x512) hz2]
  rfl

set_option maxHeartbeats 4000000 in
/-- At a later point of a sequence: the block of results. -/
theorem out0_B_10_eq (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = outx x0 x1 x2 x3 x4 x5 x6 x7 x8 x9 xs0 xs1 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1)]
  unfold kernelRun0_B; dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x512) hz2, View.ld_unit_zero (S := S4x512) hz2, View.ld_unit_zero (S := S1x512) hz2, View.ld_unit_zero (S := S8x512) hz2]
  rfl

set_option maxHeartbeats 4000000 in
/-- At a first point of a sequence: the rows kept for the next point. -/
theorem sout0_A_0_eq (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay5 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A; dsimp only
  sl_unfold_words
  rw [View.canon_cons_unit_zero (S := S8x512) hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x512) hz2, View.ld_unit_zero (S := S4x512) hz2, View.ld_unit_zero (S := S1x512) hz2, View.ld_unit_zero (S := S8x512) hz2, View.readCov_unit_zero (S := S8x512) _ hz2, View.readCov_unit_zero (S := S1x512) _ hz2]

set_option maxHeartbeats 4000000 in
/-- At a first point of a sequence: the state kept for the next point. -/
theorem sout0_A_1_eq (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay101 (endx x0 x2 x3 x4 x5 x6 x7 x8 k0_pay2 k0_pay3) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A; dsimp only
  sl_unfold_words
  rw [View.canon_cons_unit_zero (S := S1x512) hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x512) hz2, View.ld_unit_zero (S := S4x512) hz2, View.ld_unit_zero (S := S1x512) hz2, View.ld_unit_zero (S := S8x512) hz2, View.readCov_unit_zero (S := S8x512) _ hz2, View.readCov_unit_zero (S := S1x512) _ hz2]
  rfl

set_option maxHeartbeats 4000000 in
/-- At a first point of a sequence: the state written out. -/
theorem out0_A_11_eq (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay102 (endx x0 x2 x3 x4 x5 x6 x7 x8 k0_pay2 k0_pay3) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A; dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x512) hz2, View.ld_unit_zero (S := S4x512) hz2, View.ld_unit_zero (S := S1x512) hz2, View.ld_unit_zero (S := S8x512) hz2, View.readCov_unit_zero (S := S8x512) _ hz2, View.readCov_unit_zero (S := S1x512) _ hz2]
  rfl

set_option maxHeartbeats 4000000 in
/-- At a first point of a sequence: the block of results. -/
theorem out0_A_10_eq (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = outx x0 x1 x2 x3 x4 x5 x6 x7 x8 x9 k0_pay2 k0_pay3 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A; dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, View.ld_unit_zero (S := S512x512) hz2, View.ld_unit_zero (S := S4x512) hz2, View.ld_unit_zero (S := S1x512) hz2, View.ld_unit_zero (S := S8x512) hz2, View.readCov_unit_zero (S := S8x512) _ hz2, View.readCov_unit_zero (S := S1x512) _ hz2]
  rfl

end Point

end Cert.Lru

end
-- ==== Proof.Scalar.lean ====
/-
  The facts about extended reals that the recurrence's equation rests on: that the logistic function lies in [0, 1], that
  the decay is a real number in (0, 1], that the kernel's form of `exp x - 1` is `exp x - 1` there, and that a run of
  eight steps of the recurrence is the kernel's three doublings.
-/
module

public import Idealize.ShloMosaic.PureOps.Ideal
public import Idealize.ShloMosaic.Lib.Pointwise

@[expose] public section

noncomputable section

namespace Cert.Lru

open Idealize.ShloMosaic

theorem exp_bot : Ideal.exp ⊥ = 0 := rfl
theorem exp_top : Ideal.exp ⊤ = ⊤ := rfl
theorem exp_coe (x : ℝ) : Ideal.exp (x : EReal) = ((Real.exp x : ℝ) : EReal) := rfl

/-- The logistic function of an extended real is a real number between zero and one. -/
theorem logistic_real (x : EReal) : ∃ r : ℝ, 0 ≤ r ∧ r ≤ 1 ∧ Ideal.logistic x = (r : EReal) := by
  induction x using EReal.rec with
  | bot => exact ⟨0, le_rfl, zero_le_one, by
      have h : (1 : EReal) + ⊤ = ⊤ := rfl
      simp [Ideal.logistic, Ideal.div, exp_top, h]⟩
  | top => exact ⟨1, zero_le_one, le_rfl, by simp [Ideal.logistic, Ideal.div, exp_bot]⟩
  | coe x =>
    have hp : 0 < 1 + Real.exp (-x) := by positivity
    refine ⟨(1 + Real.exp (-x))⁻¹, by positivity, inv_le_one_of_one_le₀ (by linarith [Real.exp_pos (-x)]), ?_⟩
    have h1 : (1 : EReal) + ((Real.exp (-x) : ℝ) : EReal) = ((1 + Real.exp (-x) : ℝ) : EReal) := by norm_cast
    have h0 : ((1 + Real.exp (-x) : ℝ) : EReal) ≠ 0 := by exact_mod_cast hp.ne'
    rw [Ideal.logistic, ← EReal.coe_neg, exp_coe, h1, Ideal.div]
    rw [if_neg h0, one_mul, ← EReal.coe_inv]

/-- The rounding-free softplus as both programs write it, of minus the parameter. -/
def softplus (l : EReal) : EReal := max (-l) 0 + Ideal.log1p (Ideal.exp (-(max (-l) (- -l))))

/-- At a parameter that is not negative the softplus is a real number between zero and log 2. -/
theorem softplus_real (l : EReal) (hl : 0 ≤ l) : ∃ s : ℝ, 0 ≤ s ∧ s ≤ Real.log 2 ∧ softplus l = (s : EReal) := by
  have hlog2 : 0 ≤ Real.log 2 := Real.log_nonneg one_le_two
  induction l using EReal.rec with
  | bot => simp at hl
  | top =>
    refine ⟨0, le_rfl, hlog2, ?_⟩
    have h1 : Ideal.log 1 = 0 := by
      show (if (1 : ℝ) ≤ 0 then (⊥ : EReal) else ((Real.log 1 : ℝ) : EReal)) = 0
      simp
    simp [softplus, Ideal.log1p, exp_bot, h1]
  | coe l =>
    have hl' : 0 ≤ l := by exact_mod_cast hl
    have he : Real.exp (-l) ≤ 1 := Real.exp_le_one_iff.2 (by linarith)
    have hp : 0 < 1 + Real.exp (-l) := by positivity
    refine ⟨Real.log (1 + Real.exp (-l)), Real.log_nonneg (by linarith [Real.exp_pos (-l)]), Real.log_le_log hp (by linarith), ?_⟩
    have h1 : (1 : EReal) + ((Real.exp (-l) : ℝ) : EReal) = ((1 + Real.exp (-l) : ℝ) : EReal) := by norm_cast
    have hm : max (-(l : EReal)) 0 = 0 := max_eq_right (by rw [← EReal.coe_neg]; exact_mod_cast (by linarith : -l ≤ 0))
    have hm2 : max (-(l : EReal)) (- -(l : EReal)) = (l : EReal) := by
      rw [neg_neg]; exact max_eq_right (by rw [← EReal.coe_neg]; exact_mod_cast (by linarith : -l ≤ l))
    rw [softplus, hm, hm2, zero_add, Ideal.log1p, ← EReal.coe_neg]
    show Ideal.log (1 + ((Real.exp (-l) : ℝ) : EReal)) = _
    rw [h1]
    show (if 1 + Real.exp (-l) ≤ 0 then (⊥ : EReal) else _) = _
    rw [if_neg (not_le.2 hp)]

/-- The logarithm of the decay, -8 · r · softplus(-lam). -/
def logDecay (r sp : EReal) : EReal := ((-8 : ℝ) : EReal) * r * sp

/-- The logarithm of the decay is a real number between -15 and 0. -/
theorem logDecay_real (x l : EReal) (hl : 0 ≤ l) :
    ∃ q : ℝ, -15 ≤ q ∧ q ≤ 0 ∧ -30 ≤ 2 * q ∧ logDecay (Ideal.logistic x) (softplus l) = (q : EReal) := by
  obtain ⟨r, hr0, hr1, hr⟩ := logistic_real x
  obtain ⟨s, hs0, hs1, hs⟩ := softplus_real l hl
  have h2 : Real.log 2 ≤ 1 := by have := Real.log_le_sub_one_of_pos (x := 2) two_pos; linarith
  have hrs : r * s ≤ 1 := by nlinarith
  have hrs0 : 0 ≤ r * s := mul_nonneg hr0 hs0
  refine ⟨-8 * r * s, by nlinarith, by nlinarith, by nlinarith, ?_⟩
  rw [logDecay, hr, hs, ← EReal.coe_mul, ← EReal.coe_mul]

/-- The kernel's `exp x - 1` from `u = exp x`, less its floor: equal to `exp x - 1` at every real `x`. -/
theorem near_eq (q : ℝ) :
    (if Ideal.exp (q : EReal) * Ideal.exp (q : EReal) = 1 then ((2 : ℝ) : EReal) * (q : EReal)
      else Ideal.div ((Ideal.exp (q : EReal) * Ideal.exp (q : EReal) - 1) * (((2 : ℝ) : EReal) * (q : EReal)))
        (Ideal.log (Ideal.exp (q : EReal) * Ideal.exp (q : EReal))))
      = Ideal.exp (((2 : ℝ) : EReal) * (q : EReal)) - 1 := by
  have hx : ((2 : ℝ) : EReal) * (q : EReal) = ((2 * q : ℝ) : EReal) := (EReal.coe_mul _ _).symm
  have hu : Ideal.exp (q : EReal) * Ideal.exp (q : EReal) = ((Real.exp (2 * q) : ℝ) : EReal) := by
    show ((Real.exp q : ℝ) : EReal) * ((Real.exp q : ℝ) : EReal) = _
    rw [← EReal.coe_mul, ← Real.exp_add]; ring_nf
  have he : Ideal.exp ((2 * q : ℝ) : EReal) = ((Real.exp (2 * q) : ℝ) : EReal) := rfl
  have hlog : Ideal.log ((Real.exp (2 * q) : ℝ) : EReal) = ((2 * q : ℝ) : EReal) := by
    show (if Real.exp (2 * q) ≤ 0 then (⊥ : EReal) else _) = _
    rw [if_neg (not_le.2 (Real.exp_pos _)), Real.log_exp]
  rw [hu, hx, he, hlog]
  have hs : ((Real.exp (2 * q) : ℝ) : EReal) - 1 = ((Real.exp (2 * q) - 1 : ℝ) : EReal) := by norm_cast
  rw [hs]
  by_cases h : Real.exp (2 * q) = 1
  · have hq : 2 * q = 0 := by simpa using h
    rw [if_pos (by exact_mod_cast h), h, hq]; simp
  · have hq : (2 * q) ≠ 0 := fun h0 => h (by rw [h0, Real.exp_zero])
    rw [if_neg (by exact_mod_cast h), Ideal.div, if_neg (by exact_mod_cast hq), ← EReal.coe_mul, ← EReal.coe_inv, ← EReal.coe_mul]
    congr 1; exact mul_inv_cancel_right₀ hq _

/-- A real factor that is not negative distributes over every sum of extended reals. -/
theorem coe_mul_add (a : ℝ) (ha : 0 ≤ a) (x y : EReal) : (a : EReal) * (x + y) = a * x + a * y :=
  EReal.left_distrib_of_nonneg_of_ne_top (by exact_mod_cast ha) (EReal.coe_ne_top a) x y

/-- A run of the recurrence `h ↦ a n * h + b n`. -/
def run (a b : ℕ → EReal) (h : EReal) : ℕ → EReal
  | 0 => h
  | n + 1 => a n * run a b h n + b n

/-- The doublings over eight rows: after a shift by `s`, the coefficients of a row composed with those of the row `s` above. -/
def dblA (s : ℕ) (A : ℕ → EReal) (n : ℕ) : EReal := A n * (if s ≤ n then A (n - s) else 1)
def dblB (s : ℕ) (A B : ℕ → EReal) (n : ℕ) : EReal := A n * (if s ≤ n then B (n - s) else 0) + B n

def A1 (a : ℕ → EReal) := dblA 1 a
def A2 (a : ℕ → EReal) := dblA 2 (A1 a)
def A4 (a : ℕ → EReal) := dblA 4 (A2 a)
def B1 (a b : ℕ → EReal) := dblB 1 a b
def B2 (a b : ℕ → EReal) := dblB 2 (A1 a) (B1 a b)
def B4 (a b : ℕ → EReal) := dblB 4 (A2 a) (B2 a b)

/-- The three doublings applied to a state are the eight steps of the recurrence from it, row by row. -/
theorem doublings (a b : ℕ → EReal) (ha : ∀ n, n < 8 → ∃ r : ℝ, 0 ≤ r ∧ a n = r) (h : EReal) (n : ℕ) (hn : n < 8) :
    A4 a n * h + B4 a b n = run a b h (n + 1) := by
  have hd : ∀ k, k < 8 → ∀ x y, a k * (x + y) = a k * x + a k * y := fun k hk x y => by
    obtain ⟨r, hr, e⟩ := ha k hk
    rw [e, coe_mul_add r hr]
  interval_cases n <;>
    simp [A4, A2, A1, B4, B2, B1, dblA, dblB, run, hd, mul_assoc, add_assoc]

/-- A run goes on from where a shorter run stopped. -/
theorem run_add (a b : ℕ → EReal) (h : EReal) (m n : ℕ) :
    run a b h (m + n) = run (fun k => a (m + k)) (fun k => b (m + k)) (run a b h m) n := by
  induction n with
  | zero => rfl
  | succ n ih => rw [← add_assoc, run, run, ih]

/-- Runs of equal coefficients are equal. -/
theorem run_congr {a b a' b' : ℕ → EReal} {h : EReal} (n : ℕ) (ha : ∀ k, k < n → a k = a' k) (hb : ∀ k, k < n → b k = b' k) :
    run a b h n = run a' b' h n := by
  induction n with
  | zero => rfl
  | succ n ih =>
    rw [run, run, ih (fun k hk => ha k (by omega)) (fun k hk => hb k (by omega)), ha n (by omega), hb n (by omega)]

end Cert.Lru

end
-- ==== Proof.Spec.lean ====
/-
  The layer's recurrence in plain arithmetic, for one sequence of rows: the causal convolution, the two gates, the decay
  and the input of every row, the state after `t` rows, and the row of results.
-/
module

public import proofs.«01_k».proof.Proof.Scalar

@[expose] public section

noncomputable section

namespace Cert.Lru

open Idealize.ShloMosaic

/-- The layer's parameters. -/
structure Params where
  cw : Fin 4 → Fin 512 → EReal
  cb : Fin 512 → EReal
  wr : Fin 8 → Fin 64 → Fin 64 → EReal
  wi : Fin 8 → Fin 64 → Fin 64 → EReal
  br : Fin 512 → EReal
  bi : Fin 512 → EReal
  lam : Fin 512 → EReal
  g : Fin 512 → EReal

/-- The entry `s` rows before row `t`, zero before the sequence's first row. -/
def past (x : ℕ → Fin 512 → EReal) (s t : ℕ) (d : Fin 512) : EReal := if t < s then 0 else x (t - s) d

/-- The convolution over the four last rows. -/
def conv (P : Params) (x : ℕ → Fin 512 → EReal) (t : ℕ) (d : Fin 512) : EReal :=
  P.cb d + P.cw 0 d * past x 3 t d + P.cw 1 d * past x 2 t d + P.cw 2 d * past x 1 t d + P.cw 3 d * x t d

/-- The block of 64 columns that a column lies in, the column's place there, and the column at a place of a block. -/
def blk (d : Fin 512) : Fin 8 := ⟨d.val / 64, by omega⟩
def place (d : Fin 512) : Fin 64 := ⟨d.val % 64, by omega⟩
def colOf (b : Fin 8) (k : Fin 64) : Fin 512 := ⟨64 * b.val + k.val, by omega⟩

/-- A gate: the logistic function of a row's block times the block's weights, plus a bias. -/
def gate (w : Fin 8 → Fin 64 → Fin 64 → EReal) (b : Fin 512 → EReal) (xc : Fin 512 → EReal) (d : Fin 512) : EReal :=
  Ideal.logistic (∑ k : Fin 64, xc (colOf (blk d) k) * w (blk d) k (place d) + b d)

/-- The logarithm of the decay of a row. -/
def lg (P : Params) (x : ℕ → Fin 512 → EReal) (t : ℕ) (d : Fin 512) : EReal :=
  logDecay (gate P.wr P.br (conv P x t) d) (softplus (P.lam d))
/-- The decay of a row. -/
def aS (P : Params) (x : ℕ → Fin 512 → EReal) (t : ℕ) (d : Fin 512) : EReal := Ideal.exp (lg P x t d)
/-- The input of a row. -/
def bS (P : Params) (x : ℕ → Fin 512 → EReal) (t : ℕ) (d : Fin 512) : EReal :=
  Ideal.sqrt (-(Ideal.exp (((2 : ℝ) : EReal) * lg P x t d) - 1)) * (gate P.wi P.bi (conv P x t) d * conv P x t d)

/-- The state after the first `t` rows. -/
def hS (P : Params) (x : ℕ → Fin 512 → EReal) (t : ℕ) (d : Fin 512) : EReal :=
  run (fun n => aS P x n d) (fun n => bS P x n d) 0 t

/-- The gelu with the hyperbolic tangent, its constants the programs' own. -/
def gelu (u : EReal) : EReal :=
  u * (Ideal.ofBits .f32 0x3F000000#32 * (1 + Ideal.tanh (Ideal.ofBits .f32 0x3F4C422A#32 * (u + Ideal.ofBits .f32 0x3D372713#32 * (u * u * u)))))

/-- A row of results: the gated states over the root of their mean square, times the norm's weights. -/
def outS (P : Params) (u h : Fin 512 → EReal) (d : Fin 512) : EReal :=
  gelu (u d) * h d * Ideal.rsqrt (Ideal.div (∑ k : Fin 512, gelu (u k) * h k * (gelu (u k) * h k)) (Ideal.ofBits .f32 0x44000000#32)
    + Ideal.ofBits .f32 0x358637BD#32) * P.g d

/-- The decay of a row is a real number that is not negative, where the parameter is not negative. -/
theorem aS_real (P : Params) (hP : ∀ d, 0 ≤ P.lam d) (x : ℕ → Fin 512 → EReal) (t : ℕ) (d : Fin 512) :
    ∃ r : ℝ, 0 ≤ r ∧ aS P x t d = r := by
  obtain ⟨q, -, -, -, hq⟩ := logDecay_real (∑ k : Fin 64, conv P x t (colOf (blk d) k) * P.wr (blk d) k (place d) + P.br d) (P.lam d) (hP d)
  exact ⟨Real.exp q, (Real.exp_pos q).le, by rw [aS, lg, gate, hq, exp_coe]⟩

end Cert.Lru

end
-- ==== Proof.Coef.lean ====
/-
  One point's coefficients at an index: when the blocks it reads are rows of a sequence and the parameters, its convolution,
  gates, decays and inputs are those of the plain recurrence.
-/
module

public import proofs.«01_k».proof.Proof.Block
public import proofs.«01_k».proof.Proof.Spec

@[expose] public section

set_option maxRecDepth 16384

noncomputable section

namespace Cert.Lru

open Idealize.ShloMosaic Cert.KernelIdeal Cert.KernelIdeal.Gen

/-- A sum over the 512 columns against a block-diagonal column is the sum over the column's own block. -/
theorem sum_block (f : Fin 512 → EReal) (w : Fin 8 → Fin 64 → Fin 64 → EReal) (d : Fin 512) :
    ∑ k : Fin 512, f k * (if blk k = blk d then w (blk d) (place k) (place d) else 0)
      = ∑ k : Fin 64, f (colOf (blk d) k) * w (blk d) k (place d) := by
  let e : Fin 8 × Fin 64 ≃ Fin 512 := finProdFinEquiv
  have he : ∀ p : Fin 8 × Fin 64, e p = colOf p.1 p.2 := fun p => Fin.ext (by simp [e, colOf, finProdFinEquiv]; omega)
  have hb : ∀ p : Fin 8 × Fin 64, blk (e p) = p.1 := fun p => Fin.ext (by rw [he]; simp [blk, colOf]; omega)
  have hp : ∀ p : Fin 8 × Fin 64, place (e p) = p.2 := fun p => Fin.ext (by rw [he]; simp [place, colOf])
  rw [← e.sum_comp, Fintype.sum_prod_type, Finset.sum_eq_single (blk d)]
  · refine Finset.sum_congr rfl fun k _ => ?_
    rw [hb, hp, he, if_pos rfl]
  · intro b _ h
    refine Finset.sum_eq_zero fun k _ => ?_
    rw [hb, if_neg h, mul_zero]
  · intro h; exact absurd (Finset.mem_univ _) h

/-- What a point reads, as rows from `c0` on of the sequence `X` and as the parameters. -/
structure Reads (P : Params) (X : ℕ → Fin 512 → EReal) (c0 : ℕ) (x0 : Vec Ideal S512x512 .f32) (x2 : Vec Ideal S4x512 .f32)
    (x3 : Vec Ideal S1x512 .f32) (x4 x5 : Vec Ideal S512x512 .bf16) (x6 x7 x8 : Vec Ideal S1x512 .f32) (xs0 : Vec Ideal S8x512 .f32) : Prop where
  lam0 : ∀ d, 0 ≤ P.lam d
  hx0 : ∀ t d : Fin 512, x0 (ix2 t d) = X (c0 + t) d
  hx2 : ∀ k d, x2 (ix2 k d) = P.cw k d
  hx3 : ∀ d, x3 (ix2 0 d) = P.cb d
  hx4 : ∀ k d, x4 (ix2 k d) = if blk k = blk d then P.wr (blk d) (place k) (place d) else 0
  hx5 : ∀ k d, x5 (ix2 k d) = if blk k = blk d then P.wi (blk d) (place k) (place d) else 0
  hx6 : ∀ d, x6 (ix2 0 d) = P.br d
  hx7 : ∀ d, x7 (ix2 0 d) = P.bi d
  hx8 : ∀ d, x8 (ix2 0 d) = P.lam d
  hs0 : ∀ s d, xs0 (ix2 s d) = if c0 + s.val < 8 then 0 else X (c0 + s - 8) d

variable {P : Params} {X : ℕ → Fin 512 → EReal} {c0 : ℕ} {x0 : Vec Ideal S512x512 .f32} {x2 : Vec Ideal S4x512 .f32}
    {x3 : Vec Ideal S1x512 .f32} {x4 x5 : Vec Ideal S512x512 .bf16} {x6 x7 x8 : Vec Ideal S1x512 .f32} {xs0 : Vec Ideal S8x512 .f32}

/-- The rows before a point's block and the block's rows, read at a row and a shift up to three. -/
theorem ext_at (R : Reads P X c0 x0 x2 x3 x4 x5 x6 x7 x8 xs0) (t d : Fin 512) (s : ℕ) (hs : s ≤ 3) (h1 : ∀ h : (8 + t.val + 520 - s) % 520 < 8, (8 + t.val + 520 - s) % 520 < 8)
    (h2 : ¬ (8 + t.val + 520 - s) % 520 < 8 → (8 + t.val + 520 - s) % 520 - 8 < 512) :
    (if h : (8 + t.val + 520 - s) % 520 < 8 then xs0 (ix2 ⟨(8 + t.val + 520 - s) % 520, h1 h⟩ d)
      else x0 (ix2 ⟨(8 + t.val + 520 - s) % 520 - 8, h2 h⟩ d)) = past X s (c0 + t.val) d := by
  have ht := t.isLt
  have e : (8 + t.val + 520 - s) % 520 = 8 + t.val - s := by omega
  simp only [e]
  unfold past
  split
  · rename_i h
    rw [R.hs0]
    have : c0 + (8 + t.val - s) < 8 ↔ c0 + t.val < s := by omega
    simp only [this]
    have : c0 + (8 + t.val - s) - 8 = c0 + t.val - s := by omega
    rw [this]
  · rename_i h
    rw [R.hx0, if_neg (by omega)]
    congr 1; simp only; omega

/-- The convolution of a point. -/
theorem conv_at (R : Reads P X c0 x0 x2 x3 x4 x5 x6 x7 x8 xs0) (t d : Fin 512) :
    k0_pay4 (F := Ideal) x0 xs0 x2 x3 (ix2 t d) = conv P X (c0 + t) d := by
  pointwise [k0_pay4]
  rw [ext_at R t d 3 (by omega), ext_at R t d 2 (by omega), ext_at R t d 1 (by omega)]
  simp only [R.hx2, R.hx3, R.hx0, conv]

theorem conv16_at (R : Reads P X c0 x0 x2 x3 x4 x5 x6 x7 x8 xs0) (t d : Fin 512) :
    k0_pay6 (F := Ideal) x0 xs0 x2 x3 (ix2 t d) = conv P X (c0 + t) d := conv_at R t d

/-- The input gate of a point. -/
theorem gate_at (R : Reads P X c0 x0 x2 x3 x4 x5 x6 x7 x8 xs0) (t d : Fin 512) :
    k0_pay7 (F := Ideal) (k0_pay6 x0 xs0 x2 x3) x5 x7 (ix2 t d) = gate P.wi P.bi (conv P X (c0 + t)) d := by
  have hc := conv16_at R t
  generalize k0_pay6 (F := Ideal) x0 xs0 x2 x3 = v at *
  pointwise [k0_pay7]
  simp only [hc, R.hx5, R.hx7, sum_block (conv P X (c0 + t)) P.wi, gate]

theorem bits_m8 : Ideal.ofBits .f32 0xC1000000#32 = ((-8 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_m30 : Ideal.ofBits .f32 0xC1F00000#32 = ((-30 : ℝ) : EReal) := by
  simp [Ideal.ofBits, Ideal.ieee, -EReal.coe_mul]; norm_num

/-- The logarithm of the decay of a point. -/
theorem lg_at (R : Reads P X c0 x0 x2 x3 x4 x5 x6 x7 x8 xs0) (t d : Fin 512) :
    k0_pay8 (F := Ideal) (k0_pay6 x0 xs0 x2 x3) x4 x6 x8 (ix2 t d) = lg P X (c0 + t) d := by
  have hc := conv16_at R t
  generalize k0_pay6 (F := Ideal) x0 xs0 x2 x3 = v at *
  pointwise [k0_pay8, Ideal.absf_def]
  simp only [hc, R.hx4, R.hx6, R.hx8, sum_block (conv P X (c0 + t)) P.wr, lg, gate, logDecay, softplus, bits_m8, zero_sub]

/-- The decay of a point. -/
theorem a_at (R : Reads P X c0 x0 x2 x3 x4 x5 x6 x7 x8 xs0) (t d : Fin 512) :
    k0_pay9 (F := Ideal) (k0_pay6 x0 xs0 x2 x3) x4 x6 x8 (ix2 t d) = aS P X (c0 + t) d := by
  have h := lg_at R t d
  unfold k0_pay9
  generalize k0_pay8 (F := Ideal) (k0_pay6 x0 xs0 x2 x3) x4 x6 x8 = v at *
  pointwise
  rw [h, aS]

/-- Twice the logarithm of the decay. -/
theorem lg2_at (R : Reads P X c0 x0 x2 x3 x4 x5 x6 x7 x8 xs0) (t d : Fin 512) :
    k0_pay10 (F := Ideal) (k0_pay6 x0 xs0 x2 x3) x4 x6 x8 (ix2 t d) = ((2 : ℝ) : EReal) * lg P X (c0 + t) d := by
  have h := lg_at R t d
  unfold k0_pay10
  generalize k0_pay8 (F := Ideal) (k0_pay6 x0 xs0 x2 x3) x4 x6 x8 = v at *
  pointwise
  rw [h, bits_2]

/-- The logarithm of the decay of a row is a real number, and twice it is not below the kernel's floor. -/
theorem lg_real (R : Reads P X c0 x0 x2 x3 x4 x5 x6 x7 x8 xs0) (t d : Fin 512) : ∃ q : ℝ, -30 ≤ 2 * q ∧ lg P X (c0 + t) d = q := by
  obtain ⟨q, -, -, h, hq⟩ := logDecay_real (∑ k : Fin 64, conv P X (c0 + t) (colOf (blk d) k) * P.wr (blk d) k (place d) + P.br d) (P.lam d) (R.lam0 d)
  exact ⟨q, h, by rw [lg, gate, hq]⟩

/-- The kernel's `exp x - 1` of a point, before its floor. -/
theorem em_at (R : Reads P X c0 x0 x2 x3 x4 x5 x6 x7 x8 xs0) (t d : Fin 512) :
    k0_pay11 (F := Ideal) (k0_pay6 x0 xs0 x2 x3) x4 x6 x8 (ix2 t d) = Ideal.exp (((2 : ℝ) : EReal) * lg P X (c0 + t) d) - 1 := by
  have ha := a_at R t d
  have h2 := lg2_at R t d
  unfold k0_pay11
  generalize k0_pay9 (F := Ideal) (k0_pay6 x0 xs0 x2 x3) x4 x6 x8 = v at *
  generalize k0_pay10 (F := Ideal) (k0_pay6 x0 xs0 x2 x3) x4 x6 x8 = w at *
  pointwise
  obtain ⟨q, -, hq⟩ := lg_real R t d
  rw [ha, h2, aS, hq]
  exact near_eq q

/-- The input of a point's rows, of its convolution, input gate, twice the logarithm of the decay and `exp x - 1`. -/
def bArr (xc i x em : FVec Ideal S512x512 .f32) : FVec Ideal S512x512 .f32 :=
  mulf (sqrt (subf (broadcast S512x512 (Scalar.ofBits .f32 0x00000000#32))
      (select (cmpf .olt x (broadcast S512x512 (Scalar.ofBits .f32 0xC1F00000#32))) (broadcast S512x512 (Scalar.ofBits .f32 0xBF800000#32)) em)))
    (mulf i xc)

/-- The input of a point. -/
theorem b_at (R : Reads P X c0 x0 x2 x3 x4 x5 x6 x7 x8 xs0) (t d : Fin 512) :
    bArr (k0_pay4 x0 xs0 x2 x3) (k0_pay7 (k0_pay6 x0 xs0 x2 x3) x5 x7) (k0_pay10 (k0_pay6 x0 xs0 x2 x3) x4 x6 x8)
      (k0_pay11 (k0_pay6 x0 xs0 x2 x3) x4 x6 x8) (ix2 t d) = bS P X (c0 + t) d := by
  have h1 := conv_at R t d
  have h2 := gate_at R t d
  have h3 := lg2_at R t d
  have h4 := em_at R t d
  generalize k0_pay4 (F := Ideal) x0 xs0 x2 x3 = v1 at *
  generalize k0_pay7 (F := Ideal) (k0_pay6 x0 xs0 x2 x3) x5 x7 = v2 at *
  generalize k0_pay10 (F := Ideal) (k0_pay6 x0 xs0 x2 x3) x4 x6 x8 = v3 at *
  generalize k0_pay11 (F := Ideal) (k0_pay6 x0 xs0 x2 x3) x4 x6 x8 = v4 at *
  pointwise [bArr]
  obtain ⟨q, h30, hq⟩ := lg_real R t d
  have : ¬ (((2 : ℝ) : EReal) * (q : EReal) < ((-30 : ℝ) : EReal)) := by
    rw [← EReal.coe_mul]; exact_mod_cast not_lt.2 h30
  rw [h1, h2, h3, h4, bS, hq, bits_m30, if_neg this, zero_sub]

end Cert.Lru

end
-- ==== Proof.Rows.lean ====
/-
  One point's rows of states: its three doublings within tiles of eight rows and its chain of 64 tiles give, row by row, the
  recurrence run from the state before the point.
-/
module

public import proofs.«01_k».proof.Proof.Coef

@[expose] public section

set_option maxRecDepth 16384

noncomputable section

namespace Cert.Lru

open Idealize.ShloMosaic Cert.KernelIdeal Cert.KernelIdeal.Gen

/-- Column `d` of a block of 512 rows, by row number. -/
def col (x : FVec Ideal S512x512 .f32) (d : Fin 512) (t : ℕ) : EReal := if h : t < 512 then x (ix2 ⟨t, h⟩ d) else 0

/-- Column `d` of the block's tile `q`, by row number within the tile. -/
def tcol (X : FVec Ideal S64x8x512 .f32) (q : Fin 64) (d : Fin 512) (s : ℕ) : EReal := if h : s < 8 then X (ix3 q ⟨s, h⟩ d) else 0

/-- Tile rows shifted down by `k`, the first `k` filled with `c`. -/
def shiftBy (k : BitVec 32) (X : FVec Ideal S64x8x512 .f32) (c : EReal) : FVec Ideal S64x8x512 .f32 :=
  select (broadcastTo S64x8x512 (shapeCast S1x8x1 (cmpi .sge sub (broadcast S1x8x1 k)) shapeCasts_S1x8x1_S1x8x1) broadcasts_S1x8x1_S64x8x512)
    (dynamicRotate 1 k none X rotates_S64x8x512_d1) (broadcast S64x8x512 c)

theorem shift1 (X : FVec Ideal S64x8x512 .f32) (c : EReal) (q : Fin 64) (s : Fin 8) (d : Fin 512) :
    shiftBy 1#32 X c (ix3 q s d) = if 1 ≤ s.val then tcol X q d (s - 1) else c := by
  pointwise [shiftBy, sub, tcol]
  fin_cases s <;> rfl
theorem shift2 (X : FVec Ideal S64x8x512 .f32) (c : EReal) (q : Fin 64) (s : Fin 8) (d : Fin 512) :
    shiftBy 2#32 X c (ix3 q s d) = if 2 ≤ s.val then tcol X q d (s - 2) else c := by
  pointwise [shiftBy, sub, tcol]
  fin_cases s <;> rfl
theorem shift4 (X : FVec Ideal S64x8x512 .f32) (c : EReal) (q : Fin 64) (s : Fin 8) (d : Fin 512) :
    shiftBy 4#32 X c (ix3 q s d) = if 4 ≤ s.val then tcol X q d (s - 4) else c := by
  pointwise [shiftBy, sub, tcol]
  fin_cases s <;> rfl

/-- A block's columns within a tile. -/
theorem tcol_pay12 (a : FVec Ideal S512x512 .f32) (q : Fin 64) (d : Fin 512) (s : ℕ) (hs : s < 8) :
    tcol (k0_pay12 a) q d s = col a d (8 * q.val + s) := by
  rw [tcol, dif_pos hs]
  pointwise [k0_pay12, col]
  rw [dif_pos (by omega)]
  congr 2; apply Fin.ext; simp only; omega

variable (a : FVec Ideal S512x512 .f32) (q : Fin 64) (d : Fin 512)

/-- The decays of tile `q`, by row number within the tile. -/
def ta (s : ℕ) : EReal := col a d (8 * q.val + s)

theorem one_bits : (FloatOps.ofBits (F := Ideal) .f32 0x3F800000#32 : EReal) = 1 := Ideal.ofBits_one_f32
theorem zero_bits : (FloatOps.ofBits (F := Ideal) .f32 0x00000000#32 : EReal) = 0 := Ideal.ofBits_zero_f32

/-- The constants 1 and 0 the shifts fill with. -/
abbrev c1 : EReal := FloatOps.ofBits (F := Ideal) .f32 0x3F800000#32
abbrev c0' : EReal := FloatOps.ofBits (F := Ideal) .f32 0x00000000#32

variable (X Y Z : FVec Ideal S64x8x512 .f32)

theorem mul_shift (k : BitVec 32) (c : EReal) (n : ℕ) (s : ℕ) (hs : s < 8)
    (h : ∀ s : Fin 8, shiftBy k Y c (ix3 q s d) = if n ≤ s.val then tcol Y q d (s - n) else c) :
    tcol (mulf X (shiftBy k Y c)) q d s = tcol X q d s * (if n ≤ s then tcol Y q d (s - n) else c) := by
  rw [tcol, dif_pos hs, tcol, dif_pos hs]
  exact congrArg (X (ix3 q ⟨s, hs⟩ d) * ·) (h ⟨s, hs⟩)

theorem add_tcol (s : ℕ) (hs : s < 8) : tcol (addf X Y) q d s = tcol X q d s + tcol Y q d s := by
  rw [tcol, dif_pos hs, tcol, dif_pos hs, tcol, dif_pos hs]; rfl

theorem pay13_at (s : ℕ) (hs : s < 8) : tcol (k0_pay13 a) q d s = A1 (ta a q d) s := by
  have e : k0_pay13 a = mulf (k0_pay12 a) (shiftBy 1#32 (k0_pay12 a) c1) := rfl
  rw [e, mul_shift q d _ _ _ _ 1 s hs fun s => shift1 _ _ q s d, A1, dblA, tcol_pay12 a q d s hs, tcol_pay12 a q d _ (by omega), c1, one_bits]
  rfl

theorem pay14_eq : mulf (k0_pay13 a) (k0_pay14 a) = mulf (k0_pay13 a) (shiftBy 2#32 (k0_pay13 a) c1) := rfl

theorem pay16_at (s : ℕ) (hs : s < 8) : tcol (k0_pay16 (k0_pay13 a) (k0_pay14 a)) q d s = A2 (ta a q d) s := by
  have e : k0_pay16 (k0_pay13 a) (k0_pay14 a) = mulf (k0_pay13 a) (shiftBy 2#32 (k0_pay13 a) c1) := rfl
  rw [e, mul_shift q d _ _ _ _ 2 s hs fun s => shift2 _ _ q s d, A2, dblA, pay13_at a q d s hs, pay13_at a q d _ (by omega), c1, one_bits]

/-- The composed decays of a tile are those of the three doublings. -/
theorem cA_at (s : ℕ) (hs : s < 8) : tcol (cA a) q d s = A4 (ta a q d) s := by
  have e : cA a = mulf (k0_pay16 (k0_pay13 a) (k0_pay14 a)) (shiftBy 4#32 (k0_pay16 (k0_pay13 a) (k0_pay14 a)) c1) := rfl
  rw [e, mul_shift q d _ _ _ _ 4 s hs fun s => shift4 _ _ q s d, A4, dblA, pay16_at a q d s hs, pay16_at a q d _ (by omega), c1, one_bits]

variable (xc i x em : FVec Ideal S512x512 .f32)

/-- The composed inputs of a tile after one, and after two doublings. -/
def cB1 : FVec Ideal S64x8x512 .f32 :=
  addf (mulf (k0_pay12 a) (shiftBy 1#32 (k0_pay12 (bArr xc i x em)) c0')) (k0_pay12 (bArr xc i x em))

theorem cB1_at (s : ℕ) (hs : s < 8) : tcol (cB1 a xc i x em) q d s = B1 (ta a q d) (ta (bArr xc i x em) q d) s := by
  rw [cB1, add_tcol q d _ _ s hs, mul_shift q d _ _ _ _ 1 s hs fun s => shift1 _ _ q s d, B1, dblB, tcol_pay12 _ q d s hs, tcol_pay12 _ q d s hs,
    tcol_pay12 _ q d _ (by omega), c0', zero_bits]
  rfl

theorem pay15_at (s : ℕ) (hs : s < 8) : tcol (k0_pay15 xc i a x em) q d s = B2 (ta a q d) (ta (bArr xc i x em) q d) s := by
  have e : k0_pay15 xc i a x em = addf (mulf (k0_pay13 a) (shiftBy 2#32 (cB1 a xc i x em) c0')) (cB1 a xc i x em) := rfl
  rw [e, add_tcol q d _ _ s hs, mul_shift q d _ _ _ _ 2 s hs fun s => shift2 _ _ q s d, B2, dblB, pay13_at _ q d s hs, cB1_at _ q d _ _ _ _ s hs,
    cB1_at _ q d _ _ _ _ _ (by omega), c0', zero_bits]

/-- The composed inputs of a tile are those of the three doublings. -/
theorem cB_at (s : ℕ) (hs : s < 8) : tcol (cB xc i a x em) q d s = B4 (ta a q d) (ta (bArr xc i x em) q d) s := by
  have e : cB xc i a x em = addf (mulf (k0_pay16 (k0_pay13 a) (k0_pay14 a)) (shiftBy 4#32 (k0_pay15 xc i a x em) c0')) (k0_pay15 xc i a x em) := rfl
  rw [e, add_tcol q d _ _ s hs, mul_shift q d _ _ _ _ 4 s hs fun s => shift4 _ _ q s d, B4, dblB, pay16_at _ q d s hs, pay15_at _ q d _ _ _ _ s hs,
    pay15_at _ q d _ _ _ _ _ (by omega), c0', zero_bits]

/-- A tile's row, of the composed coefficients and the state before the tile. -/
theorem tile_at (A B : FVec Ideal S64x8x512 .f32) (n : ℕ) (hn : n < 64) (h : S64x8x512.Slices ![n, 0, 0] S1x8x512) (st : FVec Ideal S1x512 .f32) (s : Fin 8) :
    tile A B n h st (ix2 s d) = tcol A ⟨n, hn⟩ d s * st (ix2 0 d) + tcol B ⟨n, hn⟩ d s := by
  rw [tcol, dif_pos s.isLt, tcol, dif_pos s.isLt]
  pointwise [tile]

/-- A tile's last row. -/
theorem lastRow_at (x : FVec Ideal S8x512 .f32) : lastRow x (ix2 0 d) = x (ix2 7 d) := by
  pointwise [lastRow]

/-- Row `s` of tile `n` of the chain is the recurrence after `8 n + s + 1` rows. -/
theorem tiles_at (ha : ∀ t, t < 512 → ∃ r : ℝ, 0 ≤ r ∧ col a d t = r) (st : FVec Ideal S1x512 .f32) (n : ℕ) (hn : n < 64) (s : Fin 8) :
    tiles (cA a) (cB xc i a x em) st n hn (ix2 s d) = run (col a d) (col (bArr xc i x em) d) (st (ix2 0 d)) (8 * n + s + 1) := by
  have key : ∀ (n : ℕ) (hn : n < 64) (s : Fin 8) (h : EReal), tcol (cA a) ⟨n, hn⟩ d s * h + tcol (cB xc i a x em) ⟨n, hn⟩ d s
      = run (fun k => col a d (8 * n + k)) (fun k => col (bArr xc i x em) d (8 * n + k)) h (s + 1) := by
    intro n hn s h
    rw [cA_at a _ d s s.isLt, cB_at a _ d xc i x em s s.isLt, doublings _ _ _ h s s.isLt]
    · rfl
    · intro k hk; exact ha _ (by omega)
  induction n generalizing s with
  | zero =>
    rw [tiles, tile_at d _ _ 0 hn, key]
    simp only [Nat.mul_zero, Nat.zero_add]
  | succ n ih =>
    rw [tiles, tile_at d _ _ (n + 1) hn, key, lastRow_at, ih]
    have e : 8 * (n + 1) + s.val + 1 = 8 * (n + 1) + (s.val + 1) := by omega
    rw [e, run_add _ _ _ (8 * (n + 1)) (s.val + 1)]; rfl

/-- The chunk's rows of states are the recurrence, row by row. -/
theorem rows_at (ha : ∀ t, t < 512 → ∃ r : ℝ, 0 ≤ r ∧ col a d t = r) (st : FVec Ideal S1x512 .f32) (t : Fin 512) :
    rows (cA a) (cB xc i a x em) st (ix2 t d) = run (col a d) (col (bArr xc i x em) d) (st (ix2 0 d)) (t + 1) := by
  have h := concatenate_ofFn_apply (t := S512x512) (s₁ := S8x512) 0 (fun n : Fin 64 => tiles (cA a) (cB xc i a x em) st n.val n.isLt)
    (tiles_concat _) rfl 8 rfl (ix2 t d)
    ⟨t.val / 8, by omega⟩ rfl (ix2 ⟨t.val % 8, by omega⟩ d) rfl (fun b hb => by fin_cases b; exact absurd rfl hb; rfl)
  rw [rows, h]
  rw [tiles_at a d xc i x em ha]
  congr 1; simp only; omega

/-- The state after the chunk. -/
theorem end_at (ha : ∀ t, t < 512 → ∃ r : ℝ, 0 ≤ r ∧ col a d t = r) (st : FVec Ideal S1x512 .f32) :
    endState (cA a) (cB xc i a x em) st (ix2 0 d) = run (col a d) (col (bArr xc i x em) d) (st (ix2 0 d)) 512 := by
  rw [endState, lastRow_at, tiles_at a d xc i x em ha]; rfl

section Point
variable {P : Params} {X : ℕ → Fin 512 → EReal} {c0 : ℕ} {x0 : Vec Ideal S512x512 .f32} {x2 : Vec Ideal S4x512 .f32}
    {x3 : Vec Ideal S1x512 .f32} {x4 x5 : Vec Ideal S512x512 .bf16} {x6 x7 x8 : Vec Ideal S1x512 .f32} {xs0 : Vec Ideal S8x512 .f32}

theorem run_point (R : Reads P X c0 x0 x2 x3 x4 x5 x6 x7 x8 xs0) (st : FVec Ideal S1x512 .f32) (hst : st (ix2 0 d) = hS P X c0 d) (n : ℕ) (hn : n ≤ 512) :
    run (col (k0_pay9 (k0_pay6 x0 xs0 x2 x3) x4 x6 x8) d)
      (col (bArr (k0_pay4 x0 xs0 x2 x3) (k0_pay7 (k0_pay6 x0 xs0 x2 x3) x5 x7) (k0_pay10 (k0_pay6 x0 xs0 x2 x3) x4 x6 x8)
      (k0_pay11 (k0_pay6 x0 xs0 x2 x3) x4 x6 x8)) d) (st (ix2 0 d)) n = hS P X (c0 + n) d := by
  rw [hst, hS, hS, run_add]
  refine run_congr n (fun k hk => ?_) (fun k hk => ?_)
  · rw [col, dif_pos (by omega), a_at R]
  · rw [col, dif_pos (by omega), b_at R]

theorem a_col_real (R : Reads P X c0 x0 x2 x3 x4 x5 x6 x7 x8 xs0) (t : ℕ) (ht : t < 512) :
    ∃ r : ℝ, 0 ≤ r ∧ col (k0_pay9 (k0_pay6 x0 xs0 x2 x3) x4 x6 x8) d t = r := by
  obtain ⟨r, h0, h⟩ := aS_real P R.lam0 X (c0 + t) d
  exact ⟨r, h0, by rw [col, dif_pos ht, a_at R]; exact h⟩

/-- Every row of states of a point is the recurrence after that row. -/
theorem rowsx_at (R : Reads P X c0 x0 x2 x3 x4 x5 x6 x7 x8 xs0) (st : FVec Ideal S1x512 .f32) (hst : st (ix2 0 d) = hS P X c0 d) (t : Fin 512) :
    rowsx x0 x2 x3 x4 x5 x6 x7 x8 xs0 st (ix2 t d) = hS P X (c0 + t + 1) d := by
  rw [rowsx, cAx, cBx, rows_at _ d _ _ _ _ (a_col_real d R), run_point d R st hst _ (by omega)]; rfl

/-- The state after a point is the recurrence after the point's last row. -/
theorem endx_at (R : Reads P X c0 x0 x2 x3 x4 x5 x6 x7 x8 xs0) (st : FVec Ideal S1x512 .f32) (hst : st (ix2 0 d) = hS P X c0 d) :
    endx x0 x2 x3 x4 x5 x6 x7 x8 xs0 st (ix2 0 d) = hS P X (c0 + 512) d := by
  rw [endx, cAx, cBx, end_at _ d _ _ _ _ (a_col_real d R), run_point d R st hst _ le_rfl]

/-- The block of results of a point. -/
theorem outx_at (R : Reads P X c0 x0 x2 x3 x4 x5 x6 x7 x8 xs0) (st : FVec Ideal S1x512 .f32) (hst : ∀ d, st (ix2 0 d) = hS P X c0 d)
    (x1 : Vec Ideal S512x512 .f32) (x9 : Vec Ideal S1x512 .f32) (h9 : ∀ d, x9 (ix2 0 d) = P.g d) (t : Fin 512) :
    outx x0 x1 x2 x3 x4 x5 x6 x7 x8 x9 xs0 st (ix2 t d) = outS P (fun k => x1 (ix2 t k)) (fun k => hS P X (c0 + t + 1) k) d := by
  have h := fun d => rowsx_at d R st (hst d) t
  unfold outx
  generalize rowsx x0 x2 x3 x4 x5 x6 x7 x8 xs0 st = v at *
  pointwise [k0_pay1, k0_pay103, k0_pay104, k0_pay105]
  simp only [h, h9, outS, gelu, mul_assoc]

end Point

end Cert.Lru

end
-- ==== Proof.Entry.lean ====
module

public import proofs.«01_k».proof.Proof.Rows
public import Idealize.ShloMosaic.Lib.Claim
public import Idealize.ShloMosaic.Lib.StableHlo.ReadAt

@[expose] public section

set_option maxRecDepth 16384

noncomputable section

namespace Cert.Lru

open Idealize.ShloMosaic Idealize.ShloMosaic.TcCoe Cert.KernelIdeal Cert.KernelIdeal.Gen
variable (m : (ℓ : Loc nD τ sig) → Buf (Elt Ideal) ℓ) (c : Dev nD)

theorem div64 (k : Fin 512) : IntOp.divsi ArithUnit.host (BitVec.ofNat 32 k.val) 64#32 = BitVec.ofNat 32 (k.val / 64) := by
  revert k; decide +kernel

theorem same_blk (k d : Fin 512) :
    IntOp.cmpi CmpIPredicate.eq (IntOp.divsi ArithUnit.host (BitVec.ofNat 32 k.val) 64#32)
      (IntOp.divsi ArithUnit.host (BitVec.ofNat 32 d.val) 64#32) = if blk k = blk d then 1#1 else 0#1 := by
  rw [div64, div64]
  have h : (BitVec.ofNat 32 (k.val / 64) = BitVec.ofNat 32 (d.val / 64)) ↔ blk k = blk d := by
    constructor
    · intro h
      have := congrArg BitVec.toNat h
      simp only [BitVec.toNat_ofNat] at this
      rw [Nat.mod_eq_of_lt (by omega), Nat.mod_eq_of_lt (by omega)] at this
      exact Fin.ext this
    · intro h
      have : k.val / 64 = d.val / 64 := congrArg Fin.val h
      rw [this]
  by_cases hb : blk k = blk d
  · simp [IntOp.cmpi, hb, h.mpr hb]
  · have : (BitVec.ofNat 32 (k.val / 64) == BitVec.ofNat 32 (d.val / 64)) = false := beq_eq_false_iff_ne.mpr fun e => hb (h.mp e)
    simp only [IntOp.cmpi, if_neg hb, this]; rfl

/-- The operations before the grid, in order. -/
abbrev ops : List (HloOp τ sig (Elt Ideal)) := hostOps0 ++ (hostOps0_1 ++ (hostOps0_2 ++ (hostOps0_3 ++ hostOps0_4)))

theorem select_one (a b : EReal) : Scalar.select (1#1) a b = a := rfl

/-- The entry of a stack of blocks that is named by a row's block and its place there. -/
theorem at_place (x : FVec Ideal S1x8x64x64 .f32) (k : Fin 512) (b : Fin 8) (r e : Fin 64) (hb : b.val = k.val / 64) (hr : r.val = k.val % 64) :
    x (ix4 0 b r e) = x (ix4 0 (blk k) (place k) e) := by
  have h1 : b = blk k := Fin.ext hb
  have h2 : r = place k := Fin.ext hr
  rw [h1, h2]

theorem wr_piece0 (r : Fin 64) (d : Fin 512) :
    (StableHlo.upto ops (fun b => m (c, b)) 45 (Proc.devRef .tc main_v9) : FVec Ideal S64x512 .bf16) (ix2 r d)
      = (m (c, Proc.devRef .tc main_arg4) : FVec Ideal S1x8x64x64 .f32) (ix4 0 0 r (place d)) := by
  after_reads_at
  rfl

theorem wr_piece1 (r : Fin 64) (d : Fin 512) :
    (StableHlo.upto ops (fun b => m (c, b)) 45 (Proc.devRef .tc main_v14) : FVec Ideal S64x512 .bf16) (ix2 r d)
      = (m (c, Proc.devRef .tc main_arg4) : FVec Ideal S1x8x64x64 .f32) (ix4 0 1 r (place d)) := by
  after_reads_at
  rfl

theorem wr_piece2 (r : Fin 64) (d : Fin 512) :
    (StableHlo.upto ops (fun b => m (c, b)) 45 (Proc.devRef .tc main_v19) : FVec Ideal S64x512 .bf16) (ix2 r d)
      = (m (c, Proc.devRef .tc main_arg4) : FVec Ideal S1x8x64x64 .f32) (ix4 0 2 r (place d)) := by
  after_reads_at
  rfl

theorem wr_piece3 (r : Fin 64) (d : Fin 512) :
    (StableHlo.upto ops (fun b => m (c, b)) 45 (Proc.devRef .tc main_v24) : FVec Ideal S64x512 .bf16) (ix2 r d)
      = (m (c, Proc.devRef .tc main_arg4) : FVec Ideal S1x8x64x64 .f32) (ix4 0 3 r (place d)) := by
  after_reads_at
  rfl

theorem wr_piece4 (r : Fin 64) (d : Fin 512) :
    (StableHlo.upto ops (fun b => m (c, b)) 45 (Proc.devRef .tc main_v29) : FVec Ideal S64x512 .bf16) (ix2 r d)
      = (m (c, Proc.devRef .tc main_arg4) : FVec Ideal S1x8x64x64 .f32) (ix4 0 4 r (place d)) := by
  after_reads_at
  rfl

theorem wr_piece5 (r : Fin 64) (d : Fin 512) :
    (StableHlo.upto ops (fun b => m (c, b)) 45 (Proc.devRef .tc main_v34) : FVec Ideal S64x512 .bf16) (ix2 r d)
      = (m (c, Proc.devRef .tc main_arg4) : FVec Ideal S1x8x64x64 .f32) (ix4 0 5 r (place d)) := by
  after_reads_at
  rfl

theorem wr_piece6 (r : Fin 64) (d : Fin 512) :
    (StableHlo.upto ops (fun b => m (c, b)) 45 (Proc.devRef .tc main_v39) : FVec Ideal S64x512 .bf16) (ix2 r d)
      = (m (c, Proc.devRef .tc main_arg4) : FVec Ideal S1x8x64x64 .f32) (ix4 0 6 r (place d)) := by
  after_reads_at
  rfl

theorem wr_piece7 (r : Fin 64) (d : Fin 512) :
    (StableHlo.upto ops (fun b => m (c, b)) 45 (Proc.devRef .tc main_v44) : FVec Ideal S64x512 .bf16) (ix2 r d)
      = (m (c, Proc.devRef .tc main_arg4) : FVec Ideal S1x8x64x64 .f32) (ix4 0 7 r (place d)) := by
  after_reads_at
  rfl

theorem wr_at (k d : Fin 512) : (V m c main_v53 : FVec Ideal S512x512 .bf16) (ix2 k d) =
    if blk k = blk d then (m (c, Proc.devRef .tc main_arg4) : FVec Ideal S1x8x64x64 .f32) (ix4 0 (blk d) (place k) (place d)) else (0 : EReal) := by
  simp only [V, List.flatten_cons, List.flatten_nil, List.append_nil]
  after_reads_at
  rw [same_blk]
  by_cases hb : blk k = blk d
  · rw [if_pos hb, if_pos hb, ← hb]
    refine (select_one _ _).trans ?_
    by_cases h0 : k.val < 64
    · rw [dif_pos h0]
      exact (wr_piece0 m c _ _).trans (at_place _ k _ _ _ (by show 0 = _; omega) (by show k.val = _; omega))
    rw [dif_neg h0]
    by_cases h1 : k.val - 64 < 64
    · rw [dif_pos h1]
      exact (wr_piece1 m c _ _).trans (at_place _ k _ _ _ (by show 1 = _; omega) (by show k.val - 64 = _; omega))
    rw [dif_neg h1]
    by_cases h2 : k.val - 64 - 64 < 64
    · rw [dif_pos h2]
      exact (wr_piece2 m c _ _).trans (at_place _ k _ _ _ (by show 2 = _; omega) (by show k.val - 64 - 64 = _; omega))
    rw [dif_neg h2]
    by_cases h3 : k.val - 64 - 64 - 64 < 64
    · rw [dif_pos h3]
      exact (wr_piece3 m c _ _).trans (at_place _ k _ _ _ (by show 3 = _; omega) (by show k.val - 64 - 64 - 64 = _; omega))
    rw [dif_neg h3]
    by_cases h4 : k.val - 64 - 64 - 64 - 64 < 64
    · rw [dif_pos h4]
      exact (wr_piece4 m c _ _).trans (at_place _ k _ _ _ (by show 4 = _; omega) (by show k.val - 64 - 64 - 64 - 64 = _; omega))
    rw [dif_neg h4]
    by_cases h5 : k.val - 64 - 64 - 64 - 64 - 64 < 64
    · rw [dif_pos h5]
      exact (wr_piece5 m c _ _).trans (at_place _ k _ _ _ (by show 5 = _; omega) (by show k.val - 64 - 64 - 64 - 64 - 64 = _; omega))
    rw [dif_neg h5]
    by_cases h6 : k.val - 64 - 64 - 64 - 64 - 64 - 64 < 64
    · rw [dif_pos h6]
      exact (wr_piece6 m c _ _).trans (at_place _ k _ _ _ (by show 6 = _; omega) (by show k.val - 64 - 64 - 64 - 64 - 64 - 64 = _; omega))
    rw [dif_neg h6]
    exact (wr_piece7 m c _ _).trans (at_place _ k _ _ _ (by show 7 = _; omega) (by show k.val - 64 - 64 - 64 - 64 - 64 - 64 - 64 = _; omega))
  · rw [if_neg hb, if_neg hb]; rfl

theorem wi_piece0 (r : Fin 64) (d : Fin 512) :
    (StableHlo.upto ops (fun b => m (c, b)) 100 (Proc.devRef .tc main_v60) : FVec Ideal S64x512 .bf16) (ix2 r d)
      = (m (c, Proc.devRef .tc main_arg6) : FVec Ideal S1x8x64x64 .f32) (ix4 0 0 r (place d)) := by
  after_reads_at
  rfl

theorem wi_piece1 (r : Fin 64) (d : Fin 512) :
    (StableHlo.upto ops (fun b => m (c, b)) 100 (Proc.devRef .tc main_v65) : FVec Ideal S64x512 .bf16) (ix2 r d)
      = (m (c, Proc.devRef .tc main_arg6) : FVec Ideal S1x8x64x64 .f32) (ix4 0 1 r (place d)) := by
  after_reads_at
  rfl

theorem wi_piece2 (r : Fin 64) (d : Fin 512) :
    (StableHlo.upto ops (fun b => m (c, b)) 100 (Proc.devRef .tc main_v70) : FVec Ideal S64x512 .bf16) (ix2 r d)
      = (m (c, Proc.devRef .tc main_arg6) : FVec Ideal S1x8x64x64 .f32) (ix4 0 2 r (place d)) := by
  after_reads_at
  rfl

theorem wi_piece3 (r : Fin 64) (d : Fin 512) :
    (StableHlo.upto ops (fun b => m (c, b)) 100 (Proc.devRef .tc main_v75) : FVec Ideal S64x512 .bf16) (ix2 r d)
      = (m (c, Proc.devRef .tc main_arg6) : FVec Ideal S1x8x64x64 .f32) (ix4 0 3 r (place d)) := by
  after_reads_at
  rfl

theorem wi_piece4 (r : Fin 64) (d : Fin 512) :
    (StableHlo.upto ops (fun b => m (c, b)) 100 (Proc.devRef .tc main_v80) : FVec Ideal S64x512 .bf16) (ix2 r d)
      = (m (c, Proc.devRef .tc main_arg6) : FVec Ideal S1x8x64x64 .f32) (ix4 0 4 r (place d)) := by
  after_reads_at
  rfl

theorem wi_piece5 (r : Fin 64) (d : Fin 512) :
    (StableHlo.upto ops (fun b => m (c, b)) 100 (Proc.devRef .tc main_v85) : FVec Ideal S64x512 .bf16) (ix2 r d)
      = (m (c, Proc.devRef .tc main_arg6) : FVec Ideal S1x8x64x64 .f32) (ix4 0 5 r (place d)) := by
  after_reads_at
  rfl

theorem wi_piece6 (r : Fin 64) (d : Fin 512) :
    (StableHlo.upto ops (fun b => m (c, b)) 100 (Proc.devRef .tc main_v90) : FVec Ideal S64x512 .bf16) (ix2 r d)
      = (m (c, Proc.devRef .tc main_arg6) : FVec Ideal S1x8x64x64 .f32) (ix4 0 6 r (place d)) := by
  after_reads_at
  rfl

theorem wi_piece7 (r : Fin 64) (d : Fin 512) :
    (StableHlo.upto ops (fun b => m (c, b)) 100 (Proc.devRef .tc main_v95) : FVec Ideal S64x512 .bf16) (ix2 r d)
      = (m (c, Proc.devRef .tc main_arg6) : FVec Ideal S1x8x64x64 .f32) (ix4 0 7 r (place d)) := by
  after_reads_at
  rfl

theorem wi_at (k d : Fin 512) : (V m c main_v104 : FVec Ideal S512x512 .bf16) (ix2 k d) =
    if blk k = blk d then (m (c, Proc.devRef .tc main_arg6) : FVec Ideal S1x8x64x64 .f32) (ix4 0 (blk d) (place k) (place d)) else (0 : EReal) := by
  simp only [V, List.flatten_cons, List.flatten_nil, List.append_nil]
  after_reads_at
  rw [same_blk]
  by_cases hb : blk k = blk d
  · rw [if_pos hb, if_pos hb, ← hb]
    refine (select_one _ _).trans ?_
    by_cases h0 : k.val < 64
    · rw [dif_pos h0]
      exact (wi_piece0 m c _ _).trans (at_place _ k _ _ _ (by show 0 = _; omega) (by show k.val = _; omega))
    rw [dif_neg h0]
    by_cases h1 : k.val - 64 < 64
    · rw [dif_pos h1]
      exact (wi_piece1 m c _ _).trans (at_place _ k _ _ _ (by show 1 = _; omega) (by show k.val - 64 = _; omega))
    rw [dif_neg h1]
    by_cases h2 : k.val - 64 - 64 < 64
    · rw [dif_pos h2]
      exact (wi_piece2 m c _ _).trans (at_place _ k _ _ _ (by show 2 = _; omega) (by show k.val - 64 - 64 = _; omega))
    rw [dif_neg h2]
    by_cases h3 : k.val - 64 - 64 - 64 < 64
    · rw [dif_pos h3]
      exact (wi_piece3 m c _ _).trans (at_place _ k _ _ _ (by show 3 = _; omega) (by show k.val - 64 - 64 - 64 = _; omega))
    rw [dif_neg h3]
    by_cases h4 : k.val - 64 - 64 - 64 - 64 < 64
    · rw [dif_pos h4]
      exact (wi_piece4 m c _ _).trans (at_place _ k _ _ _ (by show 4 = _; omega) (by show k.val - 64 - 64 - 64 - 64 = _; omega))
    rw [dif_neg h4]
    by_cases h5 : k.val - 64 - 64 - 64 - 64 - 64 < 64
    · rw [dif_pos h5]
      exact (wi_piece5 m c _ _).trans (at_place _ k _ _ _ (by show 5 = _; omega) (by show k.val - 64 - 64 - 64 - 64 - 64 = _; omega))
    rw [dif_neg h5]
    by_cases h6 : k.val - 64 - 64 - 64 - 64 - 64 - 64 < 64
    · rw [dif_pos h6]
      exact (wi_piece6 m c _ _).trans (at_place _ k _ _ _ (by show 6 = _; omega) (by show k.val - 64 - 64 - 64 - 64 - 64 - 64 = _; omega))
    rw [dif_neg h6]
    exact (wi_piece7 m c _ _).trans (at_place _ k _ _ _ (by show 7 = _; omega) (by show k.val - 64 - 64 - 64 - 64 - 64 - 64 - 64 = _; omega))
  · rw [if_neg hb, if_neg hb]; rfl

theorem cb_at (d : Fin 512) : (V m c main_v2 : FVec Ideal S1x512 .f32) (ix2 0 d) = (m (c, Proc.devRef .tc main_arg3) : FVec Ideal S1x512 .f32) (ix2 0 d) := by
  simp only [V, List.flatten_cons, List.flatten_nil, List.append_nil]
  after_reads_at

theorem br_at (d : Fin 512) : (V m c main_v106 : FVec Ideal S1x512 .f32) (ix2 0 d) = (m (c, Proc.devRef .tc main_arg5) : FVec Ideal S1x512 .f32) (ix2 0 d) := by
  simp only [V, List.flatten_cons, List.flatten_nil, List.append_nil]
  after_reads_at

theorem bi_at (d : Fin 512) : (V m c main_v108 : FVec Ideal S1x512 .f32) (ix2 0 d) = (m (c, Proc.devRef .tc main_arg7) : FVec Ideal S1x512 .f32) (ix2 0 d) := by
  simp only [V, List.flatten_cons, List.flatten_nil, List.append_nil]
  after_reads_at

theorem lam_at (d : Fin 512) : (V m c main_v110 : FVec Ideal S1x512 .f32) (ix2 0 d) = (m (c, Proc.devRef .tc main_arg8) : FVec Ideal S1x512 .f32) (ix2 0 d) := by
  simp only [V, List.flatten_cons, List.flatten_nil, List.append_nil]
  after_reads_at

theorem g_at (d : Fin 512) : (V m c main_v112 : FVec Ideal S1x512 .f32) (ix2 0 d) = (m (c, Proc.devRef .tc main_arg9) : FVec Ideal S1x512 .f32) (ix2 0 d) := by
  simp only [V, List.flatten_cons, List.flatten_nil, List.append_nil]
  after_reads_at

theorem cw_at (k : Fin 4) (d : Fin 512) : (V m c main_v0 : FVec Ideal S4x512 .f32) (ix2 k d) = (m (c, Proc.devRef .tc main_arg2) : FVec Ideal S1x4x512 .f32) (ix3 0 k d) := by
  simp only [V, List.flatten_cons, List.flatten_nil, List.append_nil]
  after_reads_at

end Cert.Lru
end
-- ==== Proof.Points.lean ====
module

public import proofs.«01_k».proof.Proof.Entry
public import proofs.«01_k».proof.Proof.Gen.KernelIdeal.Value
public import Idealize.ShloMosaic.Lib.Pipeline.ValueKit.Point

@[expose] public section

set_option maxRecDepth 16384

noncomputable section

namespace Cert.Lru

open Idealize.ShloMosaic Idealize.ShloMosaic.TcCoe Cert.KernelIdeal Cert.KernelIdeal.Gen Cert.KernelIdeal.Value
variable (m : (ℓ : Loc nD τ sig) → Buf (Elt Ideal) ℓ) (c : Dev nD)

/-- Where the blocks of the two row inputs lie, point by point. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)

theorem rx_at (t : Fin cfg0.N) (r d : Fin 512) (h : 512 * t.val + r.val < 16384) :
    (iblk m c 0 t : FVec Ideal S512x512 .f32) (ix2 r d) = (m (c, Proc.devRef .tc main_arg0) : FVec Ideal S16384x512 .f32) (ix2 ⟨512 * t.val + r.val, h⟩ d) := by
  blk_ext! [iblk, V, index0 t]
theorem rg_at (t : Fin cfg0.N) (r d : Fin 512) (h : 512 * t.val + r.val < 16384) :
    (iblk m c 1 t : FVec Ideal S512x512 .f32) (ix2 r d) = (m (c, Proc.devRef .tc main_arg1) : FVec Ideal S16384x512 .f32) (ix2 ⟨512 * t.val + r.val, h⟩ d) := by
  blk_ext! [iblk, V, index1 t]

theorem index2 : ∀ t : Fin cfg0.N, win0_2.index t (0 : Fin 2) = 0 ∧ win0_2.index t (1 : Fin 2) = 0 :=
  (by decide +kernel : ∀ t : Fin grid0.N, _)
theorem blk2 (t : Fin cfg0.N) (k : Fin 4) (d : Fin 512) :
    (iblk m c 2 t : FVec Ideal S4x512 .f32) (ix2 k d) = (V m c main_v0 : FVec Ideal S4x512 .f32) (ix2 k d) := by
  unfold iblk
  generalize V m c = W
  blk_ext [index2 t]

theorem index3 : ∀ t : Fin cfg0.N, win0_3.index t (0 : Fin 2) = 0 ∧ win0_3.index t (1 : Fin 2) = 0 :=
  (by decide +kernel : ∀ t : Fin grid0.N, _)
theorem blk3 (t : Fin cfg0.N) (k : Fin 1) (d : Fin 512) :
    (iblk m c 3 t : FVec Ideal S1x512 .f32) (ix2 k d) = (V m c main_v2 : FVec Ideal S1x512 .f32) (ix2 k d) := by
  unfold iblk
  generalize V m c = W
  blk_ext [index3 t]

theorem index4 : ∀ t : Fin cfg0.N, win0_4.index t (0 : Fin 2) = 0 ∧ win0_4.index t (1 : Fin 2) = 0 :=
  (by decide +kernel : ∀ t : Fin grid0.N, _)
theorem blk4 (t : Fin cfg0.N) (k : Fin 512) (d : Fin 512) :
    (iblk m c 4 t : FVec Ideal S512x512 .bf16) (ix2 k d) = (V m c main_v53 : FVec Ideal S512x512 .bf16) (ix2 k d) := by
  unfold iblk
  generalize V m c = W
  blk_ext [index4 t]

theorem index5 : ∀ t : Fin cfg0.N, win0_5.index t (0 : Fin 2) = 0 ∧ win0_5.index t (1 : Fin 2) = 0 :=
  (by decide +kernel : ∀ t : Fin grid0.N, _)
theorem blk5 (t : Fin cfg0.N) (k : Fin 512) (d : Fin 512) :
    (iblk m c 5 t : FVec Ideal S512x512 .bf16) (ix2 k d) = (V m c main_v104 : FVec Ideal S512x512 .bf16) (ix2 k d) := by
  unfold iblk
  generalize V m c = W
  blk_ext [index5 t]

theorem index6 : ∀ t : Fin cfg0.N, win0_6.index t (0 : Fin 2) = 0 ∧ win0_6.index t (1 : Fin 2) = 0 :=
  (by decide +kernel : ∀ t : Fin grid0.N, _)
theorem blk6 (t : Fin cfg0.N) (k : Fin 1) (d : Fin 512) :
    (iblk m c 6 t : FVec Ideal S1x512 .f32) (ix2 k d) = (V m c main_v106 : FVec Ideal S1x512 .f32) (ix2 k d) := by
  unfold iblk
  generalize V m c = W
  blk_ext [index6 t]

theorem index7 : ∀ t : Fin cfg0.N, win0_7.index t (0 : Fin 2) = 0 ∧ win0_7.index t (1 : Fin 2) = 0 :=
  (by decide +kernel : ∀ t : Fin grid0.N, _)
theorem blk7 (t : Fin cfg0.N) (k : Fin 1) (d : Fin 512) :
    (iblk m c 7 t : FVec Ideal S1x512 .f32) (ix2 k d) = (V m c main_v108 : FVec Ideal S1x512 .f32) (ix2 k d) := by
  unfold iblk
  generalize V m c = W
  blk_ext [index7 t]

theorem index8 : ∀ t : Fin cfg0.N, win0_8.index t (0 : Fin 2) = 0 ∧ win0_8.index t (1 : Fin 2) = 0 :=
  (by decide +kernel : ∀ t : Fin grid0.N, _)
theorem blk8 (t : Fin cfg0.N) (k : Fin 1) (d : Fin 512) :
    (iblk m c 8 t : FVec Ideal S1x512 .f32) (ix2 k d) = (V m c main_v110 : FVec Ideal S1x512 .f32) (ix2 k d) := by
  unfold iblk
  generalize V m c = W
  blk_ext [index8 t]

theorem index9 : ∀ t : Fin cfg0.N, win0_9.index t (0 : Fin 2) = 0 ∧ win0_9.index t (1 : Fin 2) = 0 :=
  (by decide +kernel : ∀ t : Fin grid0.N, _)
theorem blk9 (t : Fin cfg0.N) (k : Fin 1) (d : Fin 512) :
    (iblk m c 9 t : FVec Ideal S1x512 .f32) (ix2 k d) = (V m c main_v112 : FVec Ideal S1x512 .f32) (ix2 k d) := by
  unfold iblk
  generalize V m c = W
  blk_ext [index9 t]

/-- The rows of sequence `n`, read off the first input. -/
def seq (n : ℕ) (t : ℕ) (d : Fin 512) : EReal :=
  if h : 2048 * n + t < 16384 then (m (c, Proc.devRef .tc main_arg0) : FVec Ideal S16384x512 .f32) (ix2 ⟨2048 * n + t, h⟩ d) else 0

/-- The layer's parameters, read off the other inputs. -/
def par : Params where
  cw k d := (m (c, Proc.devRef .tc main_arg2) : FVec Ideal S1x4x512 .f32) (ix3 0 k d)
  cb d := (m (c, Proc.devRef .tc main_arg3) : FVec Ideal S1x512 .f32) (ix2 0 d)
  wr b k e := (m (c, Proc.devRef .tc main_arg4) : FVec Ideal S1x8x64x64 .f32) (ix4 0 b k e)
  br d := (m (c, Proc.devRef .tc main_arg5) : FVec Ideal S1x512 .f32) (ix2 0 d)
  wi b k e := (m (c, Proc.devRef .tc main_arg6) : FVec Ideal S1x8x64x64 .f32) (ix4 0 b k e)
  bi d := (m (c, Proc.devRef .tc main_arg7) : FVec Ideal S1x512 .f32) (ix2 0 d)
  lam d := (m (c, Proc.devRef .tc main_arg8) : FVec Ideal S1x512 .f32) (ix2 0 d)
  g d := (m (c, Proc.devRef .tc main_arg9) : FVec Ideal S1x512 .f32) (ix2 0 d)

/-- What a point of the grid reads, given the rows kept from the point before. -/
theorem reads (hP : ∀ d, 0 ≤ (par m c).lam d) (t : Fin cfg0.N) (xs0 : Vec Ideal S8x512 .f32)
    (hs : ∀ s d, xs0 (ix2 s d) = if 512 * (t.val % 4) + s.val < 8 then 0 else seq m c (t.val / 4) (512 * (t.val % 4) + s - 8) d) :
    Reads (par m c) (seq m c (t.val / 4)) (512 * (t.val % 4)) (iblk m c 0 t) (iblk m c 2 t) (iblk m c 3 t) (iblk m c 4 t) (iblk m c 5 t) (iblk m c 6 t) (iblk m c 7 t) (iblk m c 8 t) xs0 where
  lam0 := hP
  hx0 r d := by
    have ht : t.val < 32 := lt_of_lt_of_eq t.isLt N_0
    have hr := r.isLt
    have e : 2048 * (t.val / 4) + (512 * (t.val % 4) + r.val) = 512 * t.val + r.val := by omega
    have hb : 512 * t.val + r.val < 16384 := by omega
    rw [seq, dif_pos (by rw [e]; exact hb)]
    refine (rx_at m c t r d hb).trans ?_
    simp only [e]
  hx2 k d := (blk2 m c t k d).trans (cw_at m c k d)
  hx3 d := (blk3 m c t 0 d).trans (cb_at m c d)
  hx4 k d := (blk4 m c t k d).trans (wr_at m c k d)
  hx5 k d := (blk5 m c t k d).trans (wi_at m c k d)
  hx6 d := (blk6 m c t 0 d).trans (br_at m c d)
  hx7 d := (blk7 m c t 0 d).trans (bi_at m c d)
  hx8 d := (blk8 m c t 0 d).trans (lam_at m c d)
  hs0 := hs

/-- A sequence's first point, by its blocks. -/
theorem outs_A (t : Fin cfg0.N) (h0 : t.val % 4 = 0) :
    outsAt0 m c t.val t.isLt = (outx (iblk m c 0 t) (iblk m c 1 t) (iblk m c 2 t) (iblk m c 3 t) (iblk m c 4 t) (iblk m c 5 t) (iblk m c 6 t) (iblk m c 7 t) (iblk m c 8 t) (iblk m c 9 t) (k0_pay2 (F := Ideal)) (k0_pay3 (F := Ideal)),
      k0_pay102 (endx (iblk m c 0 t) (iblk m c 2 t) (iblk m c 3 t) (iblk m c 4 t) (iblk m c 5 t) (iblk m c 6 t) (iblk m c 7 t) (iblk m c 8 t) (k0_pay2 (F := Ideal)) (k0_pay3 (F := Ideal))), k0_pay5 (iblk m c 0 t),
      k0_pay101 (endx (iblk m c 0 t) (iblk m c 2 t) (iblk m c 3 t) (iblk m c 4 t) (iblk m c 5 t) (iblk m c 6 t) (iblk m c 7 t) (iblk m c 8 t) (k0_pay2 (F := Ideal)) (k0_pay3 (F := Ideal)))) := by
  rw [outsAt0_A m c t h0, out0_A_10_eq, out0_A_11_eq, sout0_A_0_eq, sout0_A_1_eq]

/-- A later point, by its blocks and what the point before left. -/
theorem outs_B (t : Fin cfg0.N) (h0 : ¬ t.val % 4 = 0) :
    outsAt0 m c t.val t.isLt = (outx (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2,
      k0_pay102 (endx (iblk m c 0 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2), k0_pay5 (iblk m c 0 t),
      k0_pay101 (endx (iblk m c 0 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2)) := by
  rw [outsAt0_B m c t h0, out0_B_10_eq, out0_B_11_eq, sout0_B_0_eq, sout0_B_1_eq]

/-- What a point leaves: its block of results, its state twice over, and the last eight rows it read. -/
structure Leaves (t : Fin cfg0.N) (o : Vec Ideal S512x512 .bf16 × Vec Ideal S1x1x512 .f32 × Vec Ideal S8x512 .f32 × Vec Ideal S1x512 .f32) : Prop where
  res : ∀ r d, o.1 (ix2 r d) = outS (par m c) (fun k => (iblk m c 1 t : FVec Ideal S512x512 .f32) (ix2 r k))
    (fun k => hS (par m c) (seq m c (t.val / 4)) (512 * (t.val % 4) + r + 1) k) d
  fin : ∀ d, o.2.1 (ix3 0 0 d) = hS (par m c) (seq m c (t.val / 4)) (512 * (t.val % 4) + 512) d
  kept : ∀ s d, o.2.2.1 (ix2 s d) = seq m c (t.val / 4) (512 * (t.val % 4) + 512 + s - 8) d
  state : ∀ d, o.2.2.2 (ix2 0 d) = hS (par m c) (seq m c (t.val / 4)) (512 * (t.val % 4) + 512) d

theorem pay5_at (x : Vec Ideal S512x512 .f32) (s : Fin 8) (d : Fin 512) : k0_pay5 x (ix2 s d) = x (ix2 ⟨504 + s.val, by omega⟩ d) := by
  pointwise [k0_pay5]
theorem pay102_at (x : Vec Ideal S1x512 .f32) (d : Fin 512) : (k0_pay102 (F := Ideal) x : FVec Ideal S1x1x512 .f32) (ix3 0 0 d) = x (ix2 0 d) := by
  pointwise [k0_pay102]
theorem pay101_eq (x : Vec Ideal S1x512 .f32) (d : Fin 512) : (k0_pay101 (F := Ideal) x : FVec Ideal S1x512 .f32) (ix2 0 d) = x (ix2 0 d) := by
  pointwise [k0_pay101]
theorem pay2_at (s : Fin 8) (d : Fin 512) : (k0_pay2 (F := Ideal)) (ix2 s d) = (0 : EReal) := by
  pointwise [k0_pay2]
theorem pay3_at (d : Fin 512) : (k0_pay3 (F := Ideal)) (ix2 0 d) = (0 : EReal) := by
  pointwise [k0_pay3]

/-- A point leaves that, given the rows and the state kept from before it. -/
theorem leaves (hP : ∀ d, 0 ≤ (par m c).lam d) (t : Fin cfg0.N) (xs0 : Vec Ideal S8x512 .f32) (xs1 : Vec Ideal S1x512 .f32)
    (hs : ∀ s d, xs0 (ix2 s d) = if 512 * (t.val % 4) + s.val < 8 then 0 else seq m c (t.val / 4) (512 * (t.val % 4) + s - 8) d)
    (hst : ∀ d, xs1 (ix2 0 d) = hS (par m c) (seq m c (t.val / 4)) (512 * (t.val % 4)) d) :
    Leaves m c t (outx (iblk m c 0 t) (iblk m c 1 t) (iblk m c 2 t) (iblk m c 3 t) (iblk m c 4 t) (iblk m c 5 t) (iblk m c 6 t) (iblk m c 7 t) (iblk m c 8 t) (iblk m c 9 t) xs0 xs1,
      k0_pay102 (endx (iblk m c 0 t) (iblk m c 2 t) (iblk m c 3 t) (iblk m c 4 t) (iblk m c 5 t) (iblk m c 6 t) (iblk m c 7 t) (iblk m c 8 t) xs0 xs1), k0_pay5 (iblk m c 0 t),
      k0_pay101 (endx (iblk m c 0 t) (iblk m c 2 t) (iblk m c 3 t) (iblk m c 4 t) (iblk m c 5 t) (iblk m c 6 t) (iblk m c 7 t) (iblk m c 8 t) xs0 xs1)) where
  res r d := outx_at d (reads m c hP t xs0 hs) xs1 hst _ _ (fun d => (blk9 m c t 0 d).trans (g_at m c d)) r
  fin d := (pay102_at _ d).trans (endx_at d (reads m c hP t xs0 hs) xs1 (hst d))
  kept s d := by
    refine (pay5_at _ s d).trans (((reads m c hP t xs0 hs).hx0 _ d).trans ?_)
    have hs := s.isLt
    have e : 512 * (t.val % 4) + (504 + s.val) = 512 * (t.val % 4) + 512 + s.val - 8 := by omega
    show seq m c _ (512 * (t.val % 4) + (504 + s.val)) d = _
    rw [e]
  state d := (pay101_eq _ d).trans (endx_at d (reads m c hP t xs0 hs) xs1 (hst d))

/-- Every point of the grid leaves that. -/
theorem leaves_all (hP : ∀ d, 0 ≤ (par m c).lam d) : ∀ (n : ℕ) (hn : n < cfg0.N), Leaves m c ⟨n, hn⟩ (outsAt0 m c n hn) := by
  intro n
  induction n with
  | zero =>
    intro hn
    have e := outs_A m c ⟨0, hn⟩ rfl
    exact e ▸ leaves m c hP ⟨0, hn⟩ _ _ (fun s d => by rw [if_pos (by show 512 * (0 % 4) + s.val < 8; omega)]; exact pay2_at s d)
      (fun d => pay3_at d)
  | succ n ih =>
    intro hn
    by_cases h0 : (n + 1) % 4 = 0
    · have e := outs_A m c ⟨n + 1, hn⟩ h0
      refine e ▸ leaves m c hP ⟨n + 1, hn⟩ _ _ (fun s d => ?_) (fun d => ?_)
      · rw [if_pos (by show 512 * ((n + 1) % 4) + s.val < 8; omega)]; exact pay2_at s d
      · show _ = hS _ _ (512 * ((n + 1) % 4)) d
        rw [h0]; exact pay3_at d
    · have e := outs_B m c ⟨n + 1, hn⟩ h0
      have L := ih (Nat.lt_of_succ_lt hn)
      have e1 : (n + 1) / 4 = n / 4 := by omega
      have e2 : 512 * ((n + 1) % 4) = 512 * (n % 4) + 512 := by omega
      refine e ▸ leaves m c hP ⟨n + 1, hn⟩ _ _ (fun s d => ?_) (fun d => ?_)
      · refine (L.kept s d).trans ?_
        show _ = if 512 * ((n + 1) % 4) + s.val < 8 then _ else seq m c ((n + 1) / 4) (512 * ((n + 1) % 4) + s - 8) d
        rw [if_neg (by omega), e1, e2]
      · refine (L.state d).trans ?_
        show _ = hS _ (seq m c ((n + 1) / 4)) (512 * ((n + 1) % 4)) d
        rw [e1, e2]

/-- The array of results, at a row and a column. -/
theorem G10_at (hP : ∀ d, 0 ≤ (par m c).lam d) (n : Fin 8) (t : Fin 2048) (d : Fin 512) :
    (G10 m c : FVec Ideal S16384x512 .bf16) (ix2 ⟨2048 * n.val + t.val, by omega⟩ d)
      = outS (par m c) (fun k => (m (c, Proc.devRef .tc main_arg1) : FVec Ideal S16384x512 .f32) (ix2 ⟨2048 * n.val + t.val, by omega⟩ k))
          (fun k => hS (par m c) (seq m c n.val) (t.val + 1) k) d := by
  have hn := n.isLt
  have ht := t.isLt
  have hd := d.isLt
  have hp : pt10Of (ix2 ⟨2048 * n.val + t.val, by omega⟩ d) = 4 * n.val + t.val / 512 := by
    show 1 * ((2048 * n.val + t.val) / 512 - 0) + 1 * (d.val / 512 - 0) = _
    omega
  have hN : 4 * n.val + t.val / 512 < cfg0.N := lt_of_lt_of_eq (by omega) N_0.symm
  have hl : loc10Of (ix2 ⟨2048 * n.val + t.val, by omega⟩ d) = ix2 ⟨t.val % 512, by omega⟩ d := by
    funext a
    match a with
    | ⟨0, _⟩ => exact Fin.ext (show (2048 * n.val + t.val) % 512 = t.val % 512 by omega)
    | ⟨1, _⟩ => exact Fin.ext (show d.val % 512 = d.val by omega)
  unfold G10
  rw [dif_pos (by rw [hp]; exact hN), ← outsAt0_sweep m c _ (by rw [hp]; exact hN)]
  have L := leaves_all m c hP (4 * n.val + t.val / 512) hN
  have e : outsAt0 m c (pt10Of (ix2 ⟨2048 * n.val + t.val, by omega⟩ d)) (by rw [hp]; exact hN) = outsAt0 m c (4 * n.val + t.val / 512) hN := by
    congr 1
  rw [e, hl]
  refine (L.res ⟨t.val % 512, by omega⟩ d).trans ?_
  have e1 : (4 * n.val + t.val / 512) / 4 = n.val := by omega
  have e2 : 512 * ((4 * n.val + t.val / 512) % 4) + t.val % 512 + 1 = t.val + 1 := by omega
  have e3 : ∀ k, (iblk m c 1 ⟨4 * n.val + t.val / 512, hN⟩ : FVec Ideal S512x512 .f32) (ix2 ⟨t.val % 512, by omega⟩ k)
      = (m (c, Proc.devRef .tc main_arg1) : FVec Ideal S16384x512 .f32) (ix2 ⟨2048 * n.val + t.val, by omega⟩ k) := fun k => by
    have e4 : 512 * (4 * n.val + t.val / 512) + t.val % 512 = 2048 * n.val + t.val := by omega
    refine (rg_at m c _ _ k (by show 512 * (4 * n.val + t.val / 512) + t.val % 512 < 16384; omega)).trans ?_
    simp only [e4]
  simp only [e1, e2, e3]

/-- The array of last states, at a sequence and a column. -/
theorem G11_at (hP : ∀ d, 0 ≤ (par m c).lam d) (n : Fin 8) (d : Fin 512) :
    (G11 m c : FVec Ideal S8x1x512 .f32) (ix3 n 0 d) = hS (par m c) (seq m c n.val) 2048 d := by
  have hn := n.isLt
  have hd := d.isLt
  have hp : pt11Of (ix3 n 0 d) = 4 * n.val + 3 := by
    show 4 * (1 * (n.val / 1 - 0) + 1 * (0 / 1 - 0) + 1 * (d.val / 512 - 0)) + 3 = _
    omega
  have hN : 4 * n.val + 3 < cfg0.N := lt_of_lt_of_eq (by omega) N_0.symm
  have hl : loc11Of (ix3 n 0 d) = ix3 0 0 d := by
    funext a
    match a with
    | ⟨0, _⟩ => exact Fin.ext (show n.val % 1 = 0 by omega)
    | ⟨1, _⟩ => rfl
    | ⟨2, _⟩ => exact Fin.ext (show d.val % 512 = d.val by omega)
  unfold G11
  rw [dif_pos (by rw [hp]; exact hN), ← outsAt0_sweep m c _ (by rw [hp]; exact hN)]
  have L := leaves_all m c hP (4 * n.val + 3) hN
  have e : outsAt0 m c (pt11Of (ix3 n 0 d)) (by rw [hp]; exact hN) = outsAt0 m c (4 * n.val + 3) hN := by
    congr 1
  rw [e, hl]
  refine (L.fin d).trans ?_
  have e1 : (4 * n.val + 3) / 4 = n.val := by omega
  have e2 : 512 * ((4 * n.val + 3) % 4) + 512 = 2048 := by omega
  simp only [e1, e2]

end Cert.Lru
end
-- ==== Proof.RefAt.lean ====
module

public import proofs.«01_k».proof.Proof.Coef
public import proofs.«01_k».proof.Proof.RefRun
public import Idealize.ShloMosaic.Lib.DynamicIndex
public import Idealize.ShloMosaic.Lib.WordCmp

@[expose] public section

set_option maxRecDepth 16384

noncomputable section

namespace Cert.Lru.Ref

open Idealize.ShloMosaic Idealize.ShloMosaic.TcCoe Cert.ReferenceIdeal

variable (a0 : FVec Ideal S16384x512 .f32) (a2 : FVec Ideal S1x4x512 .f32) (a3 : FVec Ideal S1x512 .f32) (a4 : FVec Ideal S1x8x64x64 .f32)
    (a5 : FVec Ideal S1x512 .f32) (a6 : FVec Ideal S1x8x64x64 .f32) (a7 a8 a9 : FVec Ideal S1x512 .f32)

/-- The rows of sequence `n`. -/
def seq (n : ℕ) (t : ℕ) (d : Fin 512) : EReal := if h : 2048 * n + t < 16384 then a0 (ix2 ⟨2048 * n + t, h⟩ d) else 0

/-- The layer's parameters. -/
def par : Params where
  cw k d := a2 (ix3 0 k d)
  cb d := a3 (ix2 0 d)
  wr b k e := a4 (ix4 0 b k e)
  br d := a5 (ix2 0 d)
  wi b k e := a6 (ix4 0 b k e)
  bi d := a7 (ix2 0 d)
  lam d := a8 (ix2 0 d)
  g d := a9 (ix2 0 d)

/-- A row of a sequence, read off the array. -/
theorem row_at (q : Fin 8) (n : ℕ) (hn : n < 2048) (d : Fin 512) (h : q.val * 2048 + n < 16384) :
    a0 (ix2 ⟨q.val * 2048 + n, h⟩ d) = seq a0 q n d := by
  have e : q.val * 2048 + n = 2048 * q.val + n := by omega
  rw [seq, dif_pos (by omega)]
  simp only [e]

/-- A row of the sequence with three rows of zeros before it. -/
theorem pad_at (q : Fin 8) (t : Fin 2048) (d : Fin 512) (k s : ℕ) (hk : k + s = 3)
    (h : ¬ k + t.val < 3 → q.val * 2048 + (k + t.val - 3) < 16384) :
    (if h' : k + t.val < 3 then (0 : EReal) else a0 (ix2 ⟨q.val * 2048 + (k + t.val - 3), h h'⟩ d)) = past (seq a0 q) s t d := by
  unfold past
  by_cases hc : k + t.val < 3
  · rw [dif_pos hc, if_pos (by omega)]
  · rw [dif_neg hc, if_neg (by omega), row_at a0 q _ (by omega) d]
    have e : k + t.val - 3 = t.val - s := by omega
    rw [e]

theorem conv_at (q : Fin 8) (t : Fin 2048) (d : Fin 512) :
    (Step.A_main_v34 (F := Ideal) a0 a2 a3 a4 a5 a6 a7 a8 : FVec Ideal S8x2048x512 .f32) (ix3 q t d) = conv (par a2 a3 a4 a5 a6 a7 a8 a9) (seq a0 q) t d := by
  pointwise [Step.A_main_v0, Step.A_main_v2, Step.A_main_v3, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_v31, Step.A_main_v32, Step.A_main_v33, Step.A_main_v34, Step.K_main_cst, Step.K_main_v1, Step.K_main_cst_0, Step.K_main_v46, Step.K_main_cst_1, Step.K_main_v48, Step.K_main_cst_2, Step.K_main_v60, Step.K_main_cst_3, Step.K_main_v62, Step.K_main_cst_4, Step.K_main_v64, Step.K_main_call0_cst, Step.K_main_call0_v0, Step.K_main_call0_v2, Step.K_main_call0_v5, Step.K_main_cst_5, Step.K_main_v73, Step.K_main_cst_6, Step.K_main_v80, Step.K_main_cst_7, Step.K_main_v83, Step.K_main_c]
  have e0 := pad_at a0 q t d 0 3 rfl (by omega)
  simp only [Nat.zero_add] at e0
  rw [e0, pad_at a0 q t d 1 2 rfl, pad_at a0 q t d 2 1 rfl, row_at a0 q t.val t.isLt d]
  rfl

theorem r_at (q : Fin 8) (t : Fin 2048) (d : Fin 512) :
    (Step.A_main_v49 (F := Ideal) a0 a2 a3 a4 a5 a6 a7 a8 : FVec Ideal S8x2048x512 .f32) (ix3 q t d) = gate (par a2 a3 a4 a5 a6 a7 a8 a9).wr (par a2 a3 a4 a5 a6 a7 a8 a9).br (conv (par a2 a3 a4 a5 a6 a7 a8 a9) (seq a0 q) t) d := by
  pointwise [Step.A_main_v35, Step.A_main_v36, Step.A_main_v37, Step.A_main_v38, Step.A_main_v39, Step.A_main_v40, Step.A_main_v41, Step.A_main_v42, Step.A_main_v43, Step.A_main_v44, Step.A_main_v45, Step.A_main_v47, Step.A_main_v49, Step.K_main_cst, Step.K_main_v1, Step.K_main_cst_0, Step.K_main_v46, Step.K_main_cst_1, Step.K_main_v48, Step.K_main_cst_2, Step.K_main_v60, Step.K_main_cst_3, Step.K_main_v62, Step.K_main_cst_4, Step.K_main_v64, Step.K_main_call0_cst, Step.K_main_call0_v0, Step.K_main_call0_v2, Step.K_main_call0_v5, Step.K_main_cst_5, Step.K_main_v73, Step.K_main_cst_6, Step.K_main_v80, Step.K_main_cst_7, Step.K_main_v83, Step.K_main_c]
  unfold gate
  rw [Ideal.logistic]
  congr 5
  refine Finset.sum_congr rfl fun x _ => ?_
  have e : (⟨d.val / 64 * 64 + x.val, by have := d.isLt; have := x.isLt; omega⟩ : Fin 512) = colOf (blk d) x := Fin.ext (by show d.val / 64 * 64 + x.val = 64 * (d.val / 64) + x.val; omega)
  rw [mul_comm, conv_at a0 a2 a3 a4 a5 a6 a7 a8 a9, e]
  rfl

theorem i_at (q : Fin 8) (t : Fin 2048) (d : Fin 512) :
    (Step.A_main_v63 (F := Ideal) a0 a2 a3 a4 a5 a6 a7 a8 : FVec Ideal S8x2048x512 .f32) (ix3 q t d) = gate (par a2 a3 a4 a5 a6 a7 a8 a9).wi (par a2 a3 a4 a5 a6 a7 a8 a9).bi (conv (par a2 a3 a4 a5 a6 a7 a8 a9) (seq a0 q) t) d := by
  pointwise [Step.A_main_v35, Step.A_main_v50, Step.A_main_v51, Step.A_main_v52, Step.A_main_v53, Step.A_main_v54, Step.A_main_v55, Step.A_main_v56, Step.A_main_v57, Step.A_main_v58, Step.A_main_v59, Step.A_main_v61, Step.A_main_v63, Step.K_main_cst, Step.K_main_v1, Step.K_main_cst_0, Step.K_main_v46, Step.K_main_cst_1, Step.K_main_v48, Step.K_main_cst_2, Step.K_main_v60, Step.K_main_cst_3, Step.K_main_v62, Step.K_main_cst_4, Step.K_main_v64, Step.K_main_call0_cst, Step.K_main_call0_v0, Step.K_main_call0_v2, Step.K_main_call0_v5, Step.K_main_cst_5, Step.K_main_v73, Step.K_main_cst_6, Step.K_main_v80, Step.K_main_cst_7, Step.K_main_v83, Step.K_main_c]
  unfold gate
  rw [Ideal.logistic]
  congr 5
  refine Finset.sum_congr rfl fun x _ => ?_
  have e : (⟨d.val / 64 * 64 + x.val, by have := d.isLt; have := x.isLt; omega⟩ : Fin 512) = colOf (blk d) x := Fin.ext (by show d.val / 64 * 64 + x.val = 64 * (d.val / 64) + x.val; omega)
  rw [mul_comm, conv_at a0 a2 a3 a4 a5 a6 a7 a8 a9, e]
  rfl

theorem lg_at (q : Fin 8) (t : Fin 2048) (d : Fin 512) :
    (Step.A_main_v71 (F := Ideal) a0 a2 a3 a4 a5 a6 a7 a8 : FVec Ideal S8x2048x512 .f32) (ix3 q t d) = lg (par a2 a3 a4 a5 a6 a7 a8 a9) (seq a0 q) t d := by
  pointwise [Step.A_main_v65, Step.A_main_v66, Step.A_main_v67, Step.A_main_call0_v1, Step.A_main_call0_v3, Step.A_main_call0_v4, Step.A_main_call0_v6, Step.A_main_call0_v7, Step.A_main_call0_v8, Step.A_main_call0_v9, Step.A_main_call0_v10, Step.A_main_call0_v11, Step.A_main_v68, Step.A_main_v69, Step.A_main_v70, Step.A_main_v71, Step.K_main_cst, Step.K_main_v1, Step.K_main_cst_0, Step.K_main_v46, Step.K_main_cst_1, Step.K_main_v48, Step.K_main_cst_2, Step.K_main_v60, Step.K_main_cst_3, Step.K_main_v62, Step.K_main_cst_4, Step.K_main_v64, Step.K_main_call0_cst, Step.K_main_call0_v0, Step.K_main_call0_v2, Step.K_main_call0_v5, Step.K_main_cst_5, Step.K_main_v73, Step.K_main_cst_6, Step.K_main_v80, Step.K_main_cst_7, Step.K_main_v83, Step.K_main_c]
  rw [if_neg (by simp), r_at a0 a2 a3 a4 a5 a6 a7 a8 a9, bits_m8]
  rfl
theorem a_at (q : Fin 8) (t : Fin 2048) (d : Fin 512) :
    (Step.A_main_v81 (F := Ideal) a0 a2 a3 a4 a5 a6 a7 a8 : FVec Ideal S2048x8x512 .f32) (ix3 t q d) = aS (par a2 a3 a4 a5 a6 a7 a8 a9) (seq a0 q) t d := by
  pointwise [Step.A_main_v81, Step.A_main_v72]
  rw [lg_at a0 a2 a3 a4 a5 a6 a7 a8 a9]
  rfl
theorem b_at (q : Fin 8) (t : Fin 2048) (d : Fin 512) :
    (Step.A_main_v82 (F := Ideal) a0 a2 a3 a4 a5 a6 a7 a8 : FVec Ideal S2048x8x512 .f32) (ix3 t q d) = bS (par a2 a3 a4 a5 a6 a7 a8 a9) (seq a0 q) t d := by
  pointwise [Step.A_main_v74, Step.A_main_v75, Step.A_main_v76, Step.A_main_v77, Step.A_main_v78, Step.A_main_v79, Step.A_main_v82, Step.K_main_cst, Step.K_main_v1, Step.K_main_cst_0, Step.K_main_v46, Step.K_main_cst_1, Step.K_main_v48, Step.K_main_cst_2, Step.K_main_v60, Step.K_main_cst_3, Step.K_main_v62, Step.K_main_cst_4, Step.K_main_v64, Step.K_main_call0_cst, Step.K_main_call0_v0, Step.K_main_call0_v2, Step.K_main_call0_v5, Step.K_main_cst_5, Step.K_main_v73, Step.K_main_cst_6, Step.K_main_v80, Step.K_main_cst_7, Step.K_main_v83, Step.K_main_c]
  rw [lg_at a0 a2 a3 a4 a5 a6 a7 a8 a9, i_at a0 a2 a3 a4 a5 a6 a7 a8 a9, conv_at a0 a2 a3 a4 a5 a6 a7 a8 a9, bits_2]
  rfl

/-- The states of the recurrence's loop, one per trip. -/
def it : ℕ → Step.State Ideal
  | 0 => Step.init a0 a2 a3 a4 a5 a6 a7 a8
  | n + 1 => Step.step n (it n)

theorem it_a (n : ℕ) : (it a0 a2 a3 a4 a5 a6 a7 a8 n).main_v84_0 = Step.A_main_v81 (F := Ideal) a0 a2 a3 a4 a5 a6 a7 a8 := by
  induction n with
  | zero => rfl
  | succ n ih => exact ih
theorem it_b (n : ℕ) : (it a0 a2 a3 a4 a5 a6 a7 a8 n).main_v84_1 = Step.A_main_v82 (F := Ideal) a0 a2 a3 a4 a5 a6 a7 a8 := by
  induction n with
  | zero => rfl
  | succ n ih => exact ih

theorem start_at (j : ℕ) (hj : j < 2048) : (BitVec.ofNat 32 j).toInt = (j : ℤ) := by
  rw [BitVec.toInt_eq_toNat_of_lt] <;> rw [BitVec.toNat_ofNat, Nat.mod_eq_of_lt (by omega)] <;> omega

theorem slices_at (j : ℕ) (hj : j < 2048) : S2048x8x512.Slices ![j, 0, 0] S1x8x512 :=
  ⟨rfl, fun a => by fin_cases a <;> simp [S2048x8x512, S1x8x512] <;> omega⟩

theorem starts (j : ℕ) (hj : j < 2048) (z z' : S_.Idx → BitVec 32) (hz : z = constantI S_ 32 0#32) (hz' : z' = constantI S_ 32 0#32) (k : S_.Idx) (a : Fin 3) :
    ((![constantI S_ 32 (BitVec.ofNat 32 j), z, z'] : Fin 3 → S_.Idx → BitVec 32) a k).toInt = ((![j, 0, 0] : Fin 3 → ℕ) a : ℤ) := by
  subst hz hz'
  fin_cases a
  · exact start_at j hj
  · rfl
  · rfl

/-- One trip's state, at an index. -/
theorem b9_at (j : ℕ) (hj : j < 2048) (s : Step.State Ideal) (q : Fin 8) (d : Fin 512) :
    (Step.b9 j s : FVec Ideal S8x512 .f32) (ix2 q d)
      = (s.main_v84_0 : FVec Ideal S2048x8x512 .f32) (ix3 ⟨j, hj⟩ q d) * (s.main_v84_3 : FVec Ideal S8x512 .f32) (ix2 q d)
        + (s.main_v84_1 : FVec Ideal S2048x8x512 .f32) (ix3 ⟨j, hj⟩ q d) := by
  have e2 : Step.b2 j s = extractStridedSlice S1x8x512 ![j, 0, 0] (s.main_v84_0 : FVec Ideal S2048x8x512 .f32) (slices_at j hj) :=
    WordCmp.dynamicSlice_eq_extract _ _ _ _ _ (slices_at j hj) (starts j hj _ _ rfl rfl _)
  have e6 : Step.b6 j s = extractStridedSlice S1x8x512 ![j, 0, 0] (s.main_v84_1 : FVec Ideal S2048x8x512 .f32) (slices_at j hj) :=
    WordCmp.dynamicSlice_eq_extract _ _ _ _ _ (slices_at j hj) (starts j hj _ _ rfl rfl _)
  unfold Step.b9 Step.b8 Step.b3 Step.b7
  rw [e2, e6]
  pointwise

/-- The rows filled by one trip more, at an index. -/
theorem b13_at (j : ℕ) (hj : j < 2048) (s : Step.State Ideal) (t : Fin 2048) (q : Fin 8) (d : Fin 512) :
    (Step.b13 j s : FVec Ideal S2048x8x512 .f32) (ix3 t q d)
      = if t.val = j then (Step.b9 j s : FVec Ideal S8x512 .f32) (ix2 q d) else (s.main_v84_4 : FVec Ideal S2048x8x512 .f32) (ix3 t q d) := by
  have e : Step.b13 j s = updateSlice (s.main_v84_4 : FVec Ideal S2048x8x512 .f32) (Step.b10 j s : FVec Ideal S1x8x512 .f32) ![j, 0, 0] (slices_at j hj) :=
    WordCmp.dynamicUpdateSlice_eq_update _ _ _ _ _ (slices_at j hj) (starts j hj _ _ rfl rfl _)
  rw [e]
  pointwise [Step.b10]
  by_cases ht : t.val = j
  · rw [dif_pos (by omega), if_pos ht]
  · rw [dif_neg (by omega), if_neg ht]

/-- Before trip `n` the state holds the recurrence after `n` rows, and the rows filled so far hold the recurrence after each. -/
theorem it_at (n : ℕ) (hn : n ≤ 2048) : (∀ (q : Fin 8) (d : Fin 512), ((it a0 a2 a3 a4 a5 a6 a7 a8 n).main_v84_3 : FVec Ideal S8x512 .f32) (ix2 q d) = hS (par a2 a3 a4 a5 a6 a7 a8 a9) (seq a0 q) n d)
    ∧ ∀ (t : Fin 2048) (q : Fin 8) (d : Fin 512), t.val < n →
      ((it a0 a2 a3 a4 a5 a6 a7 a8 n).main_v84_4 : FVec Ideal S2048x8x512 .f32) (ix3 t q d) = hS (par a2 a3 a4 a5 a6 a7 a8 a9) (seq a0 q) (t.val + 1) d := by
  induction n with
  | zero =>
    refine ⟨fun q d => ?_, fun t q d h => absurd h (Nat.not_lt_zero _)⟩
    show (Step.K_main_v80 (F := Ideal) : FVec Ideal S8x512 .f32) (ix2 q d) = 0
    pointwise [Step.K_main_v80, Step.K_main_cst_6]
  | succ n ih =>
    obtain ⟨h3, h4⟩ := ih (Nat.le_of_succ_le hn)
    have h9 : ∀ (q : Fin 8) (d : Fin 512), (Step.b9 n (it a0 a2 a3 a4 a5 a6 a7 a8 n) : FVec Ideal S8x512 .f32) (ix2 q d)
        = hS (par a2 a3 a4 a5 a6 a7 a8 a9) (seq a0 q) (n + 1) d := fun q d => by
      rw [b9_at n hn, it_a, it_b, a_at a0 a2 a3 a4 a5 a6 a7 a8 a9, b_at a0 a2 a3 a4 a5 a6 a7 a8 a9, h3]
      rfl
    refine ⟨h9, fun t q d ht => ?_⟩
    refine (b13_at n hn _ t q d).trans ?_
    by_cases e : t.val = n
    · rw [if_pos e, h9, e]
    · rw [if_neg e, h4 t q d (by omega)]

/-- The rows of results, off the loop's last state. -/
theorem y_at (s : Step.State Ideal) (a1 : FVec Ideal S16384x512 .f32) (q : Fin 8) (t : Fin 2048) (d : Fin 512) (h : q.val * 2048 + t.val < 16384) :
    (Step.R_main_v116 s a1 a9 : FVec Ideal S16384x512 .bf16) (ix2 ⟨q.val * 2048 + t.val, h⟩ d)
      = outS (par a2 a3 a4 a5 a6 a7 a8 a9) (fun k => a1 (ix2 ⟨q.val * 2048 + t.val, h⟩ k)) (fun k => (s.main_v84_4 : FVec Ideal S2048x8x512 .f32) (ix3 t q k)) d := by
  pointwise [Step.R_main_v116]
  rfl
theorem h_at (s : Step.State Ideal) (q : Fin 8) (d : Fin 512) :
    (Step.R_main_v117 s : FVec Ideal S8x1x512 .f32) (ix3 q 0 d) = (s.main_v84_3 : FVec Ideal S8x512 .f32) (ix2 q d) := by
  pointwise [Step.R_main_v117]

end Cert.Lru.Ref
end
-- ==== Proof.Equal.lean ====
module

public import proofs.«01_k».proof.Proof.Points
public import proofs.«01_k».proof.Proof.RefAt
public import proofs.«01_k».proof.Pre_lam_nonneg
public import proofs.«01_k».proof.Proof.Gen.Pre_lam_nonneg

@[expose] public section

set_option maxRecDepth 16384

noncomputable section

namespace Cert.Lru

open Idealize.ShloMosaic Idealize.ShloMosaic.TcCoe Cert.KernelIdeal Cert.KernelIdeal.Value

/-- What the precondition says of the eighth argument: no entry of it is negative. -/
theorem nonneg_of_pre (a0 a1 : FVec Ideal S16384x512 .f32) (a2 : FVec Ideal S1x4x512 .f32) (a3 : FVec Ideal S1x512 .f32)
    (a4 : FVec Ideal S1x8x64x64 .f32) (a5 : FVec Ideal S1x512 .f32) (a6 : FVec Ideal S1x8x64x64 .f32) (a7 a8 a9 : FVec Ideal S1x512 .f32)
    (h : Cert.Pre_lam_nonneg.fn (F := Ideal) a0 a1 a2 a3 a4 a5 a6 a7 a8 a9 = fun _ => 1#1) (d : Fin 512) :
    (0 : EReal) ≤ a8 (ix2 0 d) := by
  have e := congrFun h (ix2 0 d)
  have e' : BitVec.ofBool (decide ((0 : EReal) ≤ a8 (ix2 0 d))) = 1#1 := by
    rw [← e]
    symm
    pointwise [Cert.Pre_lam_nonneg.fn]
  by_contra hn
  rw [decide_eq_false hn] at e'
  exact absurd e' (by decide)

variable (m : (ℓ : Loc nD τ sig) → Buf (Elt Ideal) ℓ) (c : Dev nD)

/-- The kernel's first result is the reference's: the gated, normalised states. -/
theorem y_eq (hP : ∀ d, 0 ≤ (par m c).lam d) :
    Cert.ReferenceIdeal.Step.R_main_v116 (F := Ideal)
      (Ref.it (m (c, Proc.devRef .tc main_arg0)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) 2048)
      (m (c, Proc.devRef .tc main_arg1)) (m (c, Proc.devRef .tc main_arg9)) = (G10 m c : FVec Ideal S16384x512 .bf16) := by
  refine funext fun i => ?_
  have h0 : (i 0).val < 16384 := (i 0).isLt
  have hi : i = ix2 ⟨2048 * ((i 0).val / 2048) + (i 0).val % 2048, by omega⟩ (i 1) := by
    refine funext fun a => ?_
    match a with
    | ⟨0, _⟩ => exact Fin.ext (by show (i 0).val = 2048 * ((i 0).val / 2048) + (i 0).val % 2048; omega)
    | ⟨1, _⟩ => rfl
  have hk := G10_at m c hP ⟨(i 0).val / 2048, by omega⟩ ⟨(i 0).val % 2048, by omega⟩ (i 1)
  have hr := Ref.y_at (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9))
    (Ref.it (m (c, Proc.devRef .tc main_arg0)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) 2048)
    (m (c, Proc.devRef .tc main_arg1)) ⟨(i 0).val / 2048, by omega⟩ ⟨(i 0).val % 2048, by omega⟩ (i 1) (by show (i 0).val / 2048 * 2048 + (i 0).val % 2048 < 16384; omega)
  have hs := fun k => (Ref.it_at (m (c, Proc.devRef .tc main_arg0)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) 2048 le_rfl).2
    ⟨(i 0).val % 2048, by omega⟩ ⟨(i 0).val / 2048, by omega⟩ k (by show (i 0).val % 2048 < 2048; omega)
  rw [funext hs] at hr
  have hc : (⟨(i 0).val / 2048 * 2048 + (i 0).val % 2048, by omega⟩ : Fin 16384) = ⟨2048 * ((i 0).val / 2048) + (i 0).val % 2048, by omega⟩ :=
    Fin.ext (by show (i 0).val / 2048 * 2048 + _ = 2048 * _ + _; omega)
  rw [hi]
  refine Eq.trans ?_ (hr.trans (Eq.trans ?_ hk.symm))
  · exact congrArg (fun r => Cert.ReferenceIdeal.Step.R_main_v116 (F := Ideal) _ _ _ (ix2 r (i 1))) hc.symm
  · exact congrArg (fun r : Fin 16384 => outS (par m c) (fun k => (m (c, Proc.devRef .tc main_arg1) : FVec Ideal S16384x512 .f32) (ix2 r k)) _ (i 1)) hc

/-- The kernel's second result is the reference's: every sequence's last state. -/
theorem h_eq (hP : ∀ d, 0 ≤ (par m c).lam d) :
    Cert.ReferenceIdeal.Step.R_main_v117 (F := Ideal)
      (Ref.it (m (c, Proc.devRef .tc main_arg0)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) 2048)
      = (G11 m c : FVec Ideal S8x1x512 .f32) := by
  refine funext fun i => ?_
  have hi : i = ix3 (i 0) 0 (i 2) := by
    refine funext fun a => ?_
    match a with
    | ⟨0, _⟩ => rfl
    | ⟨1, _⟩ => exact Subsingleton.elim (α := Fin 1) _ _
    | ⟨2, _⟩ => rfl
  have hs := (Ref.it_at (m (c, Proc.devRef .tc main_arg0)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) 2048 le_rfl).1
    (i 0) (i 2)
  rw [hi]
  exact (Ref.h_at _ (i 0) (i 2)).trans (hs.trans (G11_at m c hP (i 0) (i 2)).symm)

end Cert.Lru

end
-- ==== Proof.Mlp.Spec.lean ====
/-
  What the layer does with one row after its heads, in plain arithmetic: the norm of the attention heads, the output
  projection, the norm, the squared-relu network and the last norm; and the sums of a row taken in parts.
-/
module

public import Idealize.ShloMosaic.PureOps.Ideal
public import Idealize.ShloMosaic.Lib.Pointwise

@[expose] public section

noncomputable section

namespace Cert.Mlp

open Idealize.ShloMosaic

/-- The weights of the layer's second half. -/
structure Params where
  ga : Fin 512 → EReal
  wo : Fin 1024 → Fin 1024 → EReal
  nm : Fin 1024 → EReal
  wu : Fin 1024 → Fin 4096 → EReal
  wd : Fin 4096 → Fin 1024 → EReal
  nf : Fin 1024 → EReal

/-- A row over the root of its mean square (`c` is the row's length), times the norm's weights. -/
def norm {n : ℕ} (c : EReal) (a g : Fin n → EReal) (k : Fin n) : EReal :=
  a k * Ideal.rsqrt (Ideal.div (∑ j : Fin n, a j * a j) c + Ideal.ofBits .f32 0x358637BD#32) * g k

/-- The row the output projection reads: the normed attention heads, then the recurrent heads. -/
def mixed (P : Params) (o y : Fin 512 → EReal) (k : Fin 1024) : EReal :=
  if h : k.val < 512 then norm (Ideal.ofBits .f32 0x44000000#32) o P.ga ⟨k.val, h⟩ else y ⟨k.val - 512, by omega⟩

/-- The row after the heads. -/
def x1 (P : Params) (x : Fin 1024 → EReal) (o y : Fin 512 → EReal) (j : Fin 1024) : EReal :=
  x j + ∑ k : Fin 1024, mixed P o y k * P.wo k j

/-- The network's hidden row. -/
def hid (P : Params) (a : Fin 1024 → EReal) (f : Fin 4096) : EReal :=
  max (∑ k : Fin 1024, norm (Ideal.ofBits .f32 0x44800000#32) a P.nm k * P.wu k f) 0
    * max (∑ k : Fin 1024, norm (Ideal.ofBits .f32 0x44800000#32) a P.nm k * P.wu k f) 0

/-- The row of results from the row after the heads. -/
def outS (P : Params) (a : Fin 1024 → EReal) (j : Fin 1024) : EReal :=
  norm (Ideal.ofBits .f32 0x44800000#32) (fun j => a j + ∑ f : Fin 4096, hid P a f * P.wd f j) P.nf j

/-- A sum over 1024 places is the sum over the first 512 and the sum over the last. -/
theorem sum_halves (f : Fin 1024 → EReal) :
    ∑ k : Fin 1024, f k = ∑ k : Fin 512, f ⟨k.val, by omega⟩ + ∑ k : Fin 512, f ⟨512 + k.val, by omega⟩ :=
  Fin.sum_univ_add (a := 512) (b := 512) f

/-- A sum over 4096 places is the sum over its four quarters. -/
theorem sum_quarters (f : Fin 4096 → EReal) :
    ∑ k : Fin 4096, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  rw [Fin.sum_univ_add (a := 3072) (b := 1024) f, Fin.sum_univ_add (a := 2048) (b := 1024),
    Fin.sum_univ_add (a := 1024) (b := 1024)]
  rfl

/-- The row after the heads, its projection taken in two halves. -/
theorem x1_halves (P : Params) (x : Fin 1024 → EReal) (o y : Fin 512 → EReal) (j : Fin 1024) :
    x1 P x o y j = x j + (∑ k : Fin 512, norm (Ideal.ofBits .f32 0x44000000#32) o P.ga k * P.wo ⟨k.val, by omega⟩ j
      + ∑ k : Fin 512, y k * P.wo ⟨512 + k.val, by omega⟩ j) := by
  have h1 : ∀ k : Fin 512, mixed P o y ⟨k.val, by omega⟩ = norm (Ideal.ofBits .f32 0x44000000#32) o P.ga k := fun k => by
    rw [mixed, dif_pos (show k.val < 512 from k.isLt)]
  have h2 : ∀ k : Fin 512, mixed P o y ⟨512 + k.val, by omega⟩ = y k := fun k => by
    rw [mixed, dif_neg (show ¬ 512 + k.val < 512 by omega)]
    exact congrArg y (Fin.ext (by show 512 + k.val - 512 = k.val; omega))
  rw [x1, sum_halves]
  simp only [h1, h2]

end Cert.Mlp

end
-- ==== Proof.Mlp.Block2.lean ====
/-
  The layer's second half on the kernel's side: what one point of the grid leaves, what it reads, and the whole array of results.
-/
module

public import proofs.«01_k».proof.Proof.Mlp.Spec
public import proofs.«01_k».proof.Proof.Gen.Kernel2Ideal.Value
public import Idealize.ShloMosaic.Lib.ValueIdx
public import Idealize.ShloMosaic.Lib.Claim
public import Idealize.ShloMosaic.Lib.StableHlo.ReadAt
public import Idealize.ShloMosaic.Lib.Pipeline.ValueKit.Point

@[expose] public section

set_option maxRecDepth 16384

noncomputable section

namespace Cert.Mlp.Ker2

open Idealize.ShloMosaic Idealize.ShloMosaic.TcCoe Cert.Kernel2Ideal Cert.Kernel2Ideal.Gen Cert.Kernel2Ideal.Value
open Idealize.ShloMosaic.Pipeline (Dat)

/-- The offset of a whole block is zero in both coordinates. -/
theorem hz2 : (![0, 0] : Fin 2 → Nat) = fun _ => 0 := funext fun a => by fin_cases a <;> rfl

/-- The rows after the heads, at an index of the block. -/
theorem pay2_at (P : Params) (x : Fin 1024 → EReal) (o y : Fin 512 → EReal) (v0 : Vec Ideal S512x512 .f32) (v11 : Vec Ideal S512x1 .f32)
    (v16 : Vec Ideal S512x1024 .bf16) (v19 : Vec Ideal S512x1024 .f32) (v20 : Vec Ideal S512x512 .bf16) (v21 : Vec Ideal S512x1024 .bf16) (r : Fin 512)
    (h0 : ∀ k, v0 (ix2 k r) = o k) (h11 : ∀ k, v11 (ix2 k 0) = P.ga k) (h16 : ∀ (k : Fin 512) (j : Fin 1024), v16 (ix2 k j) = P.wo ⟨k.val, by omega⟩ j)
    (h19 : ∀ j, v19 (ix2 r j) = x j) (h20 : ∀ k, v20 (ix2 r k) = y k) (h21 : ∀ (k : Fin 512) (j : Fin 1024), v21 (ix2 k j) = P.wo ⟨512 + k.val, by omega⟩ j)
    (j : Fin 1024) : k0_pay2 v0 v11 v16 v19 v20 v21 (ix2 r j) = x1 P x o y j := by
  rw [x1_halves]
  pointwise [k0_pay2]
  simp only [h0, h11, h16, h19, h20, h21]
  rfl

/-- The normed rows, at an index of the block. -/
theorem pay5_at (v25 : FVec Ideal S512x1024 .f32) (v27 : FVec Ideal S1x1024 .f32) (v36 : FVec Ideal S512x1024 .f32) (r : Fin 512) (k : Fin 1024) :
    k0_pay5 v25 v27 v36 (ix2 r k) = v25 (ix2 r k) * v36 (ix2 r k) * v27 (ix2 0 k) := by
  pointwise [k0_pay5]

/-- The root the rows are divided by, at an index of the block. -/
theorem pay4_at (v0 : Vec Ideal S512x512 .f32) (v11 : Vec Ideal S512x1 .f32)
    (v16 : Vec Ideal S512x1024 .bf16) (v19 : Vec Ideal S512x1024 .f32) (v20 : Vec Ideal S512x512 .bf16) (v21 : Vec Ideal S512x1024 .bf16) (r : Fin 512) (k : Fin 1024)
    (a : Fin 1024 → EReal) (h : ∀ j, k0_pay2 v0 v11 v16 v19 v20 v21 (ix2 r j) = a j) :
    k0_pay4 v0 v11 v16 v19 v20 v21 (ix2 r k) = Ideal.rsqrt (Ideal.div (∑ j : Fin 1024, a j * a j) (Ideal.ofBits .f32 0x44800000#32) + Ideal.ofBits .f32 0x358637BD#32) := by
  unfold k0_pay4
  generalize k0_pay2 v0 v11 v16 v19 v20 v21 = w at *
  pointwise
  simp only [h]

/-- The norm's weights, at an index. -/
theorem pay3_at (v : Vec Ideal S1x1024 .f32) (k : Fin 1024) : k0_pay3 v (ix2 0 k) = v (ix2 0 k) := by
  pointwise [k0_pay3]

/-- One quarter of the network: its share of an entry of the rows. -/
def quarter (v : Fin 1024 → EReal) (wu wd : FVec Ideal S1024x1024 .bf16) (j : Fin 1024) : EReal :=
  ∑ f : Fin 1024, max (∑ k : Fin 1024, v k * wu (ix2 k f)) 0 * max (∑ k : Fin 1024, v k * wu (ix2 k f)) 0 * wd (ix2 f j)

/-- A chunk of 1024 hidden columns, from its block of either weight. -/
theorem quarter_eq (v : Fin 1024 → EReal) (wu wd : FVec Ideal S1024x1024 .bf16) (U D : Fin 1024 → Fin 1024 → EReal) (hu : ∀ k f, wu (ix2 k f) = U k f)
    (hd : ∀ f j, wd (ix2 f j) = D f j) (j : Fin 1024) :
    quarter v wu wd j = ∑ f : Fin 1024, max (∑ k : Fin 1024, v k * U k f) 0 * max (∑ k : Fin 1024, v k * U k f) 0 * D f j := by
  unfold quarter
  simp only [hu, hd]

/-- Three quarters of the network, at an index of the block. -/
theorem pay6_at (v25 : FVec Ideal S512x1024 .f32) (v27 : FVec Ideal S1x1024 .f32) (v36 : FVec Ideal S512x1024 .f32)
    (u0 d0 u1 d1 u2 d2 : Vec Ideal S1024x1024 .bf16) (r : Fin 512) (j : Fin 1024) (v : Fin 1024 → EReal) (h : ∀ k, k0_pay5 v25 v27 v36 (ix2 r k) = v k) :
    k0_pay6 v25 v27 v36 u0 d0 u1 d1 u2 d2 (ix2 r j) = quarter v u0 d0 j + quarter v u1 d1 j + quarter v u2 d2 j := by
  unfold k0_pay6
  generalize k0_pay5 v25 v27 v36 = w at *
  pointwise
  simp only [h]
  rfl

/-- The block of results from the rows after the heads, at an index. -/
theorem pay1_at (v25 : FVec Ideal S512x1024 .f32) (w : FVec Ideal S512x1024 .bf16) (v74 : FVec Ideal S512x1024 .f32) (u3 d3 : Vec Ideal S1024x1024 .bf16) (g : Vec Ideal S1x1024 .f32)
    (r : Fin 512) (j : Fin 1024) (v a : Fin 1024 → EReal) (hv : ∀ k, w (ix2 r k) = v k) (ha : ∀ j, v25 (ix2 r j) + (v74 (ix2 r j) + quarter v u3 d3 j) = a j) :
    k0_pay1 v25 w v74 u3 d3 g (ix2 r j) = norm (Ideal.ofBits .f32 0x44800000#32) a (fun k => g (ix2 0 k)) j := by
  obtain rfl : (fun j => v25 (ix2 r j) + (v74 (ix2 r j) + quarter v u3 d3 j)) = a := funext ha
  pointwise [k0_pay1]
  simp only [hv]
  rfl

section
variable (x6 : Vec Ideal S1024x4096 .bf16) (x7 : Vec Ideal S4096x1024 .bf16) (k f : Fin 1024)

/-- The columns of chunk 0 of the way up. -/
theorem ld6_0 : (View.ld x6 r0_6 : FVec Ideal S1024x1024 .bf16) (ix2 k f) = x6 (ix2 k ⟨f.val, by omega⟩) := by
  rw [View.ld_unit]; pointwise
/-- The columns of chunk 1 of the way up. -/
theorem ld6_1 : (View.ld x6 r0_8 : FVec Ideal S1024x1024 .bf16) (ix2 k f) = x6 (ix2 k ⟨1024 + f.val, by omega⟩) := by
  rw [View.ld_unit]; pointwise
/-- The columns of chunk 2 of the way up. -/
theorem ld6_2 : (View.ld x6 r0_10 : FVec Ideal S1024x1024 .bf16) (ix2 k f) = x6 (ix2 k ⟨2048 + f.val, by omega⟩) := by
  rw [View.ld_unit]; pointwise
/-- The columns of chunk 3 of the way up. -/
theorem ld6_3 : (View.ld x6 r0_12 : FVec Ideal S1024x1024 .bf16) (ix2 k f) = x6 (ix2 k ⟨3072 + f.val, by omega⟩) := by
  rw [View.ld_unit]; pointwise
/-- The rows of chunk 0 of the way down. -/
theorem ld7_0 : (View.ld x7 r0_7 : FVec Ideal S1024x1024 .bf16) (ix2 k f) = x7 (ix2 ⟨k.val, by omega⟩ f) := by
  rw [View.ld_unit]; pointwise
/-- The rows of chunk 1 of the way down. -/
theorem ld7_1 : (View.ld x7 r0_9 : FVec Ideal S1024x1024 .bf16) (ix2 k f) = x7 (ix2 ⟨1024 + k.val, by omega⟩ f) := by
  rw [View.ld_unit]; pointwise
/-- The rows of chunk 2 of the way down. -/
theorem ld7_2 : (View.ld x7 r0_11 : FVec Ideal S1024x1024 .bf16) (ix2 k f) = x7 (ix2 ⟨2048 + k.val, by omega⟩ f) := by
  rw [View.ld_unit]; pointwise
/-- The rows of chunk 3 of the way down. -/
theorem ld7_3 : (View.ld x7 r0_13 : FVec Ideal S1024x1024 .bf16) (ix2 k f) = x7 (ix2 ⟨3072 + k.val, by omega⟩ f) := by
  rw [View.ld_unit]; pointwise
end

section
variable (x4 : Vec Ideal S1024x1024 .bf16) (k : Fin 512) (j : Fin 1024)
/-- Half 0 of the output projection's rows. -/
theorem ld4_0 : (View.ld x4 r0_2 : FVec Ideal S512x1024 .bf16) (ix2 k j) = x4 (ix2 ⟨k.val, by omega⟩ j) := by
  rw [View.ld_unit]; pointwise
/-- Half 1 of the output projection's rows. -/
theorem ld4_1 : (View.ld x4 r0_4 : FVec Ideal S512x1024 .bf16) (ix2 k j) = x4 (ix2 ⟨512 + k.val, by omega⟩ j) := by
  rw [View.ld_unit]; pointwise
end

/-- The blocks a point reads hold the weights, and at their row `r` the row `x` with its heads `o` and `y`. -/
structure Reads (P : Params) (x : Fin 1024 → EReal) (o y : Fin 512 → EReal) (r : Fin 512) (x0 : Vec Ideal S512x1024 .f32) (x1 : Vec Ideal S512x512 .f32)
    (x2 : Vec Ideal S512x512 .bf16) (x3 : Vec Ideal S512x1 .f32) (x4 : Vec Ideal S1024x1024 .bf16) (x5 : Vec Ideal S1x1024 .f32)
    (x6 : Vec Ideal S1024x4096 .bf16) (x7 : Vec Ideal S4096x1024 .bf16) (x8 : Vec Ideal S1x1024 .f32) : Prop where
  h0 : ∀ j, x0 (ix2 r j) = x j
  h1 : ∀ k, x1 (ix2 k r) = o k
  h2 : ∀ k, x2 (ix2 r k) = y k
  h3 : ∀ k, x3 (ix2 k 0) = P.ga k
  h4 : ∀ k j, x4 (ix2 k j) = P.wo k j
  h5 : ∀ k, x5 (ix2 0 k) = P.nm k
  h6 : ∀ k f, x6 (ix2 k f) = P.wu k f
  h7 : ∀ f j, x7 (ix2 f j) = P.wd f j
  h8 : ∀ k, x8 (ix2 0 k) = P.nf k

/-- What a point leaves in its block of results. -/
theorem out_at (P : Params) (x : Fin 1024 → EReal) (o y : Fin 512 → EReal) (r : Fin 512) (x0 : Vec Ideal S512x1024 .f32) (x1 : Vec Ideal S512x512 .f32)
    (x2 : Vec Ideal S512x512 .bf16) (x3 : Vec Ideal S512x1 .f32) (x4 : Vec Ideal S1024x1024 .bf16) (x5 : Vec Ideal S1x1024 .f32)
    (x6 : Vec Ideal S1024x4096 .bf16) (x7 : Vec Ideal S4096x1024 .bf16) (x8 : Vec Ideal S1x1024 .f32) (H : Reads P x o y r x0 x1 x2 x3 x4 x5 x6 x7 x8) (j : Fin 1024) :
    out0_9 x0 x1 x2 x3 x4 x5 x6 x7 x8 (ix2 r j) = outS P (Mlp.x1 P x o y) j := by
  have e2 : ∀ j, k0_pay7 x0 x1 x2 x3 x4 x5 x6 x7 x8 (ix2 r j) = Mlp.x1 P x o y j := by
    intro j
    unfold k0_pay7
    exact pay2_at P x o y _ _ _ _ _ _ r (fun k => (congrFun (View.ld_unit_zero (S := S512x512) hz2 _ _) _).trans (H.h1 k))
      (fun k => (congrFun (View.ld_unit_zero (S := S512x1) hz2 _ _) _).trans (H.h3 k)) (fun k j => (ld4_0 x4 k j).trans (H.h4 _ _))
      (fun j => (congrFun (View.ld_unit_zero (S := S512x1024) hz2 _ _) _).trans (H.h0 j)) (fun k => (congrFun (View.ld_unit_zero (S := S512x512) hz2 _ _) _).trans (H.h2 k))
      (fun k j => (ld4_1 x4 k j).trans (H.h4 _ _)) j
  have e8 : ∀ k, k0_pay8 x0 x1 x2 x3 x4 x5 x6 x7 x8 (ix2 0 k) = P.nm k := fun k =>
    (pay3_at _ k).trans ((congrFun (View.ld_unit_zero (S := S1x1024) hz2 _ _) _).trans (H.h5 k))
  have e9 := fun k => pay4_at (View.ld x1 r0_0) (View.ld x3 r0_1) (View.ld x4 r0_2) (View.ld x0 r0_3) (View.ld x2 r0_0) (View.ld x4 r0_4) r k _ e2
  have e5 : ∀ k, k0_pay5 (k0_pay7 x0 x1 x2 x3 x4 x5 x6 x7 x8) (k0_pay8 x0 x1 x2 x3 x4 x5 x6 x7 x8) (k0_pay9 x0 x1 x2 x3 x4 x5 x6 x7 x8) (ix2 r k)
      = norm (Ideal.ofBits .f32 0x44800000#32) (Mlp.x1 P x o y) P.nm k := by
    intro k
    rw [pay5_at, e2, e8]
    unfold k0_pay9
    rw [e9]
    rfl
  have q0 : ∀ j, quarter (norm (Ideal.ofBits .f32 0x44800000#32) (Mlp.x1 P x o y) P.nm) (View.ld x6 r0_6) (View.ld x7 r0_7) j
      = ∑ f : Fin 1024, hid P (Mlp.x1 P x o y) ⟨f.val, by omega⟩ * P.wd ⟨f.val, by omega⟩ j :=
    quarter_eq _ _ _ _ _ (fun k f => (ld6_0 x6 k f).trans (H.h6 _ _)) (fun f j => (ld7_0 x7 f j).trans (H.h7 _ _))
  have q1 : ∀ j, quarter (norm (Ideal.ofBits .f32 0x44800000#32) (Mlp.x1 P x o y) P.nm) (View.ld x6 r0_8) (View.ld x7 r0_9) j
      = ∑ f : Fin 1024, hid P (Mlp.x1 P x o y) ⟨1024 + f.val, by omega⟩ * P.wd ⟨1024 + f.val, by omega⟩ j :=
    quarter_eq _ _ _ _ _ (fun k f => (ld6_1 x6 k f).trans (H.h6 _ _)) (fun f j => (ld7_1 x7 f j).trans (H.h7 _ _))
  have q2 : ∀ j, quarter (norm (Ideal.ofBits .f32 0x44800000#32) (Mlp.x1 P x o y) P.nm) (View.ld x6 r0_10) (View.ld x7 r0_11) j
      = ∑ f : Fin 1024, hid P (Mlp.x1 P x o y) ⟨2048 + f.val, by omega⟩ * P.wd ⟨2048 + f.val, by omega⟩ j :=
    quarter_eq _ _ _ _ _ (fun k f => (ld6_2 x6 k f).trans (H.h6 _ _)) (fun f j => (ld7_2 x7 f j).trans (H.h7 _ _))
  have q3 : ∀ j, quarter (norm (Ideal.ofBits .f32 0x44800000#32) (Mlp.x1 P x o y) P.nm) (View.ld x6 r0_12) (View.ld x7 r0_13) j
      = ∑ f : Fin 1024, hid P (Mlp.x1 P x o y) ⟨3072 + f.val, by omega⟩ * P.wd ⟨3072 + f.val, by omega⟩ j :=
    quarter_eq _ _ _ _ _ (fun k f => (ld6_3 x6 k f).trans (H.h6 _ _)) (fun f j => (ld7_3 x7 f j).trans (H.h7 _ _))
  unfold out0_9
  rw [View.canon_unit_zero hz2]
  refine (pay1_at _ _ _ _ _ _ r j _ (fun j => Mlp.x1 P x o y j + ∑ f : Fin 4096, hid P (Mlp.x1 P x o y) f * P.wd f j) e5 (fun j => ?_)).trans ?_
  · rw [e2, pay6_at _ _ _ _ _ _ _ _ _ r j _ e5, q0, q1, q2, q3, sum_quarters]
  · refine congrArg (fun g => norm _ _ g j) (funext fun k => ?_)
    exact (congrFun (View.ld_unit_zero (S := S1x1024) hz2 _ _) _).trans (H.h8 k)

variable (m : (ℓ : Loc nD τ sig) → Buf (Elt Ideal) ℓ) (c : Dev nD)

/-- The weights, read off the arguments. -/
def par : Params where
  ga k := (m (c, Proc.devRef .tc main_arg3) : FVec Ideal S1x512 .f32) (ix2 0 k)
  wo k j := (m (c, Proc.devRef .tc main_arg4) : FVec Ideal S1x1024x1024 .f32) (ix3 0 k j)
  nm k := (m (c, Proc.devRef .tc main_arg5) : FVec Ideal S1x1024 .f32) (ix2 0 k)
  wu k f := (m (c, Proc.devRef .tc main_arg6) : FVec Ideal S1x1024x4096 .f32) (ix3 0 k f)
  wd f j := (m (c, Proc.devRef .tc main_arg7) : FVec Ideal S1x4096x1024 .f32) (ix3 0 f j)
  nf k := (m (c, Proc.devRef .tc main_arg8) : FVec Ideal S1024 .f32) (ix1 k)

/-! ## What the grid finds of the weights -/

/-- The heads' norm, as the grid finds it. -/
theorem ga_at (k : Fin 512) : (V m c main_v1 : FVec Ideal S512x1 .f32) (ix2 k 0) = (par m c).ga k := by
  simp only [V]
  after_reads_at
  rfl
/-- The output projection, as the grid finds it. -/
theorem wo_at (k j : Fin 1024) : (V m c main_v3 : FVec Ideal S1024x1024 .bf16) (ix2 k j) = (par m c).wo k j := by
  simp only [V]
  after_reads_at
  rfl
/-- The norm before the network, as the grid finds it. -/
theorem nm_at (k : Fin 1024) : (V m c main_v5 : FVec Ideal S1x1024 .f32) (ix2 0 k) = (par m c).nm k := by
  simp only [V]
  after_reads_at
  rfl
/-- The way up, as the grid finds it. -/
theorem wu_at (k : Fin 1024) (f : Fin 4096) : (V m c main_v7 : FVec Ideal S1024x4096 .bf16) (ix2 k f) = (par m c).wu k f := by
  simp only [V]
  after_reads_at
  rfl
/-- The way down, as the grid finds it. -/
theorem wd_at (f : Fin 4096) (j : Fin 1024) : (V m c main_v9 : FVec Ideal S4096x1024 .bf16) (ix2 f j) = (par m c).wd f j := by
  simp only [V]
  after_reads_at
  rfl
/-- The last norm, as the grid finds it. -/
theorem nf_at (k : Fin 1024) : (V m c main_v10 : FVec Ideal S1x1024 .f32) (ix2 0 k) = (par m c).nf k := by
  simp only [V]
  after_reads_at
  rfl

/-! ## Where the blocks lie -/

/-- Where the block of window 0 lies at a point of the grid. -/
theorem index0 : ∀ t : Fin cfg0.N, win0_0.index t (0 : Fin 2) = t.val ∧ win0_0.index t (1 : Fin 2) = 0 :=
  (by decide +kernel : ∀ t : Fin grid0.N, _)
/-- Where the block of window 1 lies at a point of the grid. -/
theorem index1 : ∀ t : Fin cfg0.N, win0_1.index t (0 : Fin 2) = 0 ∧ win0_1.index t (1 : Fin 2) = t.val :=
  (by decide +kernel : ∀ t : Fin grid0.N, _)
/-- Where the block of window 2 lies at a point of the grid. -/
theorem index2 : ∀ t : Fin cfg0.N, win0_2.index t (0 : Fin 2) = t.val ∧ win0_2.index t (1 : Fin 2) = 0 :=
  (by decide +kernel : ∀ t : Fin grid0.N, _)
/-- Where the block of window 3 lies at a point of the grid. -/
theorem index3 : ∀ t : Fin cfg0.N, win0_3.index t (0 : Fin 2) = 0 ∧ win0_3.index t (1 : Fin 2) = 0 :=
  (by decide +kernel : ∀ t : Fin grid0.N, _)
/-- Where the block of window 4 lies at a point of the grid. -/
theorem index4 : ∀ t : Fin cfg0.N, win0_4.index t (0 : Fin 2) = 0 ∧ win0_4.index t (1 : Fin 2) = 0 :=
  (by decide +kernel : ∀ t : Fin grid0.N, _)
/-- Where the block of window 5 lies at a point of the grid. -/
theorem index5 : ∀ t : Fin cfg0.N, win0_5.index t (0 : Fin 2) = 0 ∧ win0_5.index t (1 : Fin 2) = 0 :=
  (by decide +kernel : ∀ t : Fin grid0.N, _)
/-- Where the block of window 6 lies at a point of the grid. -/
theorem index6 : ∀ t : Fin cfg0.N, win0_6.index t (0 : Fin 2) = 0 ∧ win0_6.index t (1 : Fin 2) = 0 :=
  (by decide +kernel : ∀ t : Fin grid0.N, _)
/-- Where the block of window 7 lies at a point of the grid. -/
theorem index7 : ∀ t : Fin cfg0.N, win0_7.index t (0 : Fin 2) = 0 ∧ win0_7.index t (1 : Fin 2) = 0 :=
  (by decide +kernel : ∀ t : Fin grid0.N, _)
/-- Where the block of window 8 lies at a point of the grid. -/
theorem index8 : ∀ t : Fin cfg0.N, win0_8.index t (0 : Fin 2) = 0 ∧ win0_8.index t (1 : Fin 2) = 0 :=
  (by decide +kernel : ∀ t : Fin grid0.N, _)
/-- Where the block of window 9 lies at a point of the grid. -/
theorem index9 : ∀ t : Fin cfg0.N, win0_9.index t (0 : Fin 2) = t.val ∧ win0_9.index t (1 : Fin 2) = 0 :=
  (by decide +kernel : ∀ t : Fin grid0.N, _)

/-- A block of the rows, read at an index. -/
theorem x_at (t : Fin cfg0.N) (r : Fin 512) (j : Fin 1024) (h : 512 * t.val + r.val < 16384) :
    (iblk m c 0 t : FVec Ideal S512x1024 .f32) (ix2 r j) = (m (c, Proc.devRef .tc main_arg0) : FVec Ideal S16384x1024 .f32) (ix2 ⟨512 * t.val + r.val, h⟩ j) := by
  blk_ext! [iblk, V, index0 t]
/-- A block of the attention heads, read at an index. -/
theorem o_at (t : Fin cfg0.N) (k r : Fin 512) (h : 512 * t.val + r.val < 16384) :
    (iblk m c 1 t : FVec Ideal S512x512 .f32) (ix2 k r) = (m (c, Proc.devRef .tc main_arg1) : FVec Ideal S512x16384 .f32) (ix2 k ⟨512 * t.val + r.val, h⟩) := by
  blk_ext! [iblk, V, index1 t]
/-- A block of the recurrent heads, read at an index. -/
theorem y_at (t : Fin cfg0.N) (r k : Fin 512) (h : 512 * t.val + r.val < 16384) :
    (iblk m c 2 t : FVec Ideal S512x512 .bf16) (ix2 r k) = (m (c, Proc.devRef .tc main_arg2) : FVec Ideal S16384x512 .bf16) (ix2 ⟨512 * t.val + r.val, h⟩ k) := by
  blk_ext! [iblk, V, index2 t]
/-- Window 3 has one block, the whole array. -/
theorem blk3 (t : Fin cfg0.N) (k : Fin 512) (d : Fin 1) :
    (iblk m c 3 t : FVec Ideal S512x1 .f32) (ix2 k d) = (V m c main_v1 : FVec Ideal S512x1 .f32) (ix2 k d) := by
  unfold iblk
  generalize V m c = W
  blk_ext [index3 t]
/-- Window 4 has one block, the whole array. -/
theorem blk4 (t : Fin cfg0.N) (k : Fin 1024) (d : Fin 1024) :
    (iblk m c 4 t : FVec Ideal S1024x1024 .bf16) (ix2 k d) = (V m c main_v3 : FVec Ideal S1024x1024 .bf16) (ix2 k d) := by
  unfold iblk
  generalize V m c = W
  blk_ext [index4 t]
/-- Window 5 has one block, the whole array. -/
theorem blk5 (t : Fin cfg0.N) (k : Fin 1) (d : Fin 1024) :
    (iblk m c 5 t : FVec Ideal S1x1024 .f32) (ix2 k d) = (V m c main_v5 : FVec Ideal S1x1024 .f32) (ix2 k d) := by
  unfold iblk
  generalize V m c = W
  blk_ext [index5 t]
/-- Window 6 has one block, the whole array. -/
theorem blk6 (t : Fin cfg0.N) (k : Fin 1024) (d : Fin 4096) :
    (iblk m c 6 t : FVec Ideal S1024x4096 .bf16) (ix2 k d) = (V m c main_v7 : FVec Ideal S1024x4096 .bf16) (ix2 k d) := by
  unfold iblk
  generalize V m c = W
  blk_ext [index6 t]
/-- Window 7 has one block, the whole array. -/
theorem blk7 (t : Fin cfg0.N) (k : Fin 4096) (d : Fin 1024) :
    (iblk m c 7 t : FVec Ideal S4096x1024 .bf16) (ix2 k d) = (V m c main_v9 : FVec Ideal S4096x1024 .bf16) (ix2 k d) := by
  unfold iblk
  generalize V m c = W
  blk_ext [index7 t]
/-- Window 8 has one block, the whole array. -/
theorem blk8 (t : Fin cfg0.N) (k : Fin 1) (d : Fin 1024) :
    (iblk m c 8 t : FVec Ideal S1x1024 .f32) (ix2 k d) = (V m c main_v10 : FVec Ideal S1x1024 .f32) (ix2 k d) := by
  unfold iblk
  generalize V m c = W
  blk_ext [index8 t]

/-- What a point reads. -/
theorem reads (t : Fin cfg0.N) (r : Fin 512) (h : 512 * t.val + r.val < 16384) :
    Reads (par m c) (fun k => (m (c, Proc.devRef .tc main_arg0) : FVec Ideal S16384x1024 .f32) (ix2 ⟨512 * t.val + r.val, h⟩ k))
      (fun k => (m (c, Proc.devRef .tc main_arg1) : FVec Ideal S512x16384 .f32) (ix2 k ⟨512 * t.val + r.val, h⟩))
      (fun k => (m (c, Proc.devRef .tc main_arg2) : FVec Ideal S16384x512 .bf16) (ix2 ⟨512 * t.val + r.val, h⟩ k)) r
      (iblk m c 0 t) (iblk m c 1 t) (iblk m c 2 t) (iblk m c 3 t) (iblk m c 4 t) (iblk m c 5 t) (iblk m c 6 t) (iblk m c 7 t) (iblk m c 8 t) where
  h0 j := x_at m c t r j h
  h1 k := o_at m c t k r h
  h2 k := y_at m c t r k h
  h3 k := (blk3 m c t k 0).trans (ga_at m c k)
  h4 k j := (blk4 m c t k j).trans (wo_at m c k j)
  h5 k := (blk5 m c t 0 k).trans (nm_at m c k)
  h6 k f := (blk6 m c t k f).trans (wu_at m c k f)
  h7 f j := (blk7 m c t f j).trans (wd_at m c f j)
  h8 k := (blk8 m c t 0 k).trans (nf_at m c k)

/-- A block of the array of results, read at an index. -/
theorem blk9 (A : Buf (Elt Ideal) ((c : Thread nD τ).loc main_v11)) (t : Fin cfg0.N) (r : Fin 512) (j : Fin 1024) (h : 512 * t.val + r.val < 16384) :
    (((cfg0.win 9).blk t).view.read (Elt Ideal) A : FVec Ideal S512x1024 .f32) (ix2 r j) = (A : FVec Ideal S16384x1024 .f32) (ix2 ⟨512 * t.val + r.val, h⟩ j) := by
  blk_ext [index9 t]

/-- The array of results, at an index. -/
theorem final_at (i : Fin 16384) (j : Fin 1024) :
    ((dats m 0 c).arrAt 9 cfg0.N : FVec Ideal S16384x1024 .f32) (ix2 i j)
      = outS (par m c) (x1 (par m c) (fun k => (m (c, Proc.devRef .tc main_arg0) : FVec Ideal S16384x1024 .f32) (ix2 i k))
          (fun k => (m (c, Proc.devRef .tc main_arg1) : FVec Ideal S512x16384 .f32) (ix2 k i))
          (fun k => (m (c, Proc.devRef .tc main_arg2) : FVec Ideal S16384x512 .bf16) (ix2 i k))) j := by
  have hi := i.isLt
  have hN : i.val / 512 < cfg0.N := lt_of_lt_of_eq (by omega) N_0.symm
  have h : 512 * (⟨i.val / 512, hN⟩ : Fin cfg0.N).val + (⟨i.val % 512, by omega⟩ : Fin 512).val < 16384 := by
    show 512 * (i.val / 512) + i.val % 512 < 16384
    omega
  have e : (⟨512 * (⟨i.val / 512, hN⟩ : Fin cfg0.N).val + (⟨i.val % 512, by omega⟩ : Fin 512).val, h⟩ : Fin 16384) = i :=
    Fin.ext (by show 512 * (i.val / 512) + i.val % 512 = i.val; omega)
  have hb := congrFun ((blocks9 m c ⟨i.val / 512, hN⟩ (flush0_9 _)).trans (flushed9 m c ⟨i.val / 512, hN⟩)) (ix2 ⟨i.val % 512, by omega⟩ j)
  have ho := out_at _ _ _ _ _ _ _ _ _ _ _ _ _ _ (reads m c ⟨i.val / 512, hN⟩ ⟨i.val % 512, by omega⟩ h) j
  rw [e] at ho
  refine Eq.trans ?_ ho
  refine Eq.trans ?_ hb
  refine Eq.trans ?_ (blk9 c _ ⟨i.val / 512, hN⟩ ⟨i.val % 512, by omega⟩ j h).symm
  rw [e]

end Cert.Mlp.Ker2

end
-- ==== Proof.Mlp.Ref2.lean ====
/-
  The reference of the layer's second half, read at an index: the stages of its result, one after the other.
-/
module

public import proofs.«01_k».proof.Proof.Mlp.Spec
public import proofs.«01_k».proof.Proof.Gen.Reference2Ideal.Run

@[expose] public section

set_option maxRecDepth 16384

noncomputable section

namespace Cert.Mlp.Ref2

open Idealize.ShloMosaic Idealize.ShloMosaic.TcCoe Cert.Reference2Ideal Cert.Reference2Ideal.Gen Cert.Reference2Ideal.Value

/-- The attention heads' rows, each divided by the root of its mean square, times the weights. -/
def oN (T : FVec Ideal S16384x512 .f32) (a3 : FVec Ideal S1x512 .f32) : FVec Ideal S16384x512 .f32 :=
  mulf (mulf T (broadcastInDim S16384x512 ![0, 1] bcast_S16384x1_S16384x512_0_1 (Host.rsqrt (addf (Host.divf (broadcastInDim S16384x1 ![0] bcast_S16384_S16384x1_0 (Host.reduceAdd (mulf T T) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 (shapeCast _ a3 shapeCasts_S1x512_S512)))

/-- The rows after the heads. -/
def x1R (a0 : FVec Ideal S16384x1024 .f32) (o : FVec Ideal S16384x512 .f32) (a2 : FVec Ideal S16384x512 .bf16) (a4 : FVec Ideal S1x1024x1024 .f32) : FVec Ideal S16384x1024 .f32 :=
  addf a0 (Host.dotGeneral dot_S16384x1024_S1024x1024_S16384x1024_1_0_0_1_n_n none (concatenate S16384x1024 1 [⟨S16384x512, o⟩, ⟨S16384x512, (extf .f32 a2 bitsLt_bf16_f32)⟩] concatenates_S16384x512_S16384x512_S16384x1024_d1) (shapeCast _ a4 shapeCasts_S1x1024x1024_S1024x1024))

/-- Rows of 1024, each divided by the root of its mean square, times the weights. -/
def nR (x1 : FVec Ideal S16384x1024 .f32) (g : FVec Ideal S1024 .f32) : FVec Ideal S16384x1024 .f32 :=
  mulf (mulf x1 (broadcastInDim S16384x1024 ![0, 1] bcast_S16384x1_S16384x1024_0_1 (Host.rsqrt (addf (Host.divf (broadcastInDim S16384x1 ![0] bcast_S16384_S16384x1_0 (Host.reduceAdd (mulf x1 x1) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The rows after the network. -/
def x2R (x1 v : FVec Ideal S16384x1024 .f32) (a6 : FVec Ideal S1x1024x4096 .f32) (a7 : FVec Ideal S1x4096x1024 .f32) : FVec Ideal S16384x1024 .f32 :=
  addf x1 (Host.dotGeneral dot_S16384x4096_S4096x1024_S16384x1024_1_0_0_1_n_n none (mulf (maximumf (Host.dotGeneral dot_S16384x1024_S1024x4096_S16384x4096_1_0_0_1_n_n none v (shapeCast _ a6 shapeCasts_S1x1024x4096_S1024x4096)) (broadcastInDim S16384x4096 ![] bcast_S_S16384x4096 (constant S_ .f32 0x00000000#32))) (maximumf (Host.dotGeneral dot_S16384x1024_S1024x4096_S16384x4096_1_0_0_1_n_n none v (shapeCast _ a6 shapeCasts_S1x1024x4096_S1024x4096)) (broadcastInDim S16384x4096 ![] bcast_S_S16384x4096 (constant S_ .f32 0x00000000#32)))) (shapeCast _ a7 shapeCasts_S1x4096x1024_S4096x1024))

/-- The weights, read off the arguments. -/
def par (a3 : FVec Ideal S1x512 .f32) (a4 : FVec Ideal S1x1024x1024 .f32) (a5 : FVec Ideal S1x1024 .f32) (a6 : FVec Ideal S1x1024x4096 .f32)
    (a7 : FVec Ideal S1x4096x1024 .f32) (a8 : FVec Ideal S1024 .f32) : Params where
  ga k := a3 (ix2 0 k)
  wo k j := a4 (ix3 0 k j)
  nm k := a5 (ix2 0 k)
  wu k f := a6 (ix3 0 k f)
  wd f j := a7 (ix3 0 f j)
  nf k := a8 (ix1 k)

section
variable (a0 : FVec Ideal S16384x1024 .f32) (a1 : FVec Ideal S512x16384 .f32) (a2 : FVec Ideal S16384x512 .bf16) (a3 : FVec Ideal S1x512 .f32) (a4 : FVec Ideal S1x1024x1024 .f32) (a5 : FVec Ideal S1x1024 .f32) (a6 : FVec Ideal S1x1024x4096 .f32)
  (a7 : FVec Ideal S1x4096x1024 .f32) (a8 : FVec Ideal S1024 .f32)

/-- A normed row of the attention heads. -/
theorem oN_at (T : FVec Ideal S16384x512 .f32) (r : Fin 16384) (k : Fin 512) :
    oN T a3 (ix2 r k) = norm (Ideal.ofBits .f32 0x44000000#32) (fun k => T (ix2 r k)) (par a3 a4 a5 a6 a7 a8).ga k := by
  pointwise [oN]
  rfl

/-- A normed row. -/
theorem nR_at (x : FVec Ideal S16384x1024 .f32) (g : FVec Ideal S1024 .f32) (r : Fin 16384) (k : Fin 1024) :
    nR x g (ix2 r k) = norm (Ideal.ofBits .f32 0x44800000#32) (fun k => x (ix2 r k)) (fun k => g (ix1 k)) k := by
  pointwise [nR]
  rfl

/-- A row after the heads. -/
theorem x1R_at (r : Fin 16384) (j : Fin 1024) :
    x1R a0 (oN (transpose S16384x512 [1, 0] a1 transposes_S512x16384_S16384x512_1_0) a3) a2 a4 (ix2 r j)
      = x1 (par a3 a4 a5 a6 a7 a8) (fun k => a0 (ix2 r k)) (fun k => a1 (ix2 k r)) (fun k => a2 (ix2 r k)) j := by
  have h := oN_at a3 a4 a5 a6 a7 a8 (transpose S16384x512 [1, 0] a1 transposes_S512x16384_S16384x512_1_0) r
  have e : (fun k => (transpose S16384x512 [1, 0] a1 transposes_S512x16384_S16384x512_1_0) (ix2 r k)) = fun k => a1 (ix2 k r) := by
    funext k
    pointwise
  rw [e] at h
  generalize oN (transpose S16384x512 [1, 0] a1 transposes_S512x16384_S16384x512_1_0) a3 = v at *
  rw [x1_halves]
  pointwise [x1R]
  simp only [h]
  rfl

/-- A row of the result from a row after the heads. -/
theorem out_at (x : FVec Ideal S16384x1024 .f32) (r : Fin 16384) (j : Fin 1024) :
    nR (x2R x (nR x (shapeCast _ a5 shapeCasts_S1x1024_S1024)) a6 a7) a8 (ix2 r j) = outS (par a3 a4 a5 a6 a7 a8) (fun k => x (ix2 r k)) j := by
  have h := nR_at x (shapeCast _ a5 shapeCasts_S1x1024_S1024) r
  have e : (fun k => (shapeCast S1024 a5 shapeCasts_S1x1024_S1024) (ix1 k)) = fun k => a5 (ix2 0 k) := by
    funext k
    pointwise
  rw [e] at h
  generalize nR x (shapeCast _ a5 shapeCasts_S1x1024_S1024) = v at *
  have h2 : ∀ j, x2R x v a6 a7 (ix2 r j) = x (ix2 r j) + ∑ f : Fin 4096, hid (par a3 a4 a5 a6 a7 a8) (fun k => x (ix2 r k)) f * (par a3 a4 a5 a6 a7 a8).wd f j := by
    intro j
    pointwise [x2R]
    simp only [h]
    rfl
  rw [nR_at]
  simp only [h2]
  rfl

end

/-- The reference's result at an index. -/
theorem res_at (m : (ℓ : Loc nD τ sig) → Buf (Elt Ideal) ℓ) (c : Dev nD) (r : Fin 16384) (j : Fin 1024) :
    (res_main_v53 m c : FVec Ideal S16384x1024 .f32) (ix2 r j)
      = outS (par (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (x1 (par (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (fun k => (m ((c.tc : Thread nD τ).loc main_arg0) : FVec Ideal S16384x1024 .f32) (ix2 r k)) (fun k => (m ((c.tc : Thread nD τ).loc main_arg1) : FVec Ideal S512x16384 .f32) (ix2 k r))
          (fun k => (m ((c.tc : Thread nD τ).loc main_arg2) : FVec Ideal S16384x512 .bf16) (ix2 r k))) j := by
  refine (out_at (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (x1R (m ((c.tc : Thread nD τ).loc main_arg0)) (oN (transpose S16384x512 [1, 0] (m ((c.tc : Thread nD τ).loc main_arg1)) transposes_S512x16384_S16384x512_1_0) (m ((c.tc : Thread nD τ).loc main_arg3))) (m ((c.tc : Thread nD τ).loc main_arg2)) (m ((c.tc : Thread nD τ).loc main_arg4))) r j).trans ?_
  exact congrArg (fun v => outS _ v j) (funext fun k => x1R_at _ _ _ _ _ _ _ _ _ r k)

end Cert.Mlp.Ref2

end
-- ==== Proof.Mlp.Equal2.lean ====
/-
  The layer's second half: the kernel's array of results is the reference's.
-/
module

public import proofs.«01_k».proof.Proof.Mlp.Block2
public import proofs.«01_k».proof.Proof.Mlp.Ref2

@[expose] public section

noncomputable section

namespace Cert.Mlp

open Idealize.ShloMosaic Idealize.ShloMosaic.TcCoe

/-- From memories that agree on the arguments, the two arrays of results are one. -/
theorem equal2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    : (Cert.Reference2Ideal.Value.res_main_v53 m' c : FVec Ideal Cert.Reference2Ideal.S16384x1024 .f32) = (Cert.Kernel2Ideal.Gen.dats m 0 c).arrAt 9 Cert.Kernel2Ideal.cfg0.N := by
  refine funext fun i => ?_
  have hi : i = ix2 (i 0) (i 1) := by
    refine funext fun a => ?_
    match a with
    | ⟨0, _⟩ => rfl
    | ⟨1, _⟩ => rfl
  rw [hi]
  refine (Ref2.res_at m' c (i 0) (i 1)).trans (Eq.trans ?_ (Ker2.final_at m c (i 0) (i 1)).symm)
  rw [h0, h1, h2, h3, h4, h5, h6, h7, h8]
  rfl

end Cert.Mlp

end
-- ==== Proof.Mlp.Block3.lean ====
/-
  The layer's second half on the kernel's side: what one point of the grid leaves, what it reads, and the whole array of results.
-/
module

public import proofs.«01_k».proof.Proof.Mlp.Spec
public import proofs.«01_k».proof.Proof.Gen.Kernel3Ideal.Value
public import Idealize.ShloMosaic.Lib.ValueIdx
public import Idealize.ShloMosaic.Lib.Claim
public import Idealize.ShloMosaic.Lib.StableHlo.ReadAt
public import Idealize.ShloMosaic.Lib.Pipeline.ValueKit.Point

@[expose] public section

set_option maxRecDepth 16384

noncomputable section

namespace Cert.Mlp.Ker3

open Idealize.ShloMosaic Idealize.ShloMosaic.TcCoe Cert.Kernel3Ideal Cert.Kernel3Ideal.Gen Cert.Kernel3Ideal.Value
open Idealize.ShloMosaic.Pipeline (Dat)

/-- The offset of a whole block is zero in both coordinates. -/
theorem hz2 : (![0, 0] : Fin 2 → Nat) = fun _ => 0 := funext fun a => by fin_cases a <;> rfl

/-- The rows after the heads, at an index of the block. -/
theorem pay2_at (P : Params) (x : Fin 1024 → EReal) (o y : Fin 512 → EReal) (v0 : Vec Ideal S512x512 .f32) (v11 : Vec Ideal S512x1 .f32)
    (v16 : Vec Ideal S512x1024 .bf16) (v19 : Vec Ideal S512x1024 .f32) (v20 : Vec Ideal S512x512 .bf16) (v21 : Vec Ideal S512x1024 .bf16) (r : Fin 512)
    (h0 : ∀ k, v0 (ix2 k r) = o k) (h11 : ∀ k, v11 (ix2 k 0) = P.ga k) (h16 : ∀ (k : Fin 512) (j : Fin 1024), v16 (ix2 k j) = P.wo ⟨k.val, by omega⟩ j)
    (h19 : ∀ j, v19 (ix2 r j) = x j) (h20 : ∀ k, v20 (ix2 r k) = y k) (h21 : ∀ (k : Fin 512) (j : Fin 1024), v21 (ix2 k j) = P.wo ⟨512 + k.val, by omega⟩ j)
    (j : Fin 1024) : k0_pay2 v0 v11 v16 v19 v20 v21 (ix2 r j) = x1 P x o y j := by
  rw [x1_halves]
  pointwise [k0_pay2]
  simp only [h0, h11, h16, h19, h20, h21]
  rfl

/-- The normed rows, at an index of the block. -/
theorem pay5_at (v25 : FVec Ideal S512x1024 .f32) (v27 : FVec Ideal S1x1024 .f32) (v36 : FVec Ideal S512x1024 .f32) (r : Fin 512) (k : Fin 1024) :
    k0_pay5 v25 v27 v36 (ix2 r k) = v25 (ix2 r k) * v36 (ix2 r k) * v27 (ix2 0 k) := by
  pointwise [k0_pay5]

/-- The root the rows are divided by, at an index of the block. -/
theorem pay4_at (v0 : Vec Ideal S512x512 .f32) (v11 : Vec Ideal S512x1 .f32)
    (v16 : Vec Ideal S512x1024 .bf16) (v19 : Vec Ideal S512x1024 .f32) (v20 : Vec Ideal S512x512 .bf16) (v21 : Vec Ideal S512x1024 .bf16) (r : Fin 512) (k : Fin 1024)
    (a : Fin 1024 → EReal) (h : ∀ j, k0_pay2 v0 v11 v16 v19 v20 v21 (ix2 r j) = a j) :
    k0_pay4 v0 v11 v16 v19 v20 v21 (ix2 r k) = Ideal.rsqrt (Ideal.div (∑ j : Fin 1024, a j * a j) (Ideal.ofBits .f32 0x44800000#32) + Ideal.ofBits .f32 0x358637BD#32) := by
  unfold k0_pay4
  generalize k0_pay2 v0 v11 v16 v19 v20 v21 = w at *
  pointwise
  simp only [h]

/-- The norm's weights, at an index. -/
theorem pay3_at (v : Vec Ideal S1x1024 .f32) (k : Fin 1024) : k0_pay3 v (ix2 0 k) = v (ix2 0 k) := by
  pointwise [k0_pay3]

/-- One quarter of the network: its share of an entry of the rows. -/
def quarter (v : Fin 1024 → EReal) (wu wd : FVec Ideal S1024x1024 .bf16) (j : Fin 1024) : EReal :=
  ∑ f : Fin 1024, max (∑ k : Fin 1024, v k * wu (ix2 k f)) 0 * max (∑ k : Fin 1024, v k * wu (ix2 k f)) 0 * wd (ix2 f j)

/-- A chunk of 1024 hidden columns, from its block of either weight. -/
theorem quarter_eq (v : Fin 1024 → EReal) (wu wd : FVec Ideal S1024x1024 .bf16) (U D : Fin 1024 → Fin 1024 → EReal) (hu : ∀ k f, wu (ix2 k f) = U k f)
    (hd : ∀ f j, wd (ix2 f j) = D f j) (j : Fin 1024) :
    quarter v wu wd j = ∑ f : Fin 1024, max (∑ k : Fin 1024, v k * U k f) 0 * max (∑ k : Fin 1024, v k * U k f) 0 * D f j := by
  unfold quarter
  simp only [hu, hd]

/-- Three quarters of the network, at an index of the block. -/
theorem pay6_at (v25 : FVec Ideal S512x1024 .f32) (v27 : FVec Ideal S1x1024 .f32) (v36 : FVec Ideal S512x1024 .f32)
    (u0 d0 u1 d1 u2 d2 : Vec Ideal S1024x1024 .bf16) (r : Fin 512) (j : Fin 1024) (v : Fin 1024 → EReal) (h : ∀ k, k0_pay5 v25 v27 v36 (ix2 r k) = v k) :
    k0_pay6 v25 v27 v36 u0 d0 u1 d1 u2 d2 (ix2 r j) = quarter v u0 d0 j + quarter v u1 d1 j + quarter v u2 d2 j := by
  unfold k0_pay6
  generalize k0_pay5 v25 v27 v36 = w at *
  pointwise
  simp only [h]
  rfl

/-- The block of results from the rows after the heads, at an index. -/
theorem pay1_at (v25 : FVec Ideal S512x1024 .f32) (w : FVec Ideal S512x1024 .bf16) (v74 : FVec Ideal S512x1024 .f32) (u3 d3 : Vec Ideal S1024x1024 .bf16) (g : Vec Ideal S1x1024 .f32)
    (r : Fin 512) (j : Fin 1024) (v a : Fin 1024 → EReal) (hv : ∀ k, w (ix2 r k) = v k) (ha : ∀ j, v25 (ix2 r j) + (v74 (ix2 r j) + quarter v u3 d3 j) = a j) :
    k0_pay1 v25 w v74 u3 d3 g (ix2 r j) = norm (Ideal.ofBits .f32 0x44800000#32) a (fun k => g (ix2 0 k)) j := by
  obtain rfl : (fun j => v25 (ix2 r j) + (v74 (ix2 r j) + quarter v u3 d3 j)) = a := funext ha
  pointwise [k0_pay1]
  simp only [hv]
  rfl

section
variable (x6 : Vec Ideal S1024x4096 .bf16) (x7 : Vec Ideal S4096x1024 .bf16) (k f : Fin 1024)

/-- The columns of chunk 0 of the way up. -/
theorem ld6_0 : (View.ld x6 r0_6 : FVec Ideal S1024x1024 .bf16) (ix2 k f) = x6 (ix2 k ⟨f.val, by omega⟩) := by
  rw [View.ld_unit]; pointwise
/-- The columns of chunk 1 of the way up. -/
theorem ld6_1 : (View.ld x6 r0_8 : FVec Ideal S1024x1024 .bf16) (ix2 k f) = x6 (ix2 k ⟨1024 + f.val, by omega⟩) := by
  rw [View.ld_unit]; pointwise
/-- The columns of chunk 2 of the way up. -/
theorem ld6_2 : (View.ld x6 r0_10 : FVec Ideal S1024x1024 .bf16) (ix2 k f) = x6 (ix2 k ⟨2048 + f.val, by omega⟩) := by
  rw [View.ld_unit]; pointwise
/-- The columns of chunk 3 of the way up. -/
theorem ld6_3 : (View.ld x6 r0_12 : FVec Ideal S1024x1024 .bf16) (ix2 k f) = x6 (ix2 k ⟨3072 + f.val, by omega⟩) := by
  rw [View.ld_unit]; pointwise
/-- The rows of chunk 0 of the way down. -/
theorem ld7_0 : (View.ld x7 r0_7 : FVec Ideal S1024x1024 .bf16) (ix2 k f) = x7 (ix2 ⟨k.val, by omega⟩ f) := by
  rw [View.ld_unit]; pointwise
/-- The rows of chunk 1 of the way down. -/
theorem ld7_1 : (View.ld x7 r0_9 : FVec Ideal S1024x1024 .bf16) (ix2 k f) = x7 (ix2 ⟨1024 + k.val, by omega⟩ f) := by
  rw [View.ld_unit]; pointwise
/-- The rows of chunk 2 of the way down. -/
theorem ld7_2 : (View.ld x7 r0_11 : FVec Ideal S1024x1024 .bf16) (ix2 k f) = x7 (ix2 ⟨2048 + k.val, by omega⟩ f) := by
  rw [View.ld_unit]; pointwise
/-- The rows of chunk 3 of the way down. -/
theorem ld7_3 : (View.ld x7 r0_13 : FVec Ideal S1024x1024 .bf16) (ix2 k f) = x7 (ix2 ⟨3072 + k.val, by omega⟩ f) := by
  rw [View.ld_unit]; pointwise
end

section
variable (x4 : Vec Ideal S1024x1024 .bf16) (k : Fin 512) (j : Fin 1024)
/-- Half 0 of the output projection's rows. -/
theorem ld4_0 : (View.ld x4 r0_2 : FVec Ideal S512x1024 .bf16) (ix2 k j) = x4 (ix2 ⟨k.val, by omega⟩ j) := by
  rw [View.ld_unit]; pointwise
/-- Half 1 of the output projection's rows. -/
theorem ld4_1 : (View.ld x4 r0_4 : FVec Ideal S512x1024 .bf16) (ix2 k j) = x4 (ix2 ⟨512 + k.val, by omega⟩ j) := by
  rw [View.ld_unit]; pointwise
end

/-- The blocks a point reads hold the weights, and at their row `r` the row `x` with its heads `o` and `y`. -/
structure Reads (P : Params) (x : Fin 1024 → EReal) (o y : Fin 512 → EReal) (r : Fin 512) (x0 : Vec Ideal S512x1024 .f32) (x1 : Vec Ideal S512x512 .f32)
    (x2 : Vec Ideal S512x512 .bf16) (x3 : Vec Ideal S512x1 .f32) (x4 : Vec Ideal S1024x1024 .bf16) (x5 : Vec Ideal S1x1024 .f32)
    (x6 : Vec Ideal S1024x4096 .bf16) (x7 : Vec Ideal S4096x1024 .bf16) (x8 : Vec Ideal S1x1024 .f32) : Prop where
  h0 : ∀ j, x0 (ix2 r j) = x j
  h1 : ∀ k, x1 (ix2 k r) = o k
  h2 : ∀ k, x2 (ix2 r k) = y k
  h3 : ∀ k, x3 (ix2 k 0) = P.ga k
  h4 : ∀ k j, x4 (ix2 k j) = P.wo k j
  h5 : ∀ k, x5 (ix2 0 k) = P.nm k
  h6 : ∀ k f, x6 (ix2 k f) = P.wu k f
  h7 : ∀ f j, x7 (ix2 f j) = P.wd f j
  h8 : ∀ k, x8 (ix2 0 k) = P.nf k

/-- What a point leaves in its block of results. -/
theorem out_at (P : Params) (x : Fin 1024 → EReal) (o y : Fin 512 → EReal) (r : Fin 512) (x0 : Vec Ideal S512x1024 .f32) (x1 : Vec Ideal S512x512 .f32)
    (x2 : Vec Ideal S512x512 .bf16) (x3 : Vec Ideal S512x1 .f32) (x4 : Vec Ideal S1024x1024 .bf16) (x5 : Vec Ideal S1x1024 .f32)
    (x6 : Vec Ideal S1024x4096 .bf16) (x7 : Vec Ideal S4096x1024 .bf16) (x8 : Vec Ideal S1x1024 .f32) (H : Reads P x o y r x0 x1 x2 x3 x4 x5 x6 x7 x8) (j : Fin 1024) :
    out0_9 x0 x1 x2 x3 x4 x5 x6 x7 x8 (ix2 r j) = outS P (Mlp.x1 P x o y) j := by
  have e2 : ∀ j, k0_pay7 x0 x1 x2 x3 x4 x5 x6 x7 x8 (ix2 r j) = Mlp.x1 P x o y j := by
    intro j
    unfold k0_pay7
    exact pay2_at P x o y _ _ _ _ _ _ r (fun k => (congrFun (View.ld_unit_zero (S := S512x512) hz2 _ _) _).trans (H.h1 k))
      (fun k => (congrFun (View.ld_unit_zero (S := S512x1) hz2 _ _) _).trans (H.h3 k)) (fun k j => (ld4_0 x4 k j).trans (H.h4 _ _))
      (fun j => (congrFun (View.ld_unit_zero (S := S512x1024) hz2 _ _) _).trans (H.h0 j)) (fun k => (congrFun (View.ld_unit_zero (S := S512x512) hz2 _ _) _).trans (H.h2 k))
      (fun k j => (ld4_1 x4 k j).trans (H.h4 _ _)) j
  have e8 : ∀ k, k0_pay8 x0 x1 x2 x3 x4 x5 x6 x7 x8 (ix2 0 k) = P.nm k := fun k =>
    (pay3_at _ k).trans ((congrFun (View.ld_unit_zero (S := S1x1024) hz2 _ _) _).trans (H.h5 k))
  have e9 := fun k => pay4_at (View.ld x1 r0_0) (View.ld x3 r0_1) (View.ld x4 r0_2) (View.ld x0 r0_3) (View.ld x2 r0_0) (View.ld x4 r0_4) r k _ e2
  have e5 : ∀ k, k0_pay5 (k0_pay7 x0 x1 x2 x3 x4 x5 x6 x7 x8) (k0_pay8 x0 x1 x2 x3 x4 x5 x6 x7 x8) (k0_pay9 x0 x1 x2 x3 x4 x5 x6 x7 x8) (ix2 r k)
      = norm (Ideal.ofBits .f32 0x44800000#32) (Mlp.x1 P x o y) P.nm k := by
    intro k
    rw [pay5_at, e2, e8]
    unfold k0_pay9
    rw [e9]
    rfl
  have q0 : ∀ j, quarter (norm (Ideal.ofBits .f32 0x44800000#32) (Mlp.x1 P x o y) P.nm) (View.ld x6 r0_6) (View.ld x7 r0_7) j
      = ∑ f : Fin 1024, hid P (Mlp.x1 P x o y) ⟨f.val, by omega⟩ * P.wd ⟨f.val, by omega⟩ j :=
    quarter_eq _ _ _ _ _ (fun k f => (ld6_0 x6 k f).trans (H.h6 _ _)) (fun f j => (ld7_0 x7 f j).trans (H.h7 _ _))
  have q1 : ∀ j, quarter (norm (Ideal.ofBits .f32 0x44800000#32) (Mlp.x1 P x o y) P.nm) (View.ld x6 r0_8) (View.ld x7 r0_9) j
      = ∑ f : Fin 1024, hid P (Mlp.x1 P x o y) ⟨1024 + f.val, by omega⟩ * P.wd ⟨1024 + f.val, by omega⟩ j :=
    quarter_eq _ _ _ _ _ (fun k f => (ld6_1 x6 k f).trans (H.h6 _ _)) (fun f j => (ld7_1 x7 f j).trans (H.h7 _ _))
  have q2 : ∀ j, quarter (norm (Ideal.ofBits .f32 0x44800000#32) (Mlp.x1 P x o y) P.nm) (View.ld x6 r0_10) (View.ld x7 r0_11) j
      = ∑ f : Fin 1024, hid P (Mlp.x1 P x o y) ⟨2048 + f.val, by omega⟩ * P.wd ⟨2048 + f.val, by omega⟩ j :=
    quarter_eq _ _ _ _ _ (fun k f => (ld6_2 x6 k f).trans (H.h6 _ _)) (fun f j => (ld7_2 x7 f j).trans (H.h7 _ _))
  have q3 : ∀ j, quarter (norm (Ideal.ofBits .f32 0x44800000#32) (Mlp.x1 P x o y) P.nm) (View.ld x6 r0_12) (View.ld x7 r0_13) j
      = ∑ f : Fin 1024, hid P (Mlp.x1 P x o y) ⟨3072 + f.val, by omega⟩ * P.wd ⟨3072 + f.val, by omega⟩ j :=
    quarter_eq _ _ _ _ _ (fun k f => (ld6_3 x6 k f).trans (H.h6 _ _)) (fun f j => (ld7_3 x7 f j).trans (H.h7 _ _))
  unfold out0_9
  rw [View.canon_unit_zero hz2]
  refine (pay1_at _ _ _ _ _ _ r j _ (fun j => Mlp.x1 P x o y j + ∑ f : Fin 4096, hid P (Mlp.x1 P x o y) f * P.wd f j) e5 (fun j => ?_)).trans ?_
  · rw [e2, pay6_at _ _ _ _ _ _ _ _ _ r j _ e5, q0, q1, q2, q3, sum_quarters]
  · refine congrArg (fun g => norm _ _ g j) (funext fun k => ?_)
    exact (congrFun (View.ld_unit_zero (S := S1x1024) hz2 _ _) _).trans (H.h8 k)

variable (m : (ℓ : Loc nD τ sig) → Buf (Elt Ideal) ℓ) (c : Dev nD)

/-- The weights, read off the arguments. -/
def par : Params where
  ga k := (m (c, Proc.devRef .tc main_arg3) : FVec Ideal S1x512 .f32) (ix2 0 k)
  wo k j := (m (c, Proc.devRef .tc main_arg4) : FVec Ideal S1x1024x1024 .f32) (ix3 0 k j)
  nm k := (m (c, Proc.devRef .tc main_arg5) : FVec Ideal S1x1024 .f32) (ix2 0 k)
  wu k f := (m (c, Proc.devRef .tc main_arg6) : FVec Ideal S1x1024x4096 .f32) (ix3 0 k f)
  wd f j := (m (c, Proc.devRef .tc main_arg7) : FVec Ideal S1x4096x1024 .f32) (ix3 0 f j)
  nf k := (m (c, Proc.devRef .tc main_arg8) : FVec Ideal S1024 .f32) (ix1 k)

/-! ## What the grid finds of the weights -/

/-- The heads' norm, as the grid finds it. -/
theorem ga_at (k : Fin 512) : (V m c main_v1 : FVec Ideal S512x1 .f32) (ix2 k 0) = (par m c).ga k := by
  simp only [V]
  after_reads_at
  rfl
/-- The output projection, as the grid finds it. -/
theorem wo_at (k j : Fin 1024) : (V m c main_v3 : FVec Ideal S1024x1024 .bf16) (ix2 k j) = (par m c).wo k j := by
  simp only [V]
  after_reads_at
  rfl
/-- The norm before the network, as the grid finds it. -/
theorem nm_at (k : Fin 1024) : (V m c main_v5 : FVec Ideal S1x1024 .f32) (ix2 0 k) = (par m c).nm k := by
  simp only [V]
  after_reads_at
  rfl
/-- The way up, as the grid finds it. -/
theorem wu_at (k : Fin 1024) (f : Fin 4096) : (V m c main_v7 : FVec Ideal S1024x4096 .bf16) (ix2 k f) = (par m c).wu k f := by
  simp only [V]
  after_reads_at
  rfl
/-- The way down, as the grid finds it. -/
theorem wd_at (f : Fin 4096) (j : Fin 1024) : (V m c main_v9 : FVec Ideal S4096x1024 .bf16) (ix2 f j) = (par m c).wd f j := by
  simp only [V]
  after_reads_at
  rfl
/-- The last norm, as the grid finds it. -/
theorem nf_at (k : Fin 1024) : (V m c main_v10 : FVec Ideal S1x1024 .f32) (ix2 0 k) = (par m c).nf k := by
  simp only [V]
  after_reads_at
  rfl

/-! ## Where the blocks lie -/

/-- Where the block of window 0 lies at a point of the grid. -/
theorem index0 : ∀ t : Fin cfg0.N, win0_0.index t (0 : Fin 2) = t.val ∧ win0_0.index t (1 : Fin 2) = 0 :=
  (by decide +kernel : ∀ t : Fin grid0.N, _)
/-- Where the block of window 1 lies at a point of the grid. -/
theorem index1 : ∀ t : Fin cfg0.N, win0_1.index t (0 : Fin 2) = 0 ∧ win0_1.index t (1 : Fin 2) = t.val :=
  (by decide +kernel : ∀ t : Fin grid0.N, _)
/-- Where the block of window 2 lies at a point of the grid. -/
theorem index2 : ∀ t : Fin cfg0.N, win0_2.index t (0 : Fin 2) = t.val ∧ win0_2.index t (1 : Fin 2) = 0 :=
  (by decide +kernel : ∀ t : Fin grid0.N, _)
/-- Where the block of window 3 lies at a point of the grid. -/
theorem index3 : ∀ t : Fin cfg0.N, win0_3.index t (0 : Fin 2) = 0 ∧ win0_3.index t (1 : Fin 2) = 0 :=
  (by decide +kernel : ∀ t : Fin grid0.N, _)
/-- Where the block of window 4 lies at a point of the grid. -/
theorem index4 : ∀ t : Fin cfg0.N, win0_4.index t (0 : Fin 2) = 0 ∧ win0_4.index t (1 : Fin 2) = 0 :=
  (by decide +kernel : ∀ t : Fin grid0.N, _)
/-- Where the block of window 5 lies at a point of the grid. -/
theorem index5 : ∀ t : Fin cfg0.N, win0_5.index t (0 : Fin 2) = 0 ∧ win0_5.index t (1 : Fin 2) = 0 :=
  (by decide +kernel : ∀ t : Fin grid0.N, _)
/-- Where the block of window 6 lies at a point of the grid. -/
theorem index6 : ∀ t : Fin cfg0.N, win0_6.index t (0 : Fin 2) = 0 ∧ win0_6.index t (1 : Fin 2) = 0 :=
  (by decide +kernel : ∀ t : Fin grid0.N, _)
/-- Where the block of window 7 lies at a point of the grid. -/
theorem index7 : ∀ t : Fin cfg0.N, win0_7.index t (0 : Fin 2) = 0 ∧ win0_7.index t (1 : Fin 2) = 0 :=
  (by decide +kernel : ∀ t : Fin grid0.N, _)
/-- Where the block of window 8 lies at a point of the grid. -/
theorem index8 : ∀ t : Fin cfg0.N, win0_8.index t (0 : Fin 2) = 0 ∧ win0_8.index t (1 : Fin 2) = 0 :=
  (by decide +kernel : ∀ t : Fin grid0.N, _)
/-- Where the block of window 9 lies at a point of the grid. -/
theorem index9 : ∀ t : Fin cfg0.N, win0_9.index t (0 : Fin 2) = t.val ∧ win0_9.index t (1 : Fin 2) = 0 :=
  (by decide +kernel : ∀ t : Fin grid0.N, _)

/-- A block of the rows, read at an index. -/
theorem x_at (t : Fin cfg0.N) (r : Fin 512) (j : Fin 1024) (h : 512 * t.val + r.val < 512) :
    (iblk m c 0 t : FVec Ideal S512x1024 .f32) (ix2 r j) = (m (c, Proc.devRef .tc main_arg0) : FVec Ideal S512x1024 .f32) (ix2 ⟨512 * t.val + r.val, h⟩ j) := by
  blk_ext! [iblk, V, index0 t]
/-- A block of the attention heads, read at an index. -/
theorem o_at (t : Fin cfg0.N) (k r : Fin 512) (h : 512 * t.val + r.val < 512) :
    (iblk m c 1 t : FVec Ideal S512x512 .f32) (ix2 k r) = (m (c, Proc.devRef .tc main_arg1) : FVec Ideal S512x512 .f32) (ix2 k ⟨512 * t.val + r.val, h⟩) := by
  blk_ext! [iblk, V, index1 t]
/-- A block of the recurrent heads, read at an index. -/
theorem y_at (t : Fin cfg0.N) (r k : Fin 512) (h : 512 * t.val + r.val < 512) :
    (iblk m c 2 t : FVec Ideal S512x512 .bf16) (ix2 r k) = (m (c, Proc.devRef .tc main_arg2) : FVec Ideal S512x512 .bf16) (ix2 ⟨512 * t.val + r.val, h⟩ k) := by
  blk_ext! [iblk, V, index2 t]
/-- Window 3 has one block, the whole array. -/
theorem blk3 (t : Fin cfg0.N) (k : Fin 512) (d : Fin 1) :
    (iblk m c 3 t : FVec Ideal S512x1 .f32) (ix2 k d) = (V m c main_v1 : FVec Ideal S512x1 .f32) (ix2 k d) := by
  unfold iblk
  generalize V m c = W
  blk_ext [index3 t]
/-- Window 4 has one block, the whole array. -/
theorem blk4 (t : Fin cfg0.N) (k : Fin 1024) (d : Fin 1024) :
    (iblk m c 4 t : FVec Ideal S1024x1024 .bf16) (ix2 k d) = (V m c main_v3 : FVec Ideal S1024x1024 .bf16) (ix2 k d) := by
  unfold iblk
  generalize V m c = W
  blk_ext [index4 t]
/-- Window 5 has one block, the whole array. -/
theorem blk5 (t : Fin cfg0.N) (k : Fin 1) (d : Fin 1024) :
    (iblk m c 5 t : FVec Ideal S1x1024 .f32) (ix2 k d) = (V m c main_v5 : FVec Ideal S1x1024 .f32) (ix2 k d) := by
  unfold iblk
  generalize V m c = W
  blk_ext [index5 t]
/-- Window 6 has one block, the whole array. -/
theorem blk6 (t : Fin cfg0.N) (k : Fin 1024) (d : Fin 4096) :
    (iblk m c 6 t : FVec Ideal S1024x4096 .bf16) (ix2 k d) = (V m c main_v7 : FVec Ideal S1024x4096 .bf16) (ix2 k d) := by
  unfold iblk
  generalize V m c = W
  blk_ext [index6 t]
/-- Window 7 has one block, the whole array. -/
theorem blk7 (t : Fin cfg0.N) (k : Fin 4096) (d : Fin 1024) :
    (iblk m c 7 t : FVec Ideal S4096x1024 .bf16) (ix2 k d) = (V m c main_v9 : FVec Ideal S4096x1024 .bf16) (ix2 k d) := by
  unfold iblk
  generalize V m c = W
  blk_ext [index7 t]
/-- Window 8 has one block, the whole array. -/
theorem blk8 (t : Fin cfg0.N) (k : Fin 1) (d : Fin 1024) :
    (iblk m c 8 t : FVec Ideal S1x1024 .f32) (ix2 k d) = (V m c main_v10 : FVec Ideal S1x1024 .f32) (ix2 k d) := by
  unfold iblk
  generalize V m c = W
  blk_ext [index8 t]

/-- What a point reads. -/
theorem reads (t : Fin cfg0.N) (r : Fin 512) (h : 512 * t.val + r.val < 512) :
    Reads (par m c) (fun k => (m (c, Proc.devRef .tc main_arg0) : FVec Ideal S512x1024 .f32) (ix2 ⟨512 * t.val + r.val, h⟩ k))
      (fun k => (m (c, Proc.devRef .tc main_arg1) : FVec Ideal S512x512 .f32) (ix2 k ⟨512 * t.val + r.val, h⟩))
      (fun k => (m (c, Proc.devRef .tc main_arg2) : FVec Ideal S512x512 .bf16) (ix2 ⟨512 * t.val + r.val, h⟩ k)) r
      (iblk m c 0 t) (iblk m c 1 t) (iblk m c 2 t) (iblk m c 3 t) (iblk m c 4 t) (iblk m c 5 t) (iblk m c 6 t) (iblk m c 7 t) (iblk m c 8 t) where
  h0 j := x_at m c t r j h
  h1 k := o_at m c t k r h
  h2 k := y_at m c t r k h
  h3 k := (blk3 m c t k 0).trans (ga_at m c k)
  h4 k j := (blk4 m c t k j).trans (wo_at m c k j)
  h5 k := (blk5 m c t 0 k).trans (nm_at m c k)
  h6 k f := (blk6 m c t k f).trans (wu_at m c k f)
  h7 f j := (blk7 m c t f j).trans (wd_at m c f j)
  h8 k := (blk8 m c t 0 k).trans (nf_at m c k)

/-- A block of the array of results, read at an index. -/
theorem blk9 (A : Buf (Elt Ideal) ((c : Thread nD τ).loc main_v11)) (t : Fin cfg0.N) (r : Fin 512) (j : Fin 1024) (h : 512 * t.val + r.val < 512) :
    (((cfg0.win 9).blk t).view.read (Elt Ideal) A : FVec Ideal S512x1024 .f32) (ix2 r j) = (A : FVec Ideal S512x1024 .f32) (ix2 ⟨512 * t.val + r.val, h⟩ j) := by
  blk_ext [index9 t]

/-- The array of results, at an index. -/
theorem final_at (i : Fin 512) (j : Fin 1024) :
    ((dats m 0 c).arrAt 9 cfg0.N : FVec Ideal S512x1024 .f32) (ix2 i j)
      = outS (par m c) (x1 (par m c) (fun k => (m (c, Proc.devRef .tc main_arg0) : FVec Ideal S512x1024 .f32) (ix2 i k))
          (fun k => (m (c, Proc.devRef .tc main_arg1) : FVec Ideal S512x512 .f32) (ix2 k i))
          (fun k => (m (c, Proc.devRef .tc main_arg2) : FVec Ideal S512x512 .bf16) (ix2 i k))) j := by
  have hi := i.isLt
  have hN : i.val / 512 < cfg0.N := lt_of_lt_of_eq (by omega) N_0.symm
  have h : 512 * (⟨i.val / 512, hN⟩ : Fin cfg0.N).val + (⟨i.val % 512, by omega⟩ : Fin 512).val < 512 := by
    show 512 * (i.val / 512) + i.val % 512 < 512
    omega
  have e : (⟨512 * (⟨i.val / 512, hN⟩ : Fin cfg0.N).val + (⟨i.val % 512, by omega⟩ : Fin 512).val, h⟩ : Fin 512) = i :=
    Fin.ext (by show 512 * (i.val / 512) + i.val % 512 = i.val; omega)
  have hb := congrFun ((blocks9 m c ⟨i.val / 512, hN⟩ (flush0_9 _)).trans (flushed9 m c ⟨i.val / 512, hN⟩)) (ix2 ⟨i.val % 512, by omega⟩ j)
  have ho := out_at _ _ _ _ _ _ _ _ _ _ _ _ _ _ (reads m c ⟨i.val / 512, hN⟩ ⟨i.val % 512, by omega⟩ h) j
  rw [e] at ho
  refine Eq.trans ?_ ho
  refine Eq.trans ?_ hb
  refine Eq.trans ?_ (blk9 c _ ⟨i.val / 512, hN⟩ ⟨i.val % 512, by omega⟩ j h).symm
  rw [e]

end Cert.Mlp.Ker3

end
-- ==== Proof.Mlp.Ref3.lean ====
/-
  The reference of the layer's second half, read at an index: the stages of its result, one after the other.
-/
module

public import proofs.«01_k».proof.Proof.Mlp.Spec
public import proofs.«01_k».proof.Proof.Gen.Reference3Ideal.Run

@[expose] public section

set_option maxRecDepth 16384

noncomputable section

namespace Cert.Mlp.Ref3

open Idealize.ShloMosaic Idealize.ShloMosaic.TcCoe Cert.Reference3Ideal Cert.Reference3Ideal.Gen Cert.Reference3Ideal.Value

/-- The attention heads' rows, each divided by the root of its mean square, times the weights. -/
def oN (T : FVec Ideal S512x512 .f32) (a3 : FVec Ideal S1x512 .f32) : FVec Ideal S512x512 .f32 :=
  mulf (mulf T (broadcastInDim S512x512 ![0, 1] bcast_S512x1_S512x512_0_1 (Host.rsqrt (addf (Host.divf (broadcastInDim S512x1 ![0] bcast_S512_S512x1_0 (Host.reduceAdd (mulf T T) (constant S_ .f32 0x00000000#32) reducesTo_S512x512_S512_d1 h_S_)) (broadcastInDim S512x1 ![] bcast_S_S512x1 (constant S_ .f32 0x44000000#32))) (broadcastInDim S512x1 ![] bcast_S_S512x1 (constant S_ .f32 0x358637BD#32)))))) (broadcastInDim S512x512 ![0, 1] bcast_S1x512_S512x512_0_1 (broadcastInDim S1x512 ![1] bcast_S512_S1x512_1 (shapeCast _ a3 shapeCasts_S1x512_S512)))

/-- The rows after the heads. -/
def x1R (a0 : FVec Ideal S512x1024 .f32) (o : FVec Ideal S512x512 .f32) (a2 : FVec Ideal S512x512 .bf16) (a4 : FVec Ideal S1x1024x1024 .f32) : FVec Ideal S512x1024 .f32 :=
  addf a0 (Host.dotGeneral dot_S512x1024_S1024x1024_S512x1024_1_0_0_1_n_n none (concatenate S512x1024 1 [⟨S512x512, o⟩, ⟨S512x512, (extf .f32 a2 bitsLt_bf16_f32)⟩] concatenates_S512x512_S512x512_S512x1024_d1) (shapeCast _ a4 shapeCasts_S1x1024x1024_S1024x1024))

/-- Rows of 1024, each divided by the root of its mean square, times the weights. -/
def nR (x1 : FVec Ideal S512x1024 .f32) (g : FVec Ideal S1024 .f32) : FVec Ideal S512x1024 .f32 :=
  mulf (mulf x1 (broadcastInDim S512x1024 ![0, 1] bcast_S512x1_S512x1024_0_1 (Host.rsqrt (addf (Host.divf (broadcastInDim S512x1 ![0] bcast_S512_S512x1_0 (Host.reduceAdd (mulf x1 x1) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))

/-- The rows after the network. -/
def x2R (x1 v : FVec Ideal S512x1024 .f32) (a6 : FVec Ideal S1x1024x4096 .f32) (a7 : FVec Ideal S1x4096x1024 .f32) : FVec Ideal S512x1024 .f32 :=
  addf x1 (Host.dotGeneral dot_S512x4096_S4096x1024_S512x1024_1_0_0_1_n_n none (mulf (maximumf (Host.dotGeneral dot_S512x1024_S1024x4096_S512x4096_1_0_0_1_n_n none v (shapeCast _ a6 shapeCasts_S1x1024x4096_S1024x4096)) (broadcastInDim S512x4096 ![] bcast_S_S512x4096 (constant S_ .f32 0x00000000#32))) (maximumf (Host.dotGeneral dot_S512x1024_S1024x4096_S512x4096_1_0_0_1_n_n none v (shapeCast _ a6 shapeCasts_S1x1024x4096_S1024x4096)) (broadcastInDim S512x4096 ![] bcast_S_S512x4096 (constant S_ .f32 0x00000000#32)))) (shapeCast _ a7 shapeCasts_S1x4096x1024_S4096x1024))

/-- The weights, read off the arguments. -/
def par (a3 : FVec Ideal S1x512 .f32) (a4 : FVec Ideal S1x1024x1024 .f32) (a5 : FVec Ideal S1x1024 .f32) (a6 : FVec Ideal S1x1024x4096 .f32)
    (a7 : FVec Ideal S1x4096x1024 .f32) (a8 : FVec Ideal S1024 .f32) : Params where
  ga k := a3 (ix2 0 k)
  wo k j := a4 (ix3 0 k j)
  nm k := a5 (ix2 0 k)
  wu k f := a6 (ix3 0 k f)
  wd f j := a7 (ix3 0 f j)
  nf k := a8 (ix1 k)

section
variable (a0 : FVec Ideal S512x1024 .f32) (a1 : FVec Ideal S512x512 .f32) (a2 : FVec Ideal S512x512 .bf16) (a3 : FVec Ideal S1x512 .f32) (a4 : FVec Ideal S1x1024x1024 .f32) (a5 : FVec Ideal S1x1024 .f32) (a6 : FVec Ideal S1x1024x4096 .f32)
  (a7 : FVec Ideal S1x4096x1024 .f32) (a8 : FVec Ideal S1024 .f32)

/-- A normed row of the attention heads. -/
theorem oN_at (T : FVec Ideal S512x512 .f32) (r : Fin 512) (k : Fin 512) :
    oN T a3 (ix2 r k) = norm (Ideal.ofBits .f32 0x44000000#32) (fun k => T (ix2 r k)) (par a3 a4 a5 a6 a7 a8).ga k := by
  pointwise [oN]
  rfl

/-- A normed row. -/
theorem nR_at (x : FVec Ideal S512x1024 .f32) (g : FVec Ideal S1024 .f32) (r : Fin 512) (k : Fin 1024) :
    nR x g (ix2 r k) = norm (Ideal.ofBits .f32 0x44800000#32) (fun k => x (ix2 r k)) (fun k => g (ix1 k)) k := by
  pointwise [nR]
  rfl

/-- A row after the heads. -/
theorem x1R_at (r : Fin 512) (j : Fin 1024) :
    x1R a0 (oN (transpose S512x512 [1, 0] a1 transposes_S512x512_S512x512_1_0) a3) a2 a4 (ix2 r j)
      = x1 (par a3 a4 a5 a6 a7 a8) (fun k => a0 (ix2 r k)) (fun k => a1 (ix2 k r)) (fun k => a2 (ix2 r k)) j := by
  have h := oN_at a3 a4 a5 a6 a7 a8 (transpose S512x512 [1, 0] a1 transposes_S512x512_S512x512_1_0) r
  have e : (fun k => (transpose S512x512 [1, 0] a1 transposes_S512x512_S512x512_1_0) (ix2 r k)) = fun k => a1 (ix2 k r) := by
    funext k
    pointwise
  rw [e] at h
  generalize oN (transpose S512x512 [1, 0] a1 transposes_S512x512_S512x512_1_0) a3 = v at *
  rw [x1_halves]
  pointwise [x1R]
  simp only [h]
  rfl

/-- A row of the result from a row after the heads. -/
theorem out_at (x : FVec Ideal S512x1024 .f32) (r : Fin 512) (j : Fin 1024) :
    nR (x2R x (nR x (shapeCast _ a5 shapeCasts_S1x1024_S1024)) a6 a7) a8 (ix2 r j) = outS (par a3 a4 a5 a6 a7 a8) (fun k => x (ix2 r k)) j := by
  have h := nR_at x (shapeCast _ a5 shapeCasts_S1x1024_S1024) r
  have e : (fun k => (shapeCast S1024 a5 shapeCasts_S1x1024_S1024) (ix1 k)) = fun k => a5 (ix2 0 k) := by
    funext k
    pointwise
  rw [e] at h
  generalize nR x (shapeCast _ a5 shapeCasts_S1x1024_S1024) = v at *
  have h2 : ∀ j, x2R x v a6 a7 (ix2 r j) = x (ix2 r j) + ∑ f : Fin 4096, hid (par a3 a4 a5 a6 a7 a8) (fun k => x (ix2 r k)) f * (par a3 a4 a5 a6 a7 a8).wd f j := by
    intro j
    pointwise [x2R]
    simp only [h]
    rfl
  rw [nR_at]
  simp only [h2]
  rfl

end

/-- The reference's result at an index. -/
theorem res_at (m : (ℓ : Loc nD τ sig) → Buf (Elt Ideal) ℓ) (c : Dev nD) (r : Fin 512) (j : Fin 1024) :
    (res_main_v53 m c : FVec Ideal S512x1024 .f32) (ix2 r j)
      = outS (par (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (x1 (par (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (fun k => (m ((c.tc : Thread nD τ).loc main_arg0) : FVec Ideal S512x1024 .f32) (ix2 r k)) (fun k => (m ((c.tc : Thread nD τ).loc main_arg1) : FVec Ideal S512x512 .f32) (ix2 k r))
          (fun k => (m ((c.tc : Thread nD τ).loc main_arg2) : FVec Ideal S512x512 .bf16) (ix2 r k))) j := by
  refine (out_at (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (x1R (m ((c.tc : Thread nD τ).loc main_arg0)) (oN (transpose S512x512 [1, 0] (m ((c.tc : Thread nD τ).loc main_arg1)) transposes_S512x512_S512x512_1_0) (m ((c.tc : Thread nD τ).loc main_arg3))) (m ((c.tc : Thread nD τ).loc main_arg2)) (m ((c.tc : Thread nD τ).loc main_arg4))) r j).trans ?_
  exact congrArg (fun v => outS _ v j) (funext fun k => x1R_at _ _ _ _ _ _ _ _ _ r k)

end Cert.Mlp.Ref3

end
-- ==== Proof.Mlp.Equal3.lean ====
/-
  The layer's second half: the kernel's array of results is the reference's.
-/
module

public import proofs.«01_k».proof.Proof.Mlp.Block3
public import proofs.«01_k».proof.Proof.Mlp.Ref3

@[expose] public section

noncomputable section

namespace Cert.Mlp

open Idealize.ShloMosaic Idealize.ShloMosaic.TcCoe

/-- From memories that agree on the arguments, the two arrays of results are one. -/
theorem equal3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    : (Cert.Reference3Ideal.Value.res_main_v53 m' c : FVec Ideal Cert.Reference3Ideal.S512x1024 .f32) = (Cert.Kernel3Ideal.Gen.dats m 0 c).arrAt 9 Cert.Kernel3Ideal.cfg0.N := by
  refine funext fun i => ?_
  have hi : i = ix2 (i 0) (i 1) := by
    refine funext fun a => ?_
    match a with
    | ⟨0, _⟩ => rfl
    | ⟨1, _⟩ => rfl
  rw [hi]
  refine (Ref3.res_at m' c (i 0) (i 1)).trans (Eq.trans ?_ (Ker3.final_at m c (i 0) (i 1)).symm)
  rw [h0, h1, h2, h3, h4, h5, h6, h7, h8]
  rfl

end Cert.Mlp

end
-- ==== Proof.Proj.Spec.lean ====
/-
  What the projection does with one row, in plain arithmetic: the norm, one column of the projection, the rotary
  positions on a head's first sixteen places, and the nine layouts the columns are handed on in. Columns are counted by
  natural numbers: 512 of the queries, six times 128 of the keys and values, 24 of the gates, twice 512 of the
  recurrent heads.
-/
module

public import proofs.«01_k».proof.Proof.Mlp.Spec

@[expose] public section

noncomputable section

namespace Cert.Proj

open Idealize.ShloMosaic

/-- A normed row of 1024. -/
def urow (x g : Fin 1024 → EReal) (k : Fin 1024) : EReal := Mlp.norm (Ideal.ofBits .f32 0x44800000#32) x g k

/-- Column `n` of the projected row. -/
def col (x g : Fin 1024 → EReal) (W : Fin 1024 → ℕ → EReal) (n : ℕ) : EReal := ∑ k : Fin 1024, urow x g k * W k n

/-- The scale of the queries. -/
def scale : EReal := Ideal.ofBits .f32 0x3E000000#32

/-- The rotary positions: of each 64 columns the first eight and the next eight are turned against each other. -/
def rope (Z co si : ℕ → EReal) (n : ℕ) : EReal :=
  if n % 64 < 8 then Z n * co (n % 64) - Z (n + 8) * si (n % 64)
  else if n % 64 < 16 then Z n * co (n % 64 - 8) + Z (n - 8) * si (n % 64 - 8)
  else Z n

/-- The compressed branch's keys and values, then the selected branch's, the selected keys rotated. -/
def kvs (Z co si : ℕ → EReal) (j : ℕ) : EReal := if j < 256 then Z (512 + j) else if j < 384 then rope Z co si (512 + j) else Z (512 + j)

/-- The window branch's keys, rotated, then its values. -/
def win (Z co si : ℕ → EReal) (j : ℕ) : EReal := if j < 128 then rope Z co si (1024 + j) else Z (1024 + j)

/-- The rotated keys of the selected and of the window branch, by head. -/
def keys (Z co si : ℕ → EReal) (i e : ℕ) : EReal :=
  if i < 2 then rope Z co si (768 + 64 * i + e) else rope Z co si (1024 + 64 * (i - 2) + e)

/-- The values of the two branches by head, then a row of ones and rows of zeros. -/
def vals (Z : ℕ → EReal) (i e : ℕ) : EReal :=
  if e < 64 then (if i < 2 then Z (896 + 64 * i + e) else Z (1152 + 64 * (i - 2) + e)) else if e = 64 then 1 else 0

/-- The gate's argument: by key head, twelve gates and four zeros. -/
def gateArg (Z : ℕ → EReal) (j : ℕ) : EReal := if j % 16 < 12 then Z (1280 + j % 16 / 4 * 8 + j / 16 * 4 + j % 4) else 0

/-- A gate. -/
def gate (Z : ℕ → EReal) (j : ℕ) : EReal := Ideal.logistic (gateArg Z j)

section
variable (Z co si : ℕ → EReal)

/-- The first eight places of a head. -/
theorem rope_lo (o i : ℕ) (ho : o % 64 = 0) (hi : i < 8) : Z (o + i) * co i - Z (o + 8 + i) * si i = rope Z co si (o + i) := by
  have e : (o + i) % 64 = i := by omega
  rw [rope, e, if_pos hi, show o + i + 8 = o + 8 + i by omega]

/-- The next eight places of a head. -/
theorem rope_mid (o i : ℕ) (ho : o % 64 = 0) (hi : i < 8) : Z (o + 8 + i) * co i + Z (o + i) * si i = rope Z co si (o + 8 + i) := by
  have e : (o + 8 + i) % 64 = 8 + i := by omega
  rw [rope, e, if_neg (by omega), if_pos (by omega), show o + 8 + i - 8 = o + i by omega, show 8 + i - 8 = i by omega]

/-- The other places of a head. -/
theorem rope_hi (o i : ℕ) (ho : o % 64 = 0) (hi : i < 48) : Z (o + 16 + i) = rope Z co si (o + 16 + i) := by
  have e : (o + 16 + i) % 64 = 16 + i := by omega
  rw [rope, e, if_neg (by omega), if_neg (by omega)]

/-- The other places of a head, by what is known of the column. -/
theorem rope_of_le (n : ℕ) (h : 16 ≤ n % 64) : rope Z co si n = Z n := by
  rw [rope, if_neg (by omega), if_neg (by omega)]

end

/-- The angle of a position's place `i`. -/
def ang (p i : ℕ) : EReal :=
  (FloatOps.sitofp (F := Ideal) FTy.f32 (BitVec.ofNat 32 p) : EReal) * Ideal.pow (Ideal.ofBits .f32 0x48F42400#32) (Ideal.div (-(FloatOps.sitofp (F := Ideal) FTy.f32 (BitVec.ofNat 32 i) : EReal)) (Ideal.ofBits .f32 0x41000000#32))

/-- A position's cosines. -/
def cosAt (p i : ℕ) : EReal := Ideal.cos (ang p i)

/-- A position's sines. -/
def sinAt (p i : ℕ) : EReal := Ideal.sin (ang p i)

/-- The projection's weights, columns counted by natural numbers. -/
def wcol (w : (⟨3, ![1, 1024, 2328]⟩ : Shape).Idx → EReal) (k : Fin 1024) (n : ℕ) : EReal := if h : n < 2328 then w (ix3 0 k ⟨n, h⟩) else 0

/-- A column that is there. -/
theorem wcol_of (w : (⟨3, ![1, 1024, 2328]⟩ : Shape).Idx → EReal) (k : Fin 1024) (n : ℕ) (h : n < 2328) : w (ix3 0 k ⟨n, h⟩) = wcol w k n := by
  rw [wcol, dif_pos h]

/-- The projected row of prompt `b` at position `p`. -/
def zrow (x : (⟨3, ![8, 2048, 1024]⟩ : Shape).Idx → EReal) (w : (⟨3, ![1, 1024, 2328]⟩ : Shape).Idx → EReal) (g : (⟨2, ![1, 1024]⟩ : Shape).Idx → EReal) (b : Fin 8) (p : Fin 2048) : ℕ → EReal :=
  col (fun k => x (ix3 b p k)) (fun k => g (ix2 0 k)) (wcol w)

/-- Both branches of a choice have the value, so the choice has it. -/
theorem dite_of {α : Type} {p : Prop} [Decidable p] {a : p → α} {b : ¬p → α} {v : α} (h1 : ∀ h, a h = v) (h2 : ∀ h, b h = v) :
    dite p a b = v := by
  by_cases h : p
  · rw [dif_pos h]; exact h1 h
  · rw [dif_neg h]; exact h2 h

end Cert.Proj

end
-- ==== Proof.Proj.Pay.lean ====
/-
  The projection on the kernel's side: the arrays a point of the grid computes, at an index.
-/
module

public import proofs.«01_k».proof.Proof.Proj.Spec
public import proofs.«01_k».proof.Proof.Gen.Kernel4Ideal.Skeleton
public import Idealize.ShloMosaic.Lib.ValueIdx

@[expose] public section

set_option maxRecDepth 16384

noncomputable section

namespace Cert.Proj.Ker

open Idealize.ShloMosaic Idealize.ShloMosaic.TcCoe Cert.Kernel4Ideal Cert.Kernel4Ideal.Gen

/-- The normed rows. -/
theorem pay2_at (v0 : Vec Ideal S512x1024 .f32) (v2 : Vec Ideal S1x1024 .f32) (r : Fin 512) (k : Fin 1024) :
    k0_pay2 v0 v2 (ix2 r k) = urow (fun k => v0 (ix2 r k)) (fun k => v2 (ix2 0 k)) k := by
  pointwise [k0_pay2]
  rfl

/-- The queries' columns, by row. -/
theorem pay5_at (v0 : Vec Ideal S512x1024 .f32) (v2 : Vec Ideal S1x1024 .f32) (v21 : Vec Ideal S512x1024 .bf16) (r : Fin 512) (x g : Fin 1024 → EReal)
    (W : Fin 1024 → ℕ → EReal) (hu : ∀ k, k0_pay2 v0 v2 (ix2 r k) = urow x g k) (hw : ∀ (j : Fin 512) (k : Fin 1024), v21 (ix2 j k) = W k j.val) (j : Fin 512) :
    k0_pay5 v0 v2 v21 (ix2 j r) = col x g W j.val := by
  unfold k0_pay5
  generalize k0_pay2 v0 v2 = u at *
  pointwise
  simp only [hu, hw, col]
  exact Finset.sum_congr rfl fun k _ => mul_comm _ _

/-- The keys' and values' columns, by row. -/
theorem pay48_at (u : FVec Ideal S512x1024 .bf16) (w : Vec Ideal S768x1024 .bf16) (r : Fin 512) (x g : Fin 1024 → EReal)
    (W : Fin 1024 → ℕ → EReal) (hu : ∀ k, u (ix2 r k) = urow x g k) (hw : ∀ (j : Fin 768) (k : Fin 1024), w (ix2 j k) = W k (512 + j.val)) (j : Fin 768) :
    k0_pay48 u w (ix2 j r) = col x g W (512 + j.val) := by
  pointwise [k0_pay48]
  simp only [hu, hw, col]
  exact Finset.sum_congr rfl fun k _ => mul_comm _ _

/-- The recurrent heads' columns. -/
theorem pay81_at (u : FVec Ideal S512x1024 .bf16) (w : Vec Ideal S1024x1024 .bf16) (r : Fin 512) (x g : Fin 1024 → EReal)
    (W : Fin 1024 → ℕ → EReal) (hu : ∀ k, u (ix2 r k) = urow x g k) (hw : ∀ (j : Fin 1024) (k : Fin 1024), w (ix2 j k) = W k (1304 + j.val)) (j : Fin 1024) :
    k0_pay81 u w (ix2 r j) = col x g W (1304 + j.val) := by
  pointwise [k0_pay81]
  simp only [hu, hw, col]

/-- The first half of the recurrent heads' columns. -/
theorem pay82_at (u : FVec Ideal S512x1024 .bf16) (w : Vec Ideal S1024x1024 .bf16) (r : Fin 512) (x g : Fin 1024 → EReal)
    (W : Fin 1024 → ℕ → EReal) (hu : ∀ k, u (ix2 r k) = urow x g k) (hw : ∀ (j : Fin 1024) (k : Fin 1024), w (ix2 j k) = W k (1304 + j.val)) (j : Fin 512) :
    k0_pay82 u w (ix2 r j) = col x g W (1304 + j.val) := by
  have h := pay81_at u w r x g W hu hw
  unfold k0_pay82
  generalize k0_pay81 u w = v at *
  pointwise
  rw [h]

/-- The second half of the recurrent heads' columns. -/
theorem pay83_at (u : FVec Ideal S512x1024 .bf16) (w : Vec Ideal S1024x1024 .bf16) (r : Fin 512) (x g : Fin 1024 → EReal)
    (W : Fin 1024 → ℕ → EReal) (hu : ∀ k, u (ix2 r k) = urow x g k) (hw : ∀ (j : Fin 1024) (k : Fin 1024), w (ix2 j k) = W k (1304 + j.val)) (j : Fin 512) :
    k0_pay83 u w (ix2 r j) = col x g W (1816 + j.val) := by
  have h := pay81_at u w r x g W hu hw
  unfold k0_pay83
  generalize k0_pay81 u w = v at *
  pointwise
  rw [h]
  exact congrArg (col x g W) (by show 1304 + (512 + j.val) = _; omega)

/-- The gates. -/
theorem pay84_at (u : FVec Ideal S512x1024 .bf16) (w : Vec Ideal S32x1024 .bf16) (r : Fin 512) (x g : Fin 1024 → EReal)
    (W : Fin 1024 → ℕ → EReal) (hu : ∀ k, u (ix2 r k) = urow x g k)
    (hw : ∀ (j : Fin 32) (k : Fin 1024), w (ix2 j k) = if j.val % 16 < 12 then W k (1280 + j.val % 16 / 4 * 8 + j.val / 16 * 4 + j.val % 4) else 0) (j : Fin 32) :
    k0_pay1 (k0_pay84 u w) (ix3 0 j r) = gate (col x g W) j.val := by
  have e : ∑ k : Fin 1024, w (ix2 j k) * u (ix2 r k) = gateArg (col x g W) j.val := by
    simp only [hu, hw, gateArg]
    by_cases h : j.val % 16 < 12
    · simp only [if_pos h, col]
      exact Finset.sum_congr rfl fun k _ => mul_comm _ _
    · simp only [if_neg h, zero_mul, Finset.sum_const_zero]
  pointwise [k0_pay1, k0_pay84]
  rw [e]
  rfl

/-- The queries, scaled. -/
theorem pay6_at (v0 : Vec Ideal S512x1024 .f32) (v2 : Vec Ideal S1x1024 .f32) (v21 : Vec Ideal S512x1024 .bf16) (r : Fin 512) (Z : ℕ → EReal)
    (h : ∀ j : Fin 512, k0_pay5 v0 v2 v21 (ix2 j r) = Z j.val) (j : Fin 512) : k0_pay6 v0 v2 v21 (ix3 0 j r) = Z j.val * scale := by
  unfold k0_pay6
  generalize k0_pay5 v0 v2 v21 = v at *
  pointwise
  rw [h]
  rfl

/-- The tables of cosines and sines as they are read. -/
theorem pay3_at (v : Vec Ideal S8x512 .f32) (i : Fin 8) (r : Fin 512) : k0_pay3 v (ix2 i r) = v (ix2 i r) := by
  pointwise [k0_pay3]
/-- A table, read at an index. -/
theorem pay4_at (v : Vec Ideal S8x512 .f32) (i : Fin 8) (r : Fin 512) : k0_pay4 v (ix2 i r) = v (ix2 i r) := by
  pointwise [k0_pay4]

/-! ## The queries, rotated -/

section
variable (v0 : Vec Ideal S512x1024 .f32) (v2 : Vec Ideal S1x1024 .f32) (v21 : Vec Ideal S512x1024 .bf16) (v17 v19 : Vec Ideal S8x512 .f32)
  (c s : FVec Ideal S8x512 .f32) (q : FVec Ideal S512x512 .f32) (r : Fin 512) (Z co si : ℕ → EReal)

/-- The first head. -/
theorem pay9_at (hq : ∀ j : Fin 512, k0_pay5 v0 v2 v21 (ix2 j r) = Z j.val) (hc : ∀ i : Fin 8, k0_pay3 v17 (ix2 i r) = co i.val) (hs : ∀ i : Fin 8, k0_pay4 v19 (ix2 i r) = si i.val) (i : Fin 8) :
    k0_pay9 v0 v2 v17 v19 v21 (ix2 i r) = rope Z co si (0 + i.val) := by
  unfold k0_pay9 k0_pay7 k0_pay8
  generalize k0_pay5 v0 v2 v21 = q at *
  generalize k0_pay3 v17 = c at *
  generalize k0_pay4 v19 = s at *
  pointwise
  simp only [hq, hc, hs]
  have e := rope_lo Z co si 0 i.val (by decide) i.isLt
  simp only [Nat.zero_add] at e ⊢
  exact e
/-- Rows 8 to 15 of the queries, rotated. -/
theorem pay10_at (hq : ∀ j : Fin 512, k0_pay5 v0 v2 v21 (ix2 j r) = Z j.val) (hc : ∀ i : Fin 8, k0_pay3 v17 (ix2 i r) = co i.val) (hs : ∀ i : Fin 8, k0_pay4 v19 (ix2 i r) = si i.val) (i : Fin 8) :
    k0_pay10 v0 v2 v17 v19 v21 (ix2 i r) = rope Z co si (8 + i.val) := by
  unfold k0_pay10 k0_pay7 k0_pay8
  generalize k0_pay5 v0 v2 v21 = q at *
  generalize k0_pay3 v17 = c at *
  generalize k0_pay4 v19 = s at *
  pointwise
  simp only [hq, hc, hs]
  exact (congrArg (fun n => Z (8 + i.val) * co i.val + Z n * si i.val) (Nat.zero_add i.val)).symm.trans (rope_mid Z co si 0 i.val (by decide) i.isLt)
/-- Rows 16 to 63 of the queries, rotated. -/
theorem pay11_at (hq : ∀ j : Fin 512, k0_pay5 v0 v2 v21 (ix2 j r) = Z j.val) (i : Fin 48) :
    k0_pay11 v0 v2 v21 (ix2 i r) = rope Z co si (16 + i.val) := by
  unfold k0_pay11
  generalize k0_pay5 v0 v2 v21 = q at *
  pointwise
  simp only [hq]
  exact rope_hi Z co si 0 i.val (by decide) i.isLt
/-- Rows 64 to 71 of the queries, not yet rotated. -/
theorem pay12_at (hq : ∀ j : Fin 512, k0_pay5 v0 v2 v21 (ix2 j r) = Z j.val) (i : Fin 8) :
    k0_pay12 v0 v2 v21 (ix2 i r) = Z (64 + i.val) := by
  unfold k0_pay12
  generalize k0_pay5 v0 v2 v21 = q at *
  pointwise
  simp only [hq]

/-- The second head. -/
theorem pay14_at (a : FVec Ideal S8x512 .f32) (ha : ∀ i : Fin 8, a (ix2 i r) = Z (64 + i.val)) (hq : ∀ j : Fin 512, q (ix2 j r) = Z j.val) (hc : ∀ i : Fin 8, c (ix2 i r) = co i.val) (hs : ∀ i : Fin 8, s (ix2 i r) = si i.val) (i : Fin 8) :
    k0_pay14 c s q a (ix2 i r) = rope Z co si (64 + i.val) := by
  pointwise [k0_pay14, k0_pay13]
  simp only [hq, hc, hs, ha]
  exact rope_lo Z co si 64 i.val (by decide) i.isLt
/-- Rows 72 to 79 of the queries, rotated. -/
theorem pay15_at (a : FVec Ideal S8x512 .f32) (ha : ∀ i : Fin 8, a (ix2 i r) = Z (64 + i.val)) (hq : ∀ j : Fin 512, q (ix2 j r) = Z j.val) (hc : ∀ i : Fin 8, c (ix2 i r) = co i.val) (hs : ∀ i : Fin 8, s (ix2 i r) = si i.val) (i : Fin 8) :
    k0_pay15 c s q a (ix2 i r) = rope Z co si (72 + i.val) := by
  pointwise [k0_pay15, k0_pay13]
  simp only [hq, hc, hs, ha]
  exact rope_mid Z co si 64 i.val (by decide) i.isLt
/-! The other heads -/

/-- Rows 80 to 127 of the queries, rotated. -/
theorem pay16_at (hq : ∀ j : Fin 512, q (ix2 j r) = Z j.val) (i : Fin 48) :
    k0_pay16 q (ix2 i r) = rope Z co si (80 + i.val) := by
  pointwise [k0_pay16]
  simp only [hq]
  exact rope_hi Z co si 64 i.val (by decide) i.isLt

/-- Rows 128 to 135 of the queries, rotated. -/
theorem pay19_at (hq : ∀ j : Fin 512, q (ix2 j r) = Z j.val) (hc : ∀ i : Fin 8, c (ix2 i r) = co i.val) (hs : ∀ i : Fin 8, s (ix2 i r) = si i.val) (i : Fin 8) :
    k0_pay19 c s q (ix2 i r) = rope Z co si (128 + i.val) := by
  pointwise [k0_pay19, k0_pay17, k0_pay18]
  simp only [hq, hc, hs]
  exact rope_lo Z co si 128 i.val (by decide) i.isLt

/-- Rows 136 to 143 of the queries, rotated. -/
theorem pay20_at (hq : ∀ j : Fin 512, q (ix2 j r) = Z j.val) (hc : ∀ i : Fin 8, c (ix2 i r) = co i.val) (hs : ∀ i : Fin 8, s (ix2 i r) = si i.val) (i : Fin 8) :
    k0_pay20 c s q (ix2 i r) = rope Z co si (136 + i.val) := by
  pointwise [k0_pay20, k0_pay17, k0_pay18]
  simp only [hq, hc, hs]
  exact rope_mid Z co si 128 i.val (by decide) i.isLt

/-- Rows 144 to 191 of the queries, rotated. -/
theorem pay21_at (hq : ∀ j : Fin 512, q (ix2 j r) = Z j.val) (i : Fin 48) :
    k0_pay21 q (ix2 i r) = rope Z co si (144 + i.val) := by
  pointwise [k0_pay21]
  simp only [hq]
  exact rope_hi Z co si 128 i.val (by decide) i.isLt

/-- Rows 192 to 199 of the queries, rotated. -/
theorem pay24_at (hq : ∀ j : Fin 512, q (ix2 j r) = Z j.val) (hc : ∀ i : Fin 8, c (ix2 i r) = co i.val) (hs : ∀ i : Fin 8, s (ix2 i r) = si i.val) (i : Fin 8) :
    k0_pay24 c s q (ix2 i r) = rope Z co si (192 + i.val) := by
  pointwise [k0_pay24, k0_pay22, k0_pay23]
  simp only [hq, hc, hs]
  exact rope_lo Z co si 192 i.val (by decide) i.isLt

/-- Rows 200 to 207 of the queries, rotated. -/
theorem pay25_at (hq : ∀ j : Fin 512, q (ix2 j r) = Z j.val) (hc : ∀ i : Fin 8, c (ix2 i r) = co i.val) (hs : ∀ i : Fin 8, s (ix2 i r) = si i.val) (i : Fin 8) :
    k0_pay25 c s q (ix2 i r) = rope Z co si (200 + i.val) := by
  pointwise [k0_pay25, k0_pay22, k0_pay23]
  simp only [hq, hc, hs]
  exact rope_mid Z co si 192 i.val (by decide) i.isLt

/-- Rows 208 to 255 of the queries, rotated. -/
theorem pay26_at (hq : ∀ j : Fin 512, q (ix2 j r) = Z j.val) (i : Fin 48) :
    k0_pay26 q (ix2 i r) = rope Z co si (208 + i.val) := by
  pointwise [k0_pay26]
  simp only [hq]
  exact rope_hi Z co si 192 i.val (by decide) i.isLt

/-- Rows 256 to 263 of the queries, rotated. -/
theorem pay29_at (hq : ∀ j : Fin 512, q (ix2 j r) = Z j.val) (hc : ∀ i : Fin 8, c (ix2 i r) = co i.val) (hs : ∀ i : Fin 8, s (ix2 i r) = si i.val) (i : Fin 8) :
    k0_pay29 c s q (ix2 i r) = rope Z co si (256 + i.val) := by
  pointwise [k0_pay29, k0_pay27, k0_pay28]
  simp only [hq, hc, hs]
  exact rope_lo Z co si 256 i.val (by decide) i.isLt

/-- Rows 264 to 271 of the queries, rotated. -/
theorem pay30_at (hq : ∀ j : Fin 512, q (ix2 j r) = Z j.val) (hc : ∀ i : Fin 8, c (ix2 i r) = co i.val) (hs : ∀ i : Fin 8, s (ix2 i r) = si i.val) (i : Fin 8) :
    k0_pay30 c s q (ix2 i r) = rope Z co si (264 + i.val) := by
  pointwise [k0_pay30, k0_pay27, k0_pay28]
  simp only [hq, hc, hs]
  exact rope_mid Z co si 256 i.val (by decide) i.isLt

/-- Rows 272 to 319 of the queries, rotated. -/
theorem pay31_at (hq : ∀ j : Fin 512, q (ix2 j r) = Z j.val) (i : Fin 48) :
    k0_pay31 q (ix2 i r) = rope Z co si (272 + i.val) := by
  pointwise [k0_pay31]
  simp only [hq]
  exact rope_hi Z co si 256 i.val (by decide) i.isLt

/-- Rows 320 to 327 of the queries, rotated. -/
theorem pay34_at (hq : ∀ j : Fin 512, q (ix2 j r) = Z j.val) (hc : ∀ i : Fin 8, c (ix2 i r) = co i.val) (hs : ∀ i : Fin 8, s (ix2 i r) = si i.val) (i : Fin 8) :
    k0_pay34 c s q (ix2 i r) = rope Z co si (320 + i.val) := by
  pointwise [k0_pay34, k0_pay32, k0_pay33]
  simp only [hq, hc, hs]
  exact rope_lo Z co si 320 i.val (by decide) i.isLt

/-- Rows 328 to 335 of the queries, rotated. -/
theorem pay35_at (hq : ∀ j : Fin 512, q (ix2 j r) = Z j.val) (hc : ∀ i : Fin 8, c (ix2 i r) = co i.val) (hs : ∀ i : Fin 8, s (ix2 i r) = si i.val) (i : Fin 8) :
    k0_pay35 c s q (ix2 i r) = rope Z co si (328 + i.val) := by
  pointwise [k0_pay35, k0_pay32, k0_pay33]
  simp only [hq, hc, hs]
  exact rope_mid Z co si 320 i.val (by decide) i.isLt

/-- Rows 336 to 383 of the queries, rotated. -/
theorem pay36_at (hq : ∀ j : Fin 512, q (ix2 j r) = Z j.val) (i : Fin 48) :
    k0_pay36 q (ix2 i r) = rope Z co si (336 + i.val) := by
  pointwise [k0_pay36]
  simp only [hq]
  exact rope_hi Z co si 320 i.val (by decide) i.isLt

/-- Rows 384 to 391 of the queries, rotated. -/
theorem pay39_at (hq : ∀ j : Fin 512, q (ix2 j r) = Z j.val) (hc : ∀ i : Fin 8, c (ix2 i r) = co i.val) (hs : ∀ i : Fin 8, s (ix2 i r) = si i.val) (i : Fin 8) :
    k0_pay39 c s q (ix2 i r) = rope Z co si (384 + i.val) := by
  pointwise [k0_pay39, k0_pay37, k0_pay38]
  simp only [hq, hc, hs]
  exact rope_lo Z co si 384 i.val (by decide) i.isLt

/-- Rows 392 to 399 of the queries, rotated. -/
theorem pay40_at (hq : ∀ j : Fin 512, q (ix2 j r) = Z j.val) (hc : ∀ i : Fin 8, c (ix2 i r) = co i.val) (hs : ∀ i : Fin 8, s (ix2 i r) = si i.val) (i : Fin 8) :
    k0_pay40 c s q (ix2 i r) = rope Z co si (392 + i.val) := by
  pointwise [k0_pay40, k0_pay37, k0_pay38]
  simp only [hq, hc, hs]
  exact rope_mid Z co si 384 i.val (by decide) i.isLt

/-- Rows 400 to 447 of the queries, rotated. -/
theorem pay41_at (hq : ∀ j : Fin 512, q (ix2 j r) = Z j.val) (i : Fin 48) :
    k0_pay41 q (ix2 i r) = rope Z co si (400 + i.val) := by
  pointwise [k0_pay41]
  simp only [hq]
  exact rope_hi Z co si 384 i.val (by decide) i.isLt

/-- Rows 448 to 455 of the queries, rotated. -/
theorem pay44_at (hq : ∀ j : Fin 512, q (ix2 j r) = Z j.val) (hc : ∀ i : Fin 8, c (ix2 i r) = co i.val) (hs : ∀ i : Fin 8, s (ix2 i r) = si i.val) (i : Fin 8) :
    k0_pay44 c s q (ix2 i r) = rope Z co si (448 + i.val) := by
  pointwise [k0_pay44, k0_pay42, k0_pay43]
  simp only [hq, hc, hs]
  exact rope_lo Z co si 448 i.val (by decide) i.isLt

/-- Rows 456 to 463 of the queries, rotated. -/
theorem pay45_46_at (hq : ∀ j : Fin 512, q (ix2 j r) = Z j.val) (hc : ∀ i : Fin 8, c (ix2 i r) = co i.val) (hs : ∀ i : Fin 8, s (ix2 i r) = si i.val) (i : Fin 8) :
    k0_pay45 c q (ix2 i r) + k0_pay46 s q (ix2 i r) = rope Z co si (456 + i.val) := by
  pointwise [k0_pay45, k0_pay46, k0_pay43, k0_pay42]
  simp only [hq, hc, hs]
  exact rope_mid Z co si 448 i.val (by decide) i.isLt

/-- Arrays laid one below another: the first holds `G` from `o` on and the others hold it from where it ends, so all of them do. -/
theorem cat_cons (G : ℕ → EReal) (n M C o o' : ℕ) (ho : o + n = o') (v : (⟨2, ![n, C]⟩ : Shape).Idx → EReal) {r : Fin C} (hv : ∀ i : Fin n, v (ix2 i r) = G (o + i.val))
    (j : Fin M) (q : (s : Shape) × (s.Idx → EReal)) (xs : List ((s : Shape) × (s.Idx → EReal))) (hs)
    (h : ∀ c hc, concatenateAt (⟨2, ![M, C]⟩ : Shape) 0 (ix2 j r) (q :: xs) (fun s' h => hs s' (List.mem_cons_of_mem _ h)) c hc = G (o' + c)) :
    ∀ c hc, concatenateAt (⟨2, ![M, C]⟩ : Shape) 0 (ix2 j r) (⟨⟨2, ![n, C]⟩, v⟩ :: q :: xs) hs c hc = G (o + c) := by
  intro c hc
  rw [concatenateAt_cons]
  refine dite_of (fun hlt => ?_) (fun hlt => ?_)
  · refine Eq.trans (congrArg v ?_) (hv ⟨c, hlt⟩)
    refine funext fun a => ?_
    match a with
    | ⟨0, _⟩ => rfl
    | ⟨1, _⟩ => rfl
  · have hn : n ≤ c := Nat.le_of_not_lt hlt
    refine (h _ _).trans (congrArg G ?_)
    show o' + (c - n) = o + c
    omega

/-- The last of the arrays laid one below another. -/
theorem cat_last (G : ℕ → EReal) (n M C o : ℕ) (v : (⟨2, ![n, C]⟩ : Shape).Idx → EReal) {r : Fin C} (hv : ∀ i : Fin n, v (ix2 i r) = G (o + i.val))
    (j : Fin M) (hs) :
    ∀ c hc, concatenateAt (⟨2, ![M, C]⟩ : Shape) 0 (ix2 j r) [⟨⟨2, ![n, C]⟩, v⟩] hs c hc = G (o + c) := by
  intro c hc
  rw [concatenateAt_singleton]
  have hlt : c < n := by simpa [axisSizes] using hc
  refine Eq.trans (congrArg v ?_) (hv ⟨c, hlt⟩)
  refine funext fun a => ?_
  match a with
  | ⟨0, _⟩ => rfl
  | ⟨1, _⟩ => rfl

/-- The eight heads laid one below another. -/
theorem heads_at (v34 v37 v43 v46 v52 v55 v61 v64 v70 v73 v79 v82 v88 v91 v97 v100 : FVec Ideal S8x512 .f32) (v38 v47 v56 v65 v74 v83 v92 v101 : FVec Ideal S48x512 .f32)
    (hv34 : ∀ i : Fin 8, v34 (ix2 i r) = rope Z co si (0 + i.val))
    (hv37 : ∀ i : Fin 8, v37 (ix2 i r) = rope Z co si (8 + i.val))
    (hv38 : ∀ i : Fin 48, v38 (ix2 i r) = rope Z co si (16 + i.val))
    (hv43 : ∀ i : Fin 8, v43 (ix2 i r) = rope Z co si (64 + i.val))
    (hv46 : ∀ i : Fin 8, v46 (ix2 i r) = rope Z co si (72 + i.val))
    (hv47 : ∀ i : Fin 48, v47 (ix2 i r) = rope Z co si (80 + i.val))
    (hv52 : ∀ i : Fin 8, v52 (ix2 i r) = rope Z co si (128 + i.val))
    (hv55 : ∀ i : Fin 8, v55 (ix2 i r) = rope Z co si (136 + i.val))
    (hv56 : ∀ i : Fin 48, v56 (ix2 i r) = rope Z co si (144 + i.val))
    (hv61 : ∀ i : Fin 8, v61 (ix2 i r) = rope Z co si (192 + i.val))
    (hv64 : ∀ i : Fin 8, v64 (ix2 i r) = rope Z co si (200 + i.val))
    (hv65 : ∀ i : Fin 48, v65 (ix2 i r) = rope Z co si (208 + i.val))
    (hv70 : ∀ i : Fin 8, v70 (ix2 i r) = rope Z co si (256 + i.val))
    (hv73 : ∀ i : Fin 8, v73 (ix2 i r) = rope Z co si (264 + i.val))
    (hv74 : ∀ i : Fin 48, v74 (ix2 i r) = rope Z co si (272 + i.val))
    (hv79 : ∀ i : Fin 8, v79 (ix2 i r) = rope Z co si (320 + i.val))
    (hv82 : ∀ i : Fin 8, v82 (ix2 i r) = rope Z co si (328 + i.val))
    (hv83 : ∀ i : Fin 48, v83 (ix2 i r) = rope Z co si (336 + i.val))
    (hv88 : ∀ i : Fin 8, v88 (ix2 i r) = rope Z co si (384 + i.val))
    (hv91 : ∀ i : Fin 8, v91 (ix2 i r) = rope Z co si (392 + i.val))
    (hv92 : ∀ i : Fin 48, v92 (ix2 i r) = rope Z co si (400 + i.val))
    (hv97 : ∀ i : Fin 8, v97 (ix2 i r) = rope Z co si (448 + i.val))
    (hv100 : ∀ i : Fin 8, v100 (ix2 i r) = rope Z co si (456 + i.val))
    (hv101 : ∀ i : Fin 48, v101 (ix2 i r) = rope Z co si (464 + i.val)) (j : Fin 512) :
    concatenate S512x512 0 [⟨S8x512, v34⟩, ⟨S8x512, v37⟩, ⟨S48x512, v38⟩, ⟨S8x512, v43⟩, ⟨S8x512, v46⟩, ⟨S48x512, v47⟩, ⟨S8x512, v52⟩, ⟨S8x512, v55⟩, ⟨S48x512, v56⟩, ⟨S8x512, v61⟩, ⟨S8x512, v64⟩, ⟨S48x512, v65⟩, ⟨S8x512, v70⟩, ⟨S8x512, v73⟩, ⟨S48x512, v74⟩, ⟨S8x512, v79⟩, ⟨S8x512, v82⟩, ⟨S48x512, v83⟩, ⟨S8x512, v88⟩, ⟨S8x512, v91⟩, ⟨S48x512, v92⟩, ⟨S8x512, v97⟩, ⟨S8x512, v100⟩, ⟨S48x512, v101⟩] concatenates_S8x512_S8x512_S48x512_S8x512_S8x512_S48x512_S8x512_S8x512_S48x512_S8x512_S8x512_S48x512_S8x512_S8x512_S48x512_S8x512_S8x512_S48x512_S8x512_S8x512_S48x512_S8x512_S8x512_S48x512_S512x512_d0 (ix2 j r) = rope Z co si j.val := by
  refine (concatenate_cons_apply _ _ _ _ _ _ _).trans ?_
  refine (?_ : ∀ c hc, concatenateAt S512x512 0 (ix2 j r) _ _ c hc = rope Z co si (0 + c)) |> fun h => (h _ _).trans (congrArg (rope Z co si) (Nat.zero_add _))
  refine cat_cons (rope Z co si) 8 512 512 0 8 rfl _ hv34 _ _ _ _ ?_
  refine cat_cons (rope Z co si) 8 512 512 8 16 rfl _ hv37 _ _ _ _ ?_
  refine cat_cons (rope Z co si) 48 512 512 16 64 rfl _ hv38 _ _ _ _ ?_
  refine cat_cons (rope Z co si) 8 512 512 64 72 rfl _ hv43 _ _ _ _ ?_
  refine cat_cons (rope Z co si) 8 512 512 72 80 rfl _ hv46 _ _ _ _ ?_
  refine cat_cons (rope Z co si) 48 512 512 80 128 rfl _ hv47 _ _ _ _ ?_
  refine cat_cons (rope Z co si) 8 512 512 128 136 rfl _ hv52 _ _ _ _ ?_
  refine cat_cons (rope Z co si) 8 512 512 136 144 rfl _ hv55 _ _ _ _ ?_
  refine cat_cons (rope Z co si) 48 512 512 144 192 rfl _ hv56 _ _ _ _ ?_
  refine cat_cons (rope Z co si) 8 512 512 192 200 rfl _ hv61 _ _ _ _ ?_
  refine cat_cons (rope Z co si) 8 512 512 200 208 rfl _ hv64 _ _ _ _ ?_
  refine cat_cons (rope Z co si) 48 512 512 208 256 rfl _ hv65 _ _ _ _ ?_
  refine cat_cons (rope Z co si) 8 512 512 256 264 rfl _ hv70 _ _ _ _ ?_
  refine cat_cons (rope Z co si) 8 512 512 264 272 rfl _ hv73 _ _ _ _ ?_
  refine cat_cons (rope Z co si) 48 512 512 272 320 rfl _ hv74 _ _ _ _ ?_
  refine cat_cons (rope Z co si) 8 512 512 320 328 rfl _ hv79 _ _ _ _ ?_
  refine cat_cons (rope Z co si) 8 512 512 328 336 rfl _ hv82 _ _ _ _ ?_
  refine cat_cons (rope Z co si) 48 512 512 336 384 rfl _ hv83 _ _ _ _ ?_
  refine cat_cons (rope Z co si) 8 512 512 384 392 rfl _ hv88 _ _ _ _ ?_
  refine cat_cons (rope Z co si) 8 512 512 392 400 rfl _ hv91 _ _ _ _ ?_
  refine cat_cons (rope Z co si) 48 512 512 400 448 rfl _ hv92 _ _ _ _ ?_
  refine cat_cons (rope Z co si) 8 512 512 448 456 rfl _ hv97 _ _ _ _ ?_
  refine cat_cons (rope Z co si) 8 512 512 456 464 rfl _ hv100 _ _ _ _ ?_
  exact cat_last (rope Z co si) 48 512 512 464 _ hv101 _ _

/-- The eight heads laid one below another, scaled. -/
theorem pay47_at (v34 v37 v43 v46 v52 v55 v61 v64 v70 v73 v79 v82 v88 v91 v97 v98 v99 : FVec Ideal S8x512 .f32) (v38 v47 v56 v65 v74 v83 v92 : FVec Ideal S48x512 .f32)
    (hq : ∀ j : Fin 512, q (ix2 j r) = Z j.val)
    (hv34 : ∀ i : Fin 8, v34 (ix2 i r) = rope Z co si (0 + i.val))
    (hv37 : ∀ i : Fin 8, v37 (ix2 i r) = rope Z co si (8 + i.val))
    (hv38 : ∀ i : Fin 48, v38 (ix2 i r) = rope Z co si (16 + i.val))
    (hv43 : ∀ i : Fin 8, v43 (ix2 i r) = rope Z co si (64 + i.val))
    (hv46 : ∀ i : Fin 8, v46 (ix2 i r) = rope Z co si (72 + i.val))
    (hv47 : ∀ i : Fin 48, v47 (ix2 i r) = rope Z co si (80 + i.val))
    (hv52 : ∀ i : Fin 8, v52 (ix2 i r) = rope Z co si (128 + i.val))
    (hv55 : ∀ i : Fin 8, v55 (ix2 i r) = rope Z co si (136 + i.val))
    (hv56 : ∀ i : Fin 48, v56 (ix2 i r) = rope Z co si (144 + i.val))
    (hv61 : ∀ i : Fin 8, v61 (ix2 i r) = rope Z co si (192 + i.val))
    (hv64 : ∀ i : Fin 8, v64 (ix2 i r) = rope Z co si (200 + i.val))
    (hv65 : ∀ i : Fin 48, v65 (ix2 i r) = rope Z co si (208 + i.val))
    (hv70 : ∀ i : Fin 8, v70 (ix2 i r) = rope Z co si (256 + i.val))
    (hv73 : ∀ i : Fin 8, v73 (ix2 i r) = rope Z co si (264 + i.val))
    (hv74 : ∀ i : Fin 48, v74 (ix2 i r) = rope Z co si (272 + i.val))
    (hv79 : ∀ i : Fin 8, v79 (ix2 i r) = rope Z co si (320 + i.val))
    (hv82 : ∀ i : Fin 8, v82 (ix2 i r) = rope Z co si (328 + i.val))
    (hv83 : ∀ i : Fin 48, v83 (ix2 i r) = rope Z co si (336 + i.val))
    (hv88 : ∀ i : Fin 8, v88 (ix2 i r) = rope Z co si (384 + i.val))
    (hv91 : ∀ i : Fin 8, v91 (ix2 i r) = rope Z co si (392 + i.val))
    (hv92 : ∀ i : Fin 48, v92 (ix2 i r) = rope Z co si (400 + i.val))
    (hv97 : ∀ i : Fin 8, v97 (ix2 i r) = rope Z co si (448 + i.val))
    (hv98 : ∀ i : Fin 8, v98 (ix2 i r) + v99 (ix2 i r) = rope Z co si (456 + i.val)) (j : Fin 512) :
    k0_pay47 q v34 v37 v38 v43 v46 v47 v52 v55 v56 v61 v64 v65 v70 v73 v74 v79 v82 v83 v88 v91 v92 v97 v98 v99 (ix3 0 j r) = rope Z co si j.val * scale := by
  have hr : ∀ i : Fin 48, extractStridedSlice S48x512 ![464, 0] q slices_S512x512_o464_0_S48x512 (ix2 i r) = rope Z co si (464 + i.val) := fun i => by
    pointwise
    exact (hq _).trans (rope_hi Z co si 448 i.val (by decide) i.isLt)
  have h := heads_at r Z co si v34 v37 v43 v46 v52 v55 v61 v64 v70 v73 v79 v82 v88 v91 v97 (addf v98 v99) v38 v47 v56 v65 v74 v83 v92 (extractStridedSlice S48x512 ![464, 0] q slices_S512x512_o464_0_S48x512)
    hv34 hv37 hv38 hv43 hv46 hv47 hv52 hv55 hv56 hv61 hv64 hv65 hv70 hv73 hv74 hv79 hv82 hv83 hv88 hv91 hv92 hv97 hv98 hr j
  unfold k0_pay47
  generalize concatenate S512x512 0 _ _ = V at *
  pointwise
  rw [h]
  rfl

end

end Cert.Proj.Ker

end
-- ==== Proof.Proj.Block.lean ====
/-
  The projection on the kernel's side: what one point of the grid leaves in the blocks of its nine results. Three of
  them are stored whole and then in part again, or from rows read back; the lemmas on `View.canon` say which store an
  index is read from.
-/
module

public import proofs.«01_k».proof.Proof.Proj.Pay
public import proofs.«01_k».proof.Proof.Gen.Kernel4Ideal.Value
public import Idealize.ShloMosaic.Lib.Pipeline.ValueKit.Point

@[expose] public section

set_option maxRecDepth 16384

noncomputable section

namespace Cert.Proj.Ker

open Idealize.ShloMosaic Idealize.ShloMosaic.TcCoe Cert.Kernel4Ideal Cert.Kernel4Ideal.Gen Cert.Kernel4Ideal.Value
open Idealize.ShloMosaic.Pipeline (Dat)

/-! ## Which store an index is read from -/

section
variable {B C n o : ℕ} {e : EltTy}

/-- A row the newest store covers holds that store's row. -/
theorem hit3 (inb) (w : (⟨3, ![1, n, C]⟩ : Shape).Idx → Elt Ideal e) (L : List (View.Piece (Elt Ideal) (⟨3, ![1, B, C]⟩ : Shape) e)) (j : Fin B) (r : Fin C) (i : Fin n)
    (h : j.val = o + i.val) :
    View.canon (⟨Rect.unit (s := (⟨3, ![1, B, C]⟩ : Shape)) ![0, o, 0] ![1, n, C] inb, w⟩ :: L) (ix3 0 j r) = w (ix3 0 i r) := by
  have e1 : (ix3 0 j r : (⟨3, ![1, B, C]⟩ : Shape).Idx) = (Rect.unit (s := (⟨3, ![1, B, C]⟩ : Shape)) ![0, o, 0] ![1, n, C] inb).emb (ix3 0 i r) := by
    refine funext fun a => Fin.ext ?_
    match a with
    | ⟨0, _⟩ => rfl
    | ⟨1, _⟩ => show j.val = o + 1 * i.val; omega
    | ⟨2, _⟩ => show r.val = 0 + 1 * r.val; omega
  rw [e1]
  exact View.canon_cons_emb (Rect.unit (s := (⟨3, ![1, B, C]⟩ : Shape)) ![0, o, 0] ![1, n, C] inb) w L (ix3 0 i r)

/-- A row the newest store does not cover is read from the older ones. -/
theorem miss3 (inb) (w : (⟨3, ![1, n, C]⟩ : Shape).Idx → Elt Ideal e) (L : List (View.Piece (Elt Ideal) (⟨3, ![1, B, C]⟩ : Shape) e)) (j : Fin B) (r : Fin C)
    (h : j.val < o ∨ o + n ≤ j.val) :
    View.canon (⟨Rect.unit (s := (⟨3, ![1, B, C]⟩ : Shape)) ![0, o, 0] ![1, n, C] inb, w⟩ :: L) (ix3 0 j r) = View.canon L (ix3 0 j r) := by
  refine View.canon_cons_of_not_mem ⟨Rect.unit (s := (⟨3, ![1, B, C]⟩ : Shape)) ![0, o, 0] ![1, n, C] inb, w⟩ L ?_
  intro hm
  obtain ⟨i, hi, hi'⟩ := (LoadRect.mem_set _).mp hm (1 : Fin 3)
  have hi : i < n := hi
  have hi' : j.val = o + 1 * i := hi'
  omega

/-- A whole array stored first and rows of it stored again by eights: the array holds `G`. -/
theorem rows_at {o1 o2 o3 o4 : ℕ} (inb0 inb1 inb2 inb3 inb4) (p0 : (⟨3, ![1, B, C]⟩ : Shape).Idx → Elt Ideal e) (p1 p2 p3 p4 : (⟨3, ![1, 8, C]⟩ : Shape).Idx → Elt Ideal e)
    (G : ℕ → Elt Ideal e) (r : Fin C) (h4 : ∀ i : Fin 8, p4 (ix3 0 i r) = G (o4 + i.val)) (h3 : ∀ i : Fin 8, p3 (ix3 0 i r) = G (o3 + i.val))
    (h2 : ∀ i : Fin 8, p2 (ix3 0 i r) = G (o2 + i.val)) (h1 : ∀ i : Fin 8, p1 (ix3 0 i r) = G (o1 + i.val))
    (h0 : ∀ j : Fin B, (j.val < o4 ∨ o4 + 8 ≤ j.val) → (j.val < o3 ∨ o3 + 8 ≤ j.val) → (j.val < o2 ∨ o2 + 8 ≤ j.val) → (j.val < o1 ∨ o1 + 8 ≤ j.val) → p0 (ix3 0 j r) = G j.val)
    (j : Fin B) :
    View.canon [⟨Rect.unit (s := (⟨3, ![1, B, C]⟩ : Shape)) ![0, o4, 0] ![1, 8, C] inb4, p4⟩, ⟨Rect.unit (s := (⟨3, ![1, B, C]⟩ : Shape)) ![0, o3, 0] ![1, 8, C] inb3, p3⟩,
      ⟨Rect.unit (s := (⟨3, ![1, B, C]⟩ : Shape)) ![0, o2, 0] ![1, 8, C] inb2, p2⟩, ⟨Rect.unit (s := (⟨3, ![1, B, C]⟩ : Shape)) ![0, o1, 0] ![1, 8, C] inb1, p1⟩,
      ⟨Rect.unit (s := (⟨3, ![1, B, C]⟩ : Shape)) ![0, 0, 0] ![1, B, C] inb0, p0⟩] (ix3 0 j r) = G j.val := by
  have go : ∀ {o : ℕ} (q : (⟨3, ![1, 8, C]⟩ : Shape).Idx → Elt Ideal e) (inb) (L) (hq : ∀ i : Fin 8, q (ix3 0 i r) = G (o + i.val))
      (hL : (j.val < o ∨ o + 8 ≤ j.val) → View.canon L (ix3 0 j r) = G j.val),
      View.canon (⟨Rect.unit (s := (⟨3, ![1, B, C]⟩ : Shape)) ![0, o, 0] ![1, 8, C] inb, q⟩ :: L) (ix3 0 j r) = G j.val := by
    intro o q inb L hq hL
    by_cases h : j.val < o ∨ o + 8 ≤ j.val
    · exact (miss3 inb q L j r h).trans (hL h)
    · have hlt : j.val - o < 8 := by omega
      have he : o + (j.val - o) = j.val := by omega
      exact (hit3 inb q L j r ⟨j.val - o, hlt⟩ he.symm).trans ((hq ⟨j.val - o, hlt⟩).trans (congrArg G he))
  refine go p4 _ _ h4 fun k4 => go p3 _ _ h3 fun k3 => go p2 _ _ h2 fun k2 => go p1 _ _ h1 fun k1 => ?_
  exact (hit3 inb0 p0 [] j r j (Nat.zero_add _).symm).trans (h0 j k4 k3 k2 k1)

/-- Rows read back are the rows of what the stores left. -/
theorem readBack {sp : Space} (v : View sig .tc sp (⟨3, ![1, B, C]⟩ : Shape) e) (L : List (View.Piece (Elt Ideal) (⟨3, ![1, B, C]⟩ : Shape) e)) (inb) (G : ℕ → Elt Ideal e) (r : Fin C)
    (h : ∀ j : Fin B, View.canon L (ix3 0 j r) = G j.val) (i : Fin n) :
    v.readCov L (Rect.unit (s := (⟨3, ![1, B, C]⟩ : Shape)) ![0, o, 0] ![1, n, C] inb).toLoadRect (ix3 0 i r) = G (o + i.val) := by
  have hb : o + n ≤ B := inb (1 : Fin 3)
  rw [View.readCov_eq_canon']
  refine Eq.trans (congrArg (View.canon L) ?_) (h ⟨o + i.val, by omega⟩)
  refine funext fun a => Fin.ext ?_
  match a with
  | ⟨0, _⟩ => rfl
  | ⟨1, _⟩ => show o + 1 * i.val = o + i.val; omega
  | ⟨2, _⟩ => show 0 + 1 * r.val = r.val; omega

variable {D H E a b : ℕ}

/-- A head's rows the newest store covers hold that store's rows. -/
theorem hit4 (inb) (w : (⟨4, ![1, 1, n, C]⟩ : Shape).Idx → Elt Ideal e) (L : List (View.Piece (Elt Ideal) (⟨4, ![1, H, E, C]⟩ : Shape) e)) (j : Fin H) (f : Fin E) (r : Fin C) (i : Fin n)
    (hj : j.val = a) (h : f.val = o + i.val) :
    View.canon (⟨Rect.unit (s := (⟨4, ![1, H, E, C]⟩ : Shape)) ![0, a, o, 0] ![1, 1, n, C] inb, w⟩ :: L) (ix4 0 j f r) = w (ix4 0 0 i r) := by
  have e1 : (ix4 0 j f r : (⟨4, ![1, H, E, C]⟩ : Shape).Idx) = (Rect.unit (s := (⟨4, ![1, H, E, C]⟩ : Shape)) ![0, a, o, 0] ![1, 1, n, C] inb).emb (ix4 0 0 i r) := by
    refine funext fun d => Fin.ext ?_
    match d with
    | ⟨0, _⟩ => rfl
    | ⟨1, _⟩ => show j.val = a + 1 * 0; omega
    | ⟨2, _⟩ => show f.val = o + 1 * i.val; omega
    | ⟨3, _⟩ => show r.val = 0 + 1 * r.val; omega
  rw [e1]
  exact View.canon_cons_emb (Rect.unit (s := (⟨4, ![1, H, E, C]⟩ : Shape)) ![0, a, o, 0] ![1, 1, n, C] inb) w L (ix4 0 0 i r)

/-- A row the newest store does not cover, for its head or its place, is read from the older ones. -/
theorem miss4 (inb) (w : (⟨4, ![1, 1, n, C]⟩ : Shape).Idx → Elt Ideal e) (L : List (View.Piece (Elt Ideal) (⟨4, ![1, H, E, C]⟩ : Shape) e)) (j : Fin H) (f : Fin E) (r : Fin C)
    (h : j.val ≠ a ∨ f.val < o ∨ o + n ≤ f.val) :
    View.canon (⟨Rect.unit (s := (⟨4, ![1, H, E, C]⟩ : Shape)) ![0, a, o, 0] ![1, 1, n, C] inb, w⟩ :: L) (ix4 0 j f r) = View.canon L (ix4 0 j f r) := by
  refine View.canon_cons_of_not_mem ⟨Rect.unit (s := (⟨4, ![1, H, E, C]⟩ : Shape)) ![0, a, o, 0] ![1, 1, n, C] inb, w⟩ L ?_
  intro hm
  obtain ⟨i, hi, hi'⟩ := (LoadRect.mem_set _).mp hm (1 : Fin 4)
  have hi : i < 1 := hi
  have hi' : j.val = a + 1 * i := hi'
  obtain ⟨k, hk, hk'⟩ := (LoadRect.mem_set _).mp hm (2 : Fin 4)
  have hk : k < n := hk
  have hk' : f.val = o + 1 * k := hk'
  omega

/-- One head's store over the older ones: either the index lies in it and it holds the value, or the older ones do. -/
theorem step4 (inb) (w : (⟨4, ![1, 1, n, C]⟩ : Shape).Idx → Elt Ideal e) (L : List (View.Piece (Elt Ideal) (⟨4, ![1, H, E, C]⟩ : Shape) e)) (j : Fin H) (f : Fin E) (r : Fin C)
    (G : ℕ → ℕ → Elt Ideal e) (hw : ∀ i : Fin n, w (ix4 0 0 i r) = G a (o + i.val))
    (hL : (j.val ≠ a ∨ f.val < o ∨ o + n ≤ f.val) → View.canon L (ix4 0 j f r) = G j.val f.val) :
    View.canon (⟨Rect.unit (s := (⟨4, ![1, H, E, C]⟩ : Shape)) ![0, a, o, 0] ![1, 1, n, C] inb, w⟩ :: L) (ix4 0 j f r) = G j.val f.val := by
  by_cases h : j.val ≠ a ∨ f.val < o ∨ o + n ≤ f.val
  · exact (miss4 inb w L j f r h).trans (hL h)
  · have hlt : f.val - o < n := by omega
    have hj : j.val = a := by omega
    have he : o + (f.val - o) = f.val := by omega
    refine (hit4 inb w L j f r ⟨f.val - o, hlt⟩ hj he.symm).trans ((hw ⟨f.val - o, hlt⟩).trans ?_)
    rw [hj]
    exact congrArg (G a) he

end

/-! ## The keys and values -/

section
variable (u : FVec Ideal S512x1024 .bf16) (w : Vec Ideal S768x1024 .bf16) (c s : FVec Ideal S8x512 .f32) (K : FVec Ideal S768x512 .f32) (r : Fin 512) (Z co si : ℕ → EReal)

/-- The compressed and the selected branch, stored whole. -/
theorem pay49_at (hK : ∀ j : Fin 768, k0_pay48 u w (ix2 j r) = Z (512 + j.val)) (j : Fin 512) :
    k0_pay49 u w (ix3 0 j r) = Z (512 + j.val) := by
  unfold k0_pay49
  generalize k0_pay48 u w = K at *
  pointwise
  exact hK _

/-- The window branch, stored whole. -/
theorem pay50_at (hK : ∀ j : Fin 768, k0_pay48 u w (ix2 j r) = Z (512 + j.val)) (j : Fin 256) :
    k0_pay50 u w (ix3 0 j r) = Z (1024 + j.val) := by
  unfold k0_pay50
  generalize k0_pay48 u w = K at *
  pointwise
  rw [hK]
  exact congrArg Z (by show 512 + (512 + j.val) = _; omega)

/-- Eight rotated rows of the keys. -/
theorem pay53_at (hK : ∀ j : Fin 768, k0_pay48 u w (ix2 j r) = Z (512 + j.val)) (hc : ∀ i : Fin 8, c (ix2 i r) = co i.val) (hs : ∀ i : Fin 8, s (ix2 i r) = si i.val) (i : Fin 8) :
    k0_pay53 u c s w (ix3 0 i r) = rope Z co si (768 + i.val) := by
  unfold k0_pay53 k0_pay51 k0_pay52
  generalize k0_pay48 u w = K at *
  pointwise
  simp only [hK, hc, hs]
  refine Eq.trans ?_ (rope_lo Z co si 768 i.val (by decide) i.isLt)
  simp only [← Nat.add_assoc]

/-- Eight rotated rows of the keys. -/
theorem pay54_at (hK : ∀ j : Fin 768, k0_pay48 u w (ix2 j r) = Z (512 + j.val)) (hc : ∀ i : Fin 8, c (ix2 i r) = co i.val) (hs : ∀ i : Fin 8, s (ix2 i r) = si i.val) (i : Fin 8) :
    k0_pay54 u c s w (ix3 0 i r) = rope Z co si (776 + i.val) := by
  unfold k0_pay54 k0_pay51 k0_pay52
  generalize k0_pay48 u w = K at *
  pointwise
  simp only [hK, hc, hs]
  refine Eq.trans ?_ (rope_mid Z co si 768 i.val (by decide) i.isLt)
  simp only [← Nat.add_assoc]

/-- Eight rows of the keys. -/
theorem pay55_at (hK : ∀ j : Fin 768, k0_pay48 u w (ix2 j r) = Z (512 + j.val)) (i : Fin 8) :
    k0_pay55 u w (ix2 i r) = Z (832 + i.val) := by
  unfold k0_pay55
  generalize k0_pay48 u w = K at *
  pointwise
  rw [hK]
  exact congrArg Z (by show 512 + (320 + i.val) = _; omega)

/-- Eight rows of the keys. -/
theorem pay56_at (hK : ∀ j : Fin 768, k0_pay48 u w (ix2 j r) = Z (512 + j.val)) (i : Fin 8) :
    k0_pay56 u w (ix2 i r) = Z (840 + i.val) := by
  unfold k0_pay56
  generalize k0_pay48 u w = K at *
  pointwise
  rw [hK]
  exact congrArg Z (by show 512 + (328 + i.val) = _; omega)

/-- Eight rotated rows of the keys. -/
theorem pay57_at (a b : FVec Ideal S8x512 .f32) (ha : ∀ i : Fin 8, a (ix2 i r) = Z (832 + i.val)) (hb : ∀ i : Fin 8, b (ix2 i r) = Z (840 + i.val)) (hc : ∀ i : Fin 8, c (ix2 i r) = co i.val) (hs : ∀ i : Fin 8, s (ix2 i r) = si i.val) (i : Fin 8) :
    k0_pay57 c s a b (ix3 0 i r) = rope Z co si (832 + i.val) := by
  pointwise [k0_pay57]
  simp only [ha, hb, hc, hs]
  exact rope_lo Z co si 832 i.val (by decide) i.isLt

/-- Eight rotated rows of the keys. -/
theorem pay58_at (a b : FVec Ideal S8x512 .f32) (ha : ∀ i : Fin 8, a (ix2 i r) = Z (832 + i.val)) (hb : ∀ i : Fin 8, b (ix2 i r) = Z (840 + i.val)) (hc : ∀ i : Fin 8, c (ix2 i r) = co i.val) (hs : ∀ i : Fin 8, s (ix2 i r) = si i.val) (i : Fin 8) :
    k0_pay58 c s a b (ix3 0 i r) = rope Z co si (840 + i.val) := by
  pointwise [k0_pay58]
  simp only [ha, hb, hc, hs]
  exact rope_mid Z co si 832 i.val (by decide) i.isLt

/-- Eight rotated rows of the keys. -/
theorem pay61_at (hK : ∀ j : Fin 768, K (ix2 j r) = Z (512 + j.val)) (hc : ∀ i : Fin 8, c (ix2 i r) = co i.val) (hs : ∀ i : Fin 8, s (ix2 i r) = si i.val) (i : Fin 8) :
    k0_pay61 c s K (ix3 0 i r) = rope Z co si (1024 + i.val) := by
  pointwise [k0_pay61, k0_pay59, k0_pay60]
  simp only [hK, hc, hs]
  refine Eq.trans ?_ (rope_lo Z co si 1024 i.val (by decide) i.isLt)
  simp only [← Nat.add_assoc]

/-- Eight rotated rows of the keys. -/
theorem pay62_at (hK : ∀ j : Fin 768, K (ix2 j r) = Z (512 + j.val)) (hc : ∀ i : Fin 8, c (ix2 i r) = co i.val) (hs : ∀ i : Fin 8, s (ix2 i r) = si i.val) (i : Fin 8) :
    k0_pay62 c s K (ix3 0 i r) = rope Z co si (1032 + i.val) := by
  pointwise [k0_pay62, k0_pay59, k0_pay60]
  simp only [hK, hc, hs]
  refine Eq.trans ?_ (rope_mid Z co si 1024 i.val (by decide) i.isLt)
  simp only [← Nat.add_assoc]

/-- Eight rotated rows of the keys. -/
theorem pay66_at (hK : ∀ j : Fin 768, K (ix2 j r) = Z (512 + j.val)) (hc : ∀ i : Fin 8, c (ix2 i r) = co i.val) (hs : ∀ i : Fin 8, s (ix2 i r) = si i.val) (i : Fin 8) :
    k0_pay66 c s K (ix3 0 i r) = rope Z co si (1088 + i.val) := by
  pointwise [k0_pay66, k0_pay63, k0_pay64]
  simp only [hK, hc, hs]
  refine Eq.trans ?_ (rope_lo Z co si 1088 i.val (by decide) i.isLt)
  simp only [← Nat.add_assoc]

/-- Eight rotated rows of the keys. -/
theorem pay67_at (hK : ∀ j : Fin 768, K (ix2 j r) = Z (512 + j.val)) (hc : ∀ i : Fin 8, c (ix2 i r) = co i.val) (hs : ∀ i : Fin 8, s (ix2 i r) = si i.val) (i : Fin 8) :
    k0_pay67 (k0_pay65 c s K) (ix3 0 i r) = rope Z co si (1096 + i.val) := by
  pointwise [k0_pay67, k0_pay65, k0_pay63, k0_pay64]
  simp only [hK, hc, hs]
  refine Eq.trans ?_ (rope_mid Z co si 1088 i.val (by decide) i.isLt)
  simp only [← Nat.add_assoc]

end

/-! ## Rows by head -/

section
variable (v : Vec Ideal S1x64x512 .f32) (w : FVec Ideal S64x512 .bf16) (e : Fin 64) (r : Fin 512)
/-- One head's rows, stored by head. -/
theorem pay69_at : k0_pay69 v (ix4 0 0 e r) = v (ix3 0 e r) := by
  pointwise [k0_pay69]
/-- One head's rows, stored by head. -/
theorem pay70_at : k0_pay70 v (ix4 0 0 e r) = v (ix3 0 e r) := by
  pointwise [k0_pay70]
/-- One head's rows, stored by head. -/
theorem pay72_at : k0_pay72 v (ix4 0 0 e r) = v (ix3 0 e r) := by
  pointwise [k0_pay72]
/-- One head's rows, stored by head. -/
theorem pay73_at : k0_pay73 v (ix4 0 0 e r) = v (ix3 0 e r) := by
  pointwise [k0_pay73]
/-- One head's rows, stored by head. -/
theorem pay75_at : k0_pay75 v (ix4 0 0 e r) = v (ix3 0 e r) := by
  pointwise [k0_pay75]
/-- One head's rows, stored by head. -/
theorem pay76_at : k0_pay76 v (ix4 0 0 e r) = v (ix3 0 e r) := by
  pointwise [k0_pay76]
/-- One head's rows, stored by head. -/
theorem pay78_at : k0_pay78 v (ix4 0 0 e r) = v (ix3 0 e r) := by
  pointwise [k0_pay78]
/-- One head's rows, stored by head. -/
theorem pay79_at : k0_pay79 v (ix4 0 0 e r) = v (ix3 0 e r) := by
  pointwise [k0_pay79]
/-- The ones row and the zero rows, stored by head. -/
theorem pay74_at : k0_pay74 w (ix4 0 0 e r) = w (ix2 e r) := by
  pointwise [k0_pay74]
/-- The ones row and the zero rows, stored by head. -/
theorem pay77_at : k0_pay77 w (ix4 0 0 e r) = w (ix2 e r) := by
  pointwise [k0_pay77]
/-- The ones row and the zero rows, stored by head. -/
theorem pay80_at : k0_pay80 w (ix4 0 0 e r) = w (ix2 e r) := by
  pointwise [k0_pay80]
/-- A row of ones, then rows of zeros. -/
theorem pay68_at : (k0_pay68 : FVec Ideal S64x512 .bf16) (ix2 e r) = if e.val = 0 then (1 : EReal) else 0 := by
  have hb : ∀ e : Fin 64, BitVec.setWidth 32 (IntOp.cmpi CmpIPredicate.eq (BitVec.ofNat 32 e.val) 0#32) = if e.val = 0 then 1#32 else 0#32 := by decide
  pointwise [k0_pay68]
  rw [hb e]
  by_cases h : e.val = 0
  · rw [if_pos h, if_pos h]
    show (((1#32 : BitVec 32).toInt : ℝ) : EReal) = 1
    norm_num
  · rw [if_neg h, if_neg h]
    show (((0#32 : BitVec 32).toInt : ℝ) : EReal) = 0
    norm_num

/-- The ones row and the zero rows of the first head. -/
theorem pay71_at : (k0_pay71 : FVec Ideal S1x1x64x512 .bf16) (ix4 0 0 e r) = if e.val = 0 then (1 : EReal) else 0 := by
  have h := pay68_at e r
  unfold k0_pay71
  generalize (k0_pay68 : FVec Ideal S64x512 .bf16) = w at *
  pointwise
  exact h
end

end Cert.Proj.Ker

end
-- ==== Proof.Proj.Points.lean ====
/-
  The projection on the kernel's side: the nine blocks a point of the grid leaves, at an index, from the row it reads.
-/
module

public import proofs.«01_k».proof.Proof.Proj.Block
public import Idealize.ShloMosaic.Lib.ValueIdx
public import Idealize.ShloMosaic.Lib.Claim
public import Idealize.ShloMosaic.Lib.Pipeline.ReadBack

@[expose] public section

set_option maxRecDepth 16384

noncomputable section

namespace Cert.Proj.Ker

open Idealize.ShloMosaic Idealize.ShloMosaic.TcCoe Cert.Kernel4Ideal Cert.Kernel4Ideal.Gen Cert.Kernel4Ideal.Value
open Idealize.ShloMosaic.Pipeline (Dat)

/-- The blocks a point reads hold the weights, at their row `r` the row `x` and at their column `r` the position's cosines and sines. -/
structure Reads (x g : Fin 1024 → EReal) (W : Fin 1024 → ℕ → EReal) (co si : ℕ → EReal) (r : Fin 512) (x0 : Vec Ideal S512x1024 .f32) (x1 : Vec Ideal S1x1024 .f32)
    (x2 : Vec Ideal S512x1024 .bf16) (x3 : Vec Ideal S768x1024 .bf16) (x4 : Vec Ideal S1024x1024 .bf16) (x5 : Vec Ideal S32x1024 .bf16) (x6 x7 : Vec Ideal S8x512 .f32) : Prop where
  h0 : ∀ k, x0 (ix2 r k) = x k
  h1 : ∀ k, x1 (ix2 0 k) = g k
  h2 : ∀ (j : Fin 512) (k : Fin 1024), x2 (ix2 j k) = W k j.val
  h3 : ∀ (j : Fin 768) (k : Fin 1024), x3 (ix2 j k) = W k (512 + j.val)
  h4 : ∀ (j : Fin 1024) (k : Fin 1024), x4 (ix2 j k) = W k (1304 + j.val)
  h5 : ∀ (j : Fin 32) (k : Fin 1024), x5 (ix2 j k) = if j.val % 16 < 12 then W k (1280 + j.val % 16 / 4 * 8 + j.val / 16 * 4 + j.val % 4) else 0
  h6 : ∀ i : Fin 8, x6 (ix2 i r) = co i.val
  h7 : ∀ i : Fin 8, x7 (ix2 i r) = si i.val

section
variable {x g : Fin 1024 → EReal} {W : Fin 1024 → ℕ → EReal} {co si : ℕ → EReal} {r : Fin 512} {x0 : Vec Ideal S512x1024 .f32} {x1 : Vec Ideal S1x1024 .f32}
  {x2 : Vec Ideal S512x1024 .bf16} {x3 : Vec Ideal S768x1024 .bf16} {x4 : Vec Ideal S1024x1024 .bf16} {x5 : Vec Ideal S32x1024 .bf16} {x6 x7 : Vec Ideal S8x512 .f32}
  (H : Reads x g W co si r x0 x1 x2 x3 x4 x5 x6 x7)
include H

/-- The normed row. -/
theorem Reads.u (k : Fin 1024) : k0_pay2 x0 x1 (ix2 r k) = urow x g k := by
  rw [pay2_at]
  exact congrArg₂ (fun a b => urow a b k) (funext H.h0) (funext H.h1)

/-- The queries' columns. -/
theorem Reads.q (j : Fin 512) : k0_pay5 x0 x1 x2 (ix2 j r) = col x g W j.val := pay5_at x0 x1 x2 r x g W H.u H.h2 j

/-- The keys' and values' columns. -/
theorem Reads.kv (j : Fin 768) : k0_pay48 (k0_pay2 x0 x1) x3 (ix2 j r) = col x g W (512 + j.val) := pay48_at _ x3 r x g W H.u H.h3 j

/-- The position's cosines. -/
theorem Reads.c (i : Fin 8) : k0_pay3 x6 (ix2 i r) = co i.val := (pay3_at x6 i r).trans (H.h6 i)

/-- The position's sines. -/
theorem Reads.s (i : Fin 8) : k0_pay4 x7 (ix2 i r) = si i.val := (pay4_at x7 i r).trans (H.h7 i)

/-- The rows of the compressed and the selected branch, as the stores leave them. -/
theorem Reads.l10 (inb0 inb1 inb2 inb3 inb4) (j : Fin 512) :
    (View.canon ([⟨Rect.unit (s := (⟨3, ![1, 512, 512]⟩ : Shape)) ![0, 328, 0] ![1, 8, 512] inb4, k0_pay58 (k0_pay3 x6) (k0_pay4 x7) (k0_pay55 (k0_pay2 x0 x1) x3) (k0_pay56 (k0_pay2 x0 x1) x3)⟩,
      ⟨Rect.unit (s := (⟨3, ![1, 512, 512]⟩ : Shape)) ![0, 320, 0] ![1, 8, 512] inb3, k0_pay57 (k0_pay3 x6) (k0_pay4 x7) (k0_pay55 (k0_pay2 x0 x1) x3) (k0_pay56 (k0_pay2 x0 x1) x3)⟩,
      ⟨Rect.unit (s := (⟨3, ![1, 512, 512]⟩ : Shape)) ![0, 264, 0] ![1, 8, 512] inb2, k0_pay54 (k0_pay2 x0 x1) (k0_pay3 x6) (k0_pay4 x7) x3⟩,
      ⟨Rect.unit (s := (⟨3, ![1, 512, 512]⟩ : Shape)) ![0, 256, 0] ![1, 8, 512] inb1, k0_pay53 (k0_pay2 x0 x1) (k0_pay3 x6) (k0_pay4 x7) x3⟩,
      ⟨Rect.unit (s := (⟨3, ![1, 512, 512]⟩ : Shape)) ![0, 0, 0] ![1, 512, 512] inb0, k0_pay49 (k0_pay2 x0 x1) x3⟩] : List (View.Piece (Elt Ideal) (⟨3, ![1, 512, 512]⟩ : Shape) .f32)) : (⟨3, ![1, 512, 512]⟩ : Shape).Idx → Elt Ideal .f32) (ix3 0 j r) = kvs (col x g W) co si j.val := by
  have k : ∀ n, 256 ≤ n → n < 384 → rope (col x g W) co si (512 + n) = kvs (col x g W) co si n := fun n h1 h2 => by
    unfold kvs
    rw [if_neg (by omega), if_pos h2]
  have e : ∀ o o' (i : Fin 8), 512 + o = o' → 256 ≤ o → o + 8 ≤ 384 → rope (col x g W) co si (o' + i.val) = kvs (col x g W) co si (o + i.val) := fun o o' i h h1 h2 =>
    (congrArg (rope (col x g W) co si) (by omega)).trans (k (o + i.val) (by omega) (by omega))
  refine rows_at (e := .f32) _ _ _ _ _ _ _ _ _ _ (kvs (col x g W) co si) r
    (fun i => (pay58_at _ _ r _ co si _ _ (pay55_at _ _ r _ H.kv) (pay56_at _ _ r _ H.kv) H.c H.s i).trans (e 328 840 i rfl (by decide) (by decide)))
    (fun i => (pay57_at _ _ r _ co si _ _ (pay55_at _ _ r _ H.kv) (pay56_at _ _ r _ H.kv) H.c H.s i).trans (e 320 832 i rfl (by decide) (by decide)))
    (fun i => (pay54_at _ _ _ _ r _ co si H.kv H.c H.s i).trans (e 264 776 i rfl (by decide) (by decide)))
    (fun i => (pay53_at _ _ _ _ r _ co si H.kv H.c H.s i).trans (e 256 768 i rfl (by decide) (by decide)))
    ?_ j
  intro j h4 h3 h2 h1
  refine (pay49_at _ _ r _ H.kv j).trans ?_
  unfold kvs
  by_cases a : j.val < 256
  · rw [if_pos a]
  · rw [if_neg a]
    by_cases b : j.val < 384
    · rw [if_pos b, rope_of_le _ _ _ _ (by omega)]
    · rw [if_neg b]

/-- The rows of the window branch, as the stores leave them. -/
theorem Reads.l11 (inb0 inb1 inb2 inb3 inb4) (j : Fin 256) :
    (View.canon ([⟨Rect.unit (s := (⟨3, ![1, 256, 512]⟩ : Shape)) ![0, 72, 0] ![1, 8, 512] inb4, k0_pay67 (k0_pay65 (k0_pay3 x6) (k0_pay4 x7) (k0_pay48 (k0_pay2 x0 x1) x3))⟩,
      ⟨Rect.unit (s := (⟨3, ![1, 256, 512]⟩ : Shape)) ![0, 64, 0] ![1, 8, 512] inb3, k0_pay66 (k0_pay3 x6) (k0_pay4 x7) (k0_pay48 (k0_pay2 x0 x1) x3)⟩,
      ⟨Rect.unit (s := (⟨3, ![1, 256, 512]⟩ : Shape)) ![0, 8, 0] ![1, 8, 512] inb2, k0_pay62 (k0_pay3 x6) (k0_pay4 x7) (k0_pay48 (k0_pay2 x0 x1) x3)⟩,
      ⟨Rect.unit (s := (⟨3, ![1, 256, 512]⟩ : Shape)) ![0, 0, 0] ![1, 8, 512] inb1, k0_pay61 (k0_pay3 x6) (k0_pay4 x7) (k0_pay48 (k0_pay2 x0 x1) x3)⟩,
      ⟨Rect.unit (s := (⟨3, ![1, 256, 512]⟩ : Shape)) ![0, 0, 0] ![1, 256, 512] inb0, k0_pay50 (k0_pay2 x0 x1) x3⟩] : List (View.Piece (Elt Ideal) (⟨3, ![1, 256, 512]⟩ : Shape) .f32)) : (⟨3, ![1, 256, 512]⟩ : Shape).Idx → Elt Ideal .f32) (ix3 0 j r) = win (col x g W) co si j.val := by
  have e : ∀ o o' (i : Fin 8), 1024 + o = o' → o + 8 ≤ 128 → rope (col x g W) co si (o' + i.val) = win (col x g W) co si (o + i.val) := fun o o' i h h2 => by
    unfold win
    rw [if_pos (by omega)]
    exact congrArg _ (by omega)
  refine rows_at (e := .f32) _ _ _ _ _ _ _ _ _ _ (win (col x g W) co si) r
    (fun i => (pay67_at _ _ _ r _ co si H.kv H.c H.s i).trans (e 72 1096 i rfl (by decide)))
    (fun i => (pay66_at _ _ _ r _ co si H.kv H.c H.s i).trans (e 64 1088 i rfl (by decide)))
    (fun i => (pay62_at _ _ _ r _ co si H.kv H.c H.s i).trans (e 8 1032 i rfl (by decide)))
    (fun i => (pay61_at _ _ _ r _ co si H.kv H.c H.s i).trans (e 0 1024 i rfl (by decide)))
    ?_ j
  intro j h4 h3 h2 h1
  refine (pay50_at _ _ r _ H.kv j).trans ?_
  unfold win
  by_cases a : j.val < 128
  · rw [if_pos a, rope_of_le _ _ _ _ (by omega)]
  · rw [if_neg a]

end

/-! ## The rows by head, and the rows they are read from -/

section
variable (Z co si : ℕ → EReal)

/-- The rotated keys among the compressed and selected branches, by head. -/
theorem kvs_keys (a e b : ℕ) (ha : a < 2) (he : e < 64) (hb : b = 256 + 64 * a) : kvs Z co si (b + e) = keys Z co si a (0 + e) := by
  unfold kvs keys
  rw [if_neg (by omega), if_pos (by omega), if_pos ha]
  exact congrArg _ (by omega)
/-- The rotated keys of the window branch, by head. -/
theorem win_keys (a e b : ℕ) (ha : 2 ≤ a) (ha' : a < 4) (he : e < 64) (hb : b = 64 * (a - 2)) : win Z co si (b + e) = keys Z co si a (0 + e) := by
  unfold win keys
  rw [if_pos (by omega), if_neg (by omega)]
  exact congrArg _ (by omega)
/-- The values among the compressed and selected branches, by head. -/
theorem kvs_vals (a e b : ℕ) (ha : a < 2) (he : e < 64) (hb : b = 384 + 64 * a) : kvs Z co si (b + e) = vals Z a (0 + e) := by
  unfold kvs vals
  rw [if_neg (by omega), if_neg (by omega), if_pos (by omega), if_pos ha]
  exact congrArg _ (by omega)
/-- The values of the window branch, by head. -/
theorem win_vals (a e b : ℕ) (ha : 2 ≤ a) (ha' : a < 4) (he : e < 64) (hb : b = 128 + 64 * (a - 2)) : win Z co si (b + e) = vals Z a (0 + e) := by
  unfold win vals
  rw [if_neg (by omega), if_pos (by omega), if_neg (by omega)]
  exact congrArg _ (by omega)
/-- The row of ones and the rows of zeros under the values. -/
theorem ones_vals (a e : ℕ) : (if e = 0 then (1 : EReal) else 0) = vals Z a (64 + e) := by
  unfold vals
  have h1 : ¬64 + e < 64 := by omega
  rw [if_neg h1]
  by_cases h : e = 0
  · have h2 : 64 + e = 64 := by omega
    rw [if_pos h, if_pos h2]
  · have h2 : ¬64 + e = 64 := by omega
    rw [if_neg h, if_neg h2]

end

/-! ## The nine blocks -/

section
variable (m : (ℓ : Loc nD τ sig) → Buf (Elt Ideal) ℓ) (c : Dev nD) (t : Fin cfg0.N) {x g : Fin 1024 → EReal} {W : Fin 1024 → ℕ → EReal} {co si : ℕ → EReal} {r : Fin 512}
  (H : Reads x g W co si r (iblk m c 0 t) (iblk m c 1 t) (iblk m c 2 t) (iblk m c 3 t) (iblk m c 4 t) (iblk m c 5 t) (iblk m c 6 t) (iblk m c 7 t))
include H

/-- The queries. -/
theorem after8 (j : Fin 512) : ((dats m 0 c).after 8 t : FVec Ideal S1x512x512 .bf16) (ix3 0 j r) = col x g W j.val * scale := by
  rw [after0_8]
  simp only [outsAt0]
  frame_open
  frame_out
  exact pay6_at _ _ _ r _ H.q j

/-- The queries, rotated. -/
theorem after9 (j : Fin 512) : ((dats m 0 c).after 9 t : FVec Ideal S1x512x512 .bf16) (ix3 0 j r) = rope (col x g W) co si j.val * scale := by
  rw [after0_9]
  simp only [outsAt0]
  frame_open
  frame_out
  exact pay47_at _ r _ co si _ _ _ _ _ _ _ _ _ _ _ _ _ _ _ _ _ _ _ _ _ _ _ _ H.q
    (pay9_at _ _ _ _ _ r _ co si H.q H.c H.s) (pay10_at _ _ _ _ _ r _ co si H.q H.c H.s) (pay11_at _ _ _ r _ co si H.q)
    (pay14_at _ _ _ r _ co si _ (pay12_at _ _ _ r _ H.q) H.q H.c H.s) (pay15_at _ _ _ r _ co si _ (pay12_at _ _ _ r _ H.q) H.q H.c H.s) (pay16_at _ r _ co si H.q)
    (pay19_at _ _ _ r _ co si H.q H.c H.s) (pay20_at _ _ _ r _ co si H.q H.c H.s) (pay21_at _ r _ co si H.q)
    (pay24_at _ _ _ r _ co si H.q H.c H.s) (pay25_at _ _ _ r _ co si H.q H.c H.s) (pay26_at _ r _ co si H.q)
    (pay29_at _ _ _ r _ co si H.q H.c H.s) (pay30_at _ _ _ r _ co si H.q H.c H.s) (pay31_at _ r _ co si H.q)
    (pay34_at _ _ _ r _ co si H.q H.c H.s) (pay35_at _ _ _ r _ co si H.q H.c H.s) (pay36_at _ r _ co si H.q)
    (pay39_at _ _ _ r _ co si H.q H.c H.s) (pay40_at _ _ _ r _ co si H.q H.c H.s) (pay41_at _ r _ co si H.q)
    (pay44_at _ _ _ r _ co si H.q H.c H.s) (pay45_46_at _ _ _ r _ co si H.q H.c H.s) j

/-- The compressed and the selected branch. -/
theorem after10 (j : Fin 512) : ((dats m 0 c).after 10 t : FVec Ideal S1x512x512 .f32) (ix3 0 j r) = kvs (col x g W) co si j.val := by
  rw [after0_10]
  simp only [outsAt0]
  frame_open
  frame_out
  exact H.l10 _ _ _ _ _ j

/-- The window branch. -/
theorem after11 (j : Fin 256) : ((dats m 0 c).after 11 t : FVec Ideal S1x256x512 .f32) (ix3 0 j r) = win (col x g W) co si j.val := by
  rw [after0_11]
  simp only [outsAt0]
  frame_open
  frame_out
  exact H.l11 _ _ _ _ _ j

/-- The keys by head. -/
theorem after12 (j : Fin 4) (f : Fin 64) : ((dats m 0 c).after 12 t : FVec Ideal S1x4x64x512 .bf16) (ix4 0 j f r) = keys (col x g W) co si j.val f.val := by
  rw [after0_12]
  simp only [outsAt0]
  frame_open
  frame_out
  refine step4 (e := .bf16) _ _ _ j f r (keys (col x g W) co si) ?_ fun k3 => ?_
  · exact fun i => (pay78_at _ i r).trans ((readBack (e := .f32) _ _ _ (win (col x g W) co si) r (H.l11 _ _ _ _ _) i).trans (win_keys _ co si 3 i.val 64 (by decide) (by decide) i.isLt rfl))
  refine step4 (e := .bf16) _ _ _ j f r (keys (col x g W) co si) ?_ fun k2 => ?_
  · exact fun i => (pay75_at _ i r).trans ((readBack (e := .f32) _ _ _ (win (col x g W) co si) r (H.l11 _ _ _ _ _) i).trans (win_keys _ co si 2 i.val 0 (by decide) (by decide) i.isLt rfl))
  refine step4 (e := .bf16) _ _ _ j f r (keys (col x g W) co si) ?_ fun k1 => ?_
  · exact fun i => (pay72_at _ i r).trans ((readBack (e := .f32) _ _ _ (kvs (col x g W) co si) r (H.l10 _ _ _ _ _) i).trans (kvs_keys _ co si 1 i.val 320 (by decide) i.isLt rfl))
  refine step4 (e := .bf16) _ _ _ j f r (keys (col x g W) co si) ?_ fun k0 => ?_
  · exact fun i => (pay69_at _ i r).trans ((readBack (e := .f32) _ _ _ (kvs (col x g W) co si) r (H.l10 _ _ _ _ _) i).trans (kvs_keys _ co si 0 i.val 256 (by decide) i.isLt rfl))
  exact absurd j.isLt (by omega)

/-- The values by head, with the ones and the zeros after them. -/
theorem after13 (j : Fin 4) (f : Fin 128) : ((dats m 0 c).after 13 t : FVec Ideal S1x4x128x512 .bf16) (ix4 0 j f r) = vals (col x g W) j.val f.val := by
  rw [after0_13]
  simp only [outsAt0]
  frame_open
  frame_out
  refine step4 (e := .bf16) _ _ _ j f r (vals (col x g W)) ?_ fun k7 => ?_
  · exact fun i => (pay80_at _ i r).trans ((pay68_at i r).trans (ones_vals _ 3 i.val))
  refine step4 (e := .bf16) _ _ _ j f r (vals (col x g W)) ?_ fun k6 => ?_
  · exact fun i => (pay79_at _ i r).trans ((readBack (e := .f32) _ _ _ (win (col x g W) co si) r (H.l11 _ _ _ _ _) i).trans (win_vals _ co si 3 i.val 192 (by decide) (by decide) i.isLt rfl))
  refine step4 (e := .bf16) _ _ _ j f r (vals (col x g W)) ?_ fun k5 => ?_
  · exact fun i => (pay77_at _ i r).trans ((pay68_at i r).trans (ones_vals _ 2 i.val))
  refine step4 (e := .bf16) _ _ _ j f r (vals (col x g W)) ?_ fun k4 => ?_
  · exact fun i => (pay76_at _ i r).trans ((readBack (e := .f32) _ _ _ (win (col x g W) co si) r (H.l11 _ _ _ _ _) i).trans (win_vals _ co si 2 i.val 128 (by decide) (by decide) i.isLt rfl))
  refine step4 (e := .bf16) _ _ _ j f r (vals (col x g W)) ?_ fun k3 => ?_
  · exact fun i => (pay74_at _ i r).trans ((pay68_at i r).trans (ones_vals _ 1 i.val))
  refine step4 (e := .bf16) _ _ _ j f r (vals (col x g W)) ?_ fun k2 => ?_
  · exact fun i => (pay73_at _ i r).trans ((readBack (e := .f32) _ _ _ (kvs (col x g W) co si) r (H.l10 _ _ _ _ _) i).trans (kvs_vals _ co si 1 i.val 448 (by decide) i.isLt rfl))
  refine step4 (e := .bf16) _ _ _ j f r (vals (col x g W)) ?_ fun k1 => ?_
  · exact fun i => (pay71_at i r).trans (ones_vals _ 0 i.val)
  refine step4 (e := .bf16) _ _ _ j f r (vals (col x g W)) ?_ fun k0 => ?_
  · exact fun i => (pay70_at _ i r).trans ((readBack (e := .f32) _ _ _ (kvs (col x g W) co si) r (H.l10 _ _ _ _ _) i).trans (kvs_vals _ co si 0 i.val 384 (by decide) i.isLt rfl))
  exact absurd j.isLt (by omega)

/-- The recurrent heads' gates. -/
theorem after14 (j : Fin 512) : ((dats m 0 c).after 14 t : FVec Ideal S512x512 .f32) (ix2 r j) = col x g W (1304 + j.val) := by
  rw [after0_14]
  simp only [outsAt0]
  frame_open
  frame_out
  exact pay82_at _ _ r x g W H.u H.h4 j

/-- The recurrent heads' rows. -/
theorem after15 (j : Fin 512) : ((dats m 0 c).after 15 t : FVec Ideal S512x512 .f32) (ix2 r j) = col x g W (1816 + j.val) := by
  rw [after0_15]
  simp only [outsAt0]
  frame_open
  frame_out
  exact pay83_at _ _ r x g W H.u H.h4 j

/-- The gates. -/
theorem after16 (j : Fin 32) : ((dats m 0 c).after 16 t : FVec Ideal S1x32x512 .f32) (ix3 0 j r) = gate (col x g W) j.val := by
  rw [after0_16]
  simp only [outsAt0]
  frame_open
  frame_out
  exact pay84_at _ _ r x g W H.u H.h5 j

end

end Cert.Proj.Ker

end
-- ==== Proof.Proj.Entry.lean ====
/-
  The projection on the kernel's side: what the points of the grid read.
-/
module

public import proofs.«01_k».proof.Proof.Proj.Points
public import Idealize.ShloMosaic.Lib.StableHlo.ReadAt

@[expose] public section

set_option maxRecDepth 16384

noncomputable section

namespace Cert.Proj.Ker

open Idealize.ShloMosaic Idealize.ShloMosaic.TcCoe Cert.Kernel4Ideal Cert.Kernel4Ideal.Gen Cert.Kernel4Ideal.Value
open Idealize.ShloMosaic.Pipeline (Dat)

variable (m : (ℓ : Loc nD τ sig) → Buf (Elt Ideal) ℓ) (c : Dev nD)

/-- The prompts' rows. -/
abbrev argX : FVec Ideal S8x2048x1024 .f32 := m (c, Proc.devRef .tc main_arg0)

/-- The projection's weights. -/
abbrev argW : FVec Ideal S1x1024x2328 .f32 := m (c, Proc.devRef .tc main_arg1)

/-- The norm's weights. -/
abbrev argG : FVec Ideal S1x1024 .f32 := m (c, Proc.devRef .tc main_arg2)

/-! ## What the grid finds -/

/-- The rows. -/
theorem x_at (b : Fin 8) (p : Fin 2048) (h : 2048 * b.val + p.val < 16384) (k : Fin 1024) : (V m c main_v14 : FVec Ideal S16384x1024 .f32) (ix2 ⟨2048 * b.val + p.val, h⟩ k) = argX m c (ix3 b p k) := by
  simp only [V, List.flatten_cons, List.flatten_nil, List.append_nil]
  after_reads_at
/-- The norm's weights. -/
theorem nm_at (k : Fin 1024) : (V m c main_v13 : FVec Ideal S1x1024 .f32) (ix2 0 k) = argG m c (ix2 0 k) := by
  simp only [V, List.flatten_cons, List.flatten_nil, List.append_nil]
  after_reads_at
/-- The queries' weights. -/
theorem wq_at (j : Fin 512) (k : Fin 1024) : (V m c main_v3 : FVec Ideal S512x1024 .bf16) (ix2 j k) = wcol (argW m c) k j.val := by
  simp only [V, List.flatten_cons, List.flatten_nil, List.append_nil]
  after_reads_at
  exact wcol_of (argW m c) k _ _
/-- The keys' and values' weights. -/
theorem wkv_at (j : Fin 768) (k : Fin 1024) : (V m c main_v4 : FVec Ideal S768x1024 .bf16) (ix2 j k) = wcol (argW m c) k (512 + j.val) := by
  simp only [V, List.flatten_cons, List.flatten_nil, List.append_nil]
  after_reads_at
  exact wcol_of (argW m c) k _ _
/-- The recurrent heads' weights. -/
theorem wr_at (j : Fin 1024) (k : Fin 1024) : (V m c main_v11 : FVec Ideal S1024x1024 .bf16) (ix2 j k) = wcol (argW m c) k (1304 + j.val) := by
  simp only [V, List.flatten_cons, List.flatten_nil, List.append_nil]
  after_reads_at
  exact wcol_of (argW m c) k _ _
/-- The gates' weights. -/
theorem wg_at (j : Fin 32) (k : Fin 1024) : (V m c main_v10 : FVec Ideal S32x1024 .bf16) (ix2 j k) = if j.val % 16 < 12 then wcol (argW m c) k (1280 + j.val % 16 / 4 * 8 + j.val / 16 * 4 + j.val % 4) else 0 := by
  have e : 1280 + (j.val % 16 / 4 * 8 + j.val / 16 * 4 + j.val % 16 % 4) = 1280 + j.val % 16 / 4 * 8 + j.val / 16 * 4 + j.val % 4 := by
    rw [Nat.mod_mod_of_dvd j.val (show 4 ∣ 16 by decide), Nat.add_assoc, Nat.add_assoc, Nat.add_assoc]
  rw [← e]
  clear e
  generalize hn : 1280 + (j.val % 16 / 4 * 8 + j.val / 16 * 4 + j.val % 16 % 4) = n
  generalize hR : (if j.val % 16 < 12 then wcol (argW m c) k n else 0 : EReal) = R
  simp only [V, List.flatten_cons, List.flatten_nil, List.append_nil]
  after_reads_at
  rw [← hR]
  refine dite_of (fun h => ?_) (fun h => ?_)
  · have hn' : n < 2328 := by omega
    refine Eq.trans ?_ (if_pos h.2).symm
    exact (wcol_of (argW m c) k _ (hn.symm ▸ hn')).trans (congrArg (wcol (argW m c) k) hn)
  · have hj := j.isLt
    have h2 : ¬j.val % 16 < 12 := fun q => h ⟨by omega, q⟩
    rw [if_neg h2]
    show (((0#32 : BitVec 32).toInt : ℝ) : EReal) = 0
    norm_num
/-- The positions' cosines. -/
theorem cos_at (i : Fin 8) (p : Fin 2048) : (V m c main_v29 : FVec Ideal S8x2048 .f32) (ix2 i p) = cosAt p.val i.val := by
  simp only [V, List.flatten_cons, List.flatten_nil, List.append_nil]
  after_reads_at
  rfl
/-- The positions' sines. -/
theorem sin_at (i : Fin 8) (p : Fin 2048) : (V m c main_v31 : FVec Ideal S8x2048 .f32) (ix2 i p) = sinAt p.val i.val := by
  simp only [V, List.flatten_cons, List.flatten_nil, List.append_nil]
  after_reads_at
  rfl

/-! ## Where the blocks lie -/

/-- Where a block lies at a point. -/
theorem index0 : ∀ t : Fin cfg0.N, win0_0.index t (0 : Fin 2) = t.val ∧ win0_0.index t (1 : Fin 2) = 0 :=
  (by decide +kernel : ∀ t : Fin grid0.N, _)
/-- Where a block lies at a point. -/
theorem index1 : ∀ t : Fin cfg0.N, win0_1.index t (0 : Fin 2) = 0 ∧ win0_1.index t (1 : Fin 2) = 0 :=
  (by decide +kernel : ∀ t : Fin grid0.N, _)
/-- Where a block lies at a point. -/
theorem index2 : ∀ t : Fin cfg0.N, win0_2.index t (0 : Fin 2) = 0 ∧ win0_2.index t (1 : Fin 2) = 0 :=
  (by decide +kernel : ∀ t : Fin grid0.N, _)
/-- Where a block lies at a point. -/
theorem index3 : ∀ t : Fin cfg0.N, win0_3.index t (0 : Fin 2) = 0 ∧ win0_3.index t (1 : Fin 2) = 0 :=
  (by decide +kernel : ∀ t : Fin grid0.N, _)
/-- Where a block lies at a point. -/
theorem index4 : ∀ t : Fin cfg0.N, win0_4.index t (0 : Fin 2) = 0 ∧ win0_4.index t (1 : Fin 2) = 0 :=
  (by decide +kernel : ∀ t : Fin grid0.N, _)
/-- Where a block lies at a point. -/
theorem index5 : ∀ t : Fin cfg0.N, win0_5.index t (0 : Fin 2) = 0 ∧ win0_5.index t (1 : Fin 2) = 0 :=
  (by decide +kernel : ∀ t : Fin grid0.N, _)
/-- Where a block lies at a point. -/
theorem index6 : ∀ t : Fin cfg0.N, win0_6.index t (0 : Fin 2) = 0 ∧ win0_6.index t (1 : Fin 2) = t.val % 4 :=
  (by decide +kernel : ∀ t : Fin grid0.N, _)
/-- Where a block lies at a point. -/
theorem index7 : ∀ t : Fin cfg0.N, win0_7.index t (0 : Fin 2) = 0 ∧ win0_7.index t (1 : Fin 2) = t.val % 4 :=
  (by decide +kernel : ∀ t : Fin grid0.N, _)
/-- Where a block lies at a point. -/
theorem index8 : ∀ t : Fin cfg0.N, win0_8.index t (0 : Fin 3) = t.val / 4 ∧ win0_8.index t (1 : Fin 3) = 0 ∧ win0_8.index t (2 : Fin 3) = t.val % 4 :=
  (by decide +kernel : ∀ t : Fin grid0.N, _)
/-- Where a block lies at a point. -/
theorem index9 : ∀ t : Fin cfg0.N, win0_9.index t (0 : Fin 3) = t.val / 4 ∧ win0_9.index t (1 : Fin 3) = 0 ∧ win0_9.index t (2 : Fin 3) = t.val % 4 :=
  (by decide +kernel : ∀ t : Fin grid0.N, _)
/-- Where a block lies at a point. -/
theorem index10 : ∀ t : Fin cfg0.N, win0_10.index t (0 : Fin 3) = t.val / 4 ∧ win0_10.index t (1 : Fin 3) = 0 ∧ win0_10.index t (2 : Fin 3) = t.val % 4 :=
  (by decide +kernel : ∀ t : Fin grid0.N, _)
/-- Where a block lies at a point. -/
theorem index11 : ∀ t : Fin cfg0.N, win0_11.index t (0 : Fin 3) = t.val / 4 ∧ win0_11.index t (1 : Fin 3) = 0 ∧ win0_11.index t (2 : Fin 3) = t.val % 4 :=
  (by decide +kernel : ∀ t : Fin grid0.N, _)
/-- Where a block lies at a point. -/
theorem index12 : ∀ t : Fin cfg0.N, win0_12.index t (0 : Fin 4) = t.val / 4 ∧ win0_12.index t (1 : Fin 4) = 0 ∧ win0_12.index t (2 : Fin 4) = 0 ∧ win0_12.index t (3 : Fin 4) = t.val % 4 :=
  (by decide +kernel : ∀ t : Fin grid0.N, _)
/-- Where a block lies at a point. -/
theorem index13 : ∀ t : Fin cfg0.N, win0_13.index t (0 : Fin 4) = t.val / 4 ∧ win0_13.index t (1 : Fin 4) = 0 ∧ win0_13.index t (2 : Fin 4) = 0 ∧ win0_13.index t (3 : Fin 4) = t.val % 4 :=
  (by decide +kernel : ∀ t : Fin grid0.N, _)
/-- Where a block lies at a point. -/
theorem index14 : ∀ t : Fin cfg0.N, win0_14.index t (0 : Fin 2) = t.val ∧ win0_14.index t (1 : Fin 2) = 0 :=
  (by decide +kernel : ∀ t : Fin grid0.N, _)
/-- Where a block lies at a point. -/
theorem index15 : ∀ t : Fin cfg0.N, win0_15.index t (0 : Fin 2) = t.val ∧ win0_15.index t (1 : Fin 2) = 0 :=
  (by decide +kernel : ∀ t : Fin grid0.N, _)
/-- Where a block lies at a point. -/
theorem index16 : ∀ t : Fin cfg0.N, win0_16.index t (0 : Fin 3) = t.val / 4 ∧ win0_16.index t (1 : Fin 3) = 0 ∧ win0_16.index t (2 : Fin 3) = t.val % 4 :=
  (by decide +kernel : ∀ t : Fin grid0.N, _)

/-- A block, read at an index of its array. -/
theorem blk0 (t : Fin cfg0.N) (r : Fin 512) (k : Fin 1024) (h : 512 * t.val + r.val < 16384) :
    (iblk m c 0 t : FVec Ideal S512x1024 .f32) (ix2 r k) = (V m c main_v14 : FVec Ideal S16384x1024 .f32) (ix2 ⟨512 * t.val + r.val, h⟩ k) := by
  unfold iblk
  generalize V m c = W
  blk_ext [index0 t]
/-- A block, read at an index of its array. -/
theorem blk1 (t : Fin cfg0.N) (j : Fin 1) (k : Fin 1024) :
    (iblk m c 1 t : FVec Ideal S1x1024 .f32) (ix2 j k) = (V m c main_v13 : FVec Ideal S1x1024 .f32) (ix2 j k) := by
  unfold iblk
  generalize V m c = W
  blk_ext [index1 t]
/-- A block, read at an index of its array. -/
theorem blk2 (t : Fin cfg0.N) (j : Fin 512) (k : Fin 1024) :
    (iblk m c 2 t : FVec Ideal S512x1024 .bf16) (ix2 j k) = (V m c main_v3 : FVec Ideal S512x1024 .bf16) (ix2 j k) := by
  unfold iblk
  generalize V m c = W
  blk_ext [index2 t]
/-- A block, read at an index of its array. -/
theorem blk3 (t : Fin cfg0.N) (j : Fin 768) (k : Fin 1024) :
    (iblk m c 3 t : FVec Ideal S768x1024 .bf16) (ix2 j k) = (V m c main_v4 : FVec Ideal S768x1024 .bf16) (ix2 j k) := by
  unfold iblk
  generalize V m c = W
  blk_ext [index3 t]
/-- A block, read at an index of its array. -/
theorem blk4 (t : Fin cfg0.N) (j : Fin 1024) (k : Fin 1024) :
    (iblk m c 4 t : FVec Ideal S1024x1024 .bf16) (ix2 j k) = (V m c main_v11 : FVec Ideal S1024x1024 .bf16) (ix2 j k) := by
  unfold iblk
  generalize V m c = W
  blk_ext [index4 t]
/-- A block, read at an index of its array. -/
theorem blk5 (t : Fin cfg0.N) (j : Fin 32) (k : Fin 1024) :
    (iblk m c 5 t : FVec Ideal S32x1024 .bf16) (ix2 j k) = (V m c main_v10 : FVec Ideal S32x1024 .bf16) (ix2 j k) := by
  unfold iblk
  generalize V m c = W
  blk_ext [index5 t]
/-- A block, read at an index of its array. -/
theorem blk6 (t : Fin cfg0.N) (i : Fin 8) (r : Fin 512) (h : 512 * (t.val % 4) + r.val < 2048) :
    (iblk m c 6 t : FVec Ideal S8x512 .f32) (ix2 i r) = (V m c main_v29 : FVec Ideal S8x2048 .f32) (ix2 i ⟨512 * (t.val % 4) + r.val, h⟩) := by
  unfold iblk
  generalize V m c = W
  blk_ext [index6 t]
/-- A block, read at an index of its array. -/
theorem blk7 (t : Fin cfg0.N) (i : Fin 8) (r : Fin 512) (h : 512 * (t.val % 4) + r.val < 2048) :
    (iblk m c 7 t : FVec Ideal S8x512 .f32) (ix2 i r) = (V m c main_v31 : FVec Ideal S8x2048 .f32) (ix2 i ⟨512 * (t.val % 4) + r.val, h⟩) := by
  unfold iblk
  generalize V m c = W
  blk_ext [index7 t]

/-- What a point reads at its row `r`: the row of its prompt at the position. -/
theorem reads (b : Fin 8) (p : Fin 2048) (t : Fin cfg0.N) (r : Fin 512) (hb : 4 * b.val + p.val / 512 = t.val) (hp : 512 * (t.val % 4) + r.val = p.val) :
    Reads (fun k => argX m c (ix3 b p k)) (fun k => argG m c (ix2 0 k)) (wcol (argW m c)) (cosAt p.val) (sinAt p.val) r
      (iblk m c 0 t) (iblk m c 1 t) (iblk m c 2 t) (iblk m c 3 t) (iblk m c 4 t) (iblk m c 5 t) (iblk m c 6 t) (iblk m c 7 t) where
  h0 k := by
    have e : 512 * t.val + r.val = 2048 * b.val + p.val := by omega
    have h : 2048 * b.val + p.val < 16384 := by omega
    refine (blk0 m c t r k (e ▸ h)).trans (Eq.trans ?_ (x_at m c b p h k))
    exact congrArg (fun i => (V m c main_v14 : FVec Ideal S16384x1024 .f32) (ix2 i k)) (Fin.ext e)
  h1 k := (blk1 m c t 0 k).trans (nm_at m c k)
  h2 j k := (blk2 m c t j k).trans (wq_at m c j k)
  h3 j k := (blk3 m c t j k).trans (wkv_at m c j k)
  h4 j k := (blk4 m c t j k).trans (wr_at m c j k)
  h5 j k := (blk5 m c t j k).trans (wg_at m c j k)
  h6 i := (blk6 m c t i r (hp ▸ p.isLt)).trans ((cos_at m c i _).trans (congrArg (fun n => cosAt n i.val) hp))
  h7 i := (blk7 m c t i r (hp ▸ p.isLt)).trans ((sin_at m c i _).trans (congrArg (fun n => sinAt n i.val) hp))

/-! ## The nine arrays of results -/

/-- The point that handles a position of a prompt, and the place of its row in the block. -/
theorem point_of (b : Fin 8) (p : Fin 2048) : ∃ (t : Fin cfg0.N) (r : Fin 512), 4 * b.val + p.val / 512 = t.val ∧ 512 * (t.val % 4) + r.val = p.val ∧ t.val / 4 = b.val := by
  have hb := b.isLt
  have hp := p.isLt
  have hN : 4 * b.val + p.val / 512 < cfg0.N := lt_of_lt_of_eq (by omega) N_0.symm
  refine ⟨⟨4 * b.val + p.val / 512, hN⟩, ⟨p.val % 512, by omega⟩, rfl, ?_, ?_⟩
  · show 512 * ((4 * b.val + p.val / 512) % 4) + p.val % 512 = p.val
    omega
  · show (4 * b.val + p.val / 512) / 4 = b.val
    omega

end Cert.Proj.Ker

end
-- ==== Proof.Proj.Final.lean ====
/-
  The projection on the kernel's side: the nine arrays of results at an index.
-/
module

public import proofs.«01_k».proof.Proof.Proj.Entry
public import Idealize.ShloMosaic.Lib.StableHlo.ReadAt

@[expose] public section

set_option maxRecDepth 16384

noncomputable section

namespace Cert.Proj.Ker

open Idealize.ShloMosaic Idealize.ShloMosaic.TcCoe Cert.Kernel4Ideal Cert.Kernel4Ideal.Gen Cert.Kernel4Ideal.Value
open Idealize.ShloMosaic.Pipeline (Dat)

variable (m : (ℓ : Loc nD τ sig) → Buf (Elt Ideal) ℓ) (c : Dev nD)

/-- A block of the array, read at an index. -/
theorem blk8 (A : Buf (Elt Ideal) ((c : Thread nD τ).loc main_v32_0)) (t : Fin cfg0.N) (j : Fin 512) (r : Fin 512) (hb : t.val / 4 < 8) (hp : 512 * (t.val % 4) + r.val < 2048) :
    (((cfg0.win 8).blk t).view.read (Elt Ideal) A : FVec Ideal S1x512x512 .bf16) (ix3 0 j r) = (A : FVec Ideal S8x512x2048 .bf16) (ix3 ⟨t.val / 4, hb⟩ j ⟨512 * (t.val % 4) + r.val, hp⟩) := by
  blk_ext [index8 t]

/-- The queries. -/
theorem final8 (b : Fin 8) (j : Fin 512) (p : Fin 2048) :
    ((dats m 0 c).arrAt 8 cfg0.N : FVec Ideal S8x512x2048 .bf16) (ix3 b j p) = zrow (argX m c) (argW m c) (argG m c) b p j.val * scale := by
  obtain ⟨t, r, h1, h2, h3⟩ := point_of b p
  have ho := after8 m c t (reads m c b p t r h1 h2) j
  have hc := congrFun ((blocks8 m c t (flush0_8 _)).trans (flushed8 m c t)) (ix3 0 j r)
  rw [after0_8] at ho
  refine Eq.trans ?_ ho
  refine Eq.trans ?_ hc
  refine Eq.trans ?_ (blk8 c _ t j r (h3 ▸ b.isLt) (h2 ▸ p.isLt)).symm
  exact congrArg₂ (fun b p => ((dats m 0 c).arrAt 8 cfg0.N : FVec Ideal S8x512x2048 .bf16) (ix3 b j p)) (Fin.ext h3.symm) (Fin.ext h2.symm)

/-- A block of the array, read at an index. -/
theorem blk9 (A : Buf (Elt Ideal) ((c : Thread nD τ).loc main_v32_1)) (t : Fin cfg0.N) (j : Fin 512) (r : Fin 512) (hb : t.val / 4 < 8) (hp : 512 * (t.val % 4) + r.val < 2048) :
    (((cfg0.win 9).blk t).view.read (Elt Ideal) A : FVec Ideal S1x512x512 .bf16) (ix3 0 j r) = (A : FVec Ideal S8x512x2048 .bf16) (ix3 ⟨t.val / 4, hb⟩ j ⟨512 * (t.val % 4) + r.val, hp⟩) := by
  blk_ext [index9 t]

/-- The queries, rotated. -/
theorem final9 (b : Fin 8) (j : Fin 512) (p : Fin 2048) :
    ((dats m 0 c).arrAt 9 cfg0.N : FVec Ideal S8x512x2048 .bf16) (ix3 b j p) = rope (zrow (argX m c) (argW m c) (argG m c) b p) (cosAt p.val) (sinAt p.val) j.val * scale := by
  obtain ⟨t, r, h1, h2, h3⟩ := point_of b p
  have ho := after9 m c t (reads m c b p t r h1 h2) j
  have hc := congrFun ((blocks9 m c t (flush0_9 _)).trans (flushed9 m c t)) (ix3 0 j r)
  rw [after0_9] at ho
  refine Eq.trans ?_ ho
  refine Eq.trans ?_ hc
  refine Eq.trans ?_ (blk9 c _ t j r (h3 ▸ b.isLt) (h2 ▸ p.isLt)).symm
  exact congrArg₂ (fun b p => ((dats m 0 c).arrAt 9 cfg0.N : FVec Ideal S8x512x2048 .bf16) (ix3 b j p)) (Fin.ext h3.symm) (Fin.ext h2.symm)

/-- A block of the array, read at an index. -/
theorem blk10 (A : Buf (Elt Ideal) ((c : Thread nD τ).loc main_v32_2)) (t : Fin cfg0.N) (j : Fin 512) (r : Fin 512) (hb : t.val / 4 < 8) (hp : 512 * (t.val % 4) + r.val < 2048) :
    (((cfg0.win 10).blk t).view.read (Elt Ideal) A : FVec Ideal S1x512x512 .f32) (ix3 0 j r) = (A : FVec Ideal S8x512x2048 .f32) (ix3 ⟨t.val / 4, hb⟩ j ⟨512 * (t.val % 4) + r.val, hp⟩) := by
  blk_ext [index10 t]

/-- The compressed and the selected branch. -/
theorem final10 (b : Fin 8) (j : Fin 512) (p : Fin 2048) :
    ((dats m 0 c).arrAt 10 cfg0.N : FVec Ideal S8x512x2048 .f32) (ix3 b j p) = kvs (zrow (argX m c) (argW m c) (argG m c) b p) (cosAt p.val) (sinAt p.val) j.val := by
  obtain ⟨t, r, h1, h2, h3⟩ := point_of b p
  have ho := after10 m c t (reads m c b p t r h1 h2) j
  have hc := congrFun ((blocks10 m c t (flush0_10 _)).trans (flushed10 m c t)) (ix3 0 j r)
  rw [after0_10] at ho
  refine Eq.trans ?_ ho
  refine Eq.trans ?_ hc
  refine Eq.trans ?_ (blk10 c _ t j r (h3 ▸ b.isLt) (h2 ▸ p.isLt)).symm
  exact congrArg₂ (fun b p => ((dats m 0 c).arrAt 10 cfg0.N : FVec Ideal S8x512x2048 .f32) (ix3 b j p)) (Fin.ext h3.symm) (Fin.ext h2.symm)

/-- A block of the array, read at an index. -/
theorem blk11 (A : Buf (Elt Ideal) ((c : Thread nD τ).loc main_v32_3)) (t : Fin cfg0.N) (j : Fin 256) (r : Fin 512) (hb : t.val / 4 < 8) (hp : 512 * (t.val % 4) + r.val < 2048) :
    (((cfg0.win 11).blk t).view.read (Elt Ideal) A : FVec Ideal S1x256x512 .f32) (ix3 0 j r) = (A : FVec Ideal S8x256x2048 .f32) (ix3 ⟨t.val / 4, hb⟩ j ⟨512 * (t.val % 4) + r.val, hp⟩) := by
  blk_ext [index11 t]

/-- The window branch. -/
theorem final11 (b : Fin 8) (j : Fin 256) (p : Fin 2048) :
    ((dats m 0 c).arrAt 11 cfg0.N : FVec Ideal S8x256x2048 .f32) (ix3 b j p) = win (zrow (argX m c) (argW m c) (argG m c) b p) (cosAt p.val) (sinAt p.val) j.val := by
  obtain ⟨t, r, h1, h2, h3⟩ := point_of b p
  have ho := after11 m c t (reads m c b p t r h1 h2) j
  have hc := congrFun ((blocks11 m c t (flush0_11 _)).trans (flushed11 m c t)) (ix3 0 j r)
  rw [after0_11] at ho
  refine Eq.trans ?_ ho
  refine Eq.trans ?_ hc
  refine Eq.trans ?_ (blk11 c _ t j r (h3 ▸ b.isLt) (h2 ▸ p.isLt)).symm
  exact congrArg₂ (fun b p => ((dats m 0 c).arrAt 11 cfg0.N : FVec Ideal S8x256x2048 .f32) (ix3 b j p)) (Fin.ext h3.symm) (Fin.ext h2.symm)

/-- A block of the array, read at an index. -/
theorem blk16 (A : Buf (Elt Ideal) ((c : Thread nD τ).loc main_v32_8)) (t : Fin cfg0.N) (j : Fin 32) (r : Fin 512) (hb : t.val / 4 < 8) (hp : 512 * (t.val % 4) + r.val < 2048) :
    (((cfg0.win 16).blk t).view.read (Elt Ideal) A : FVec Ideal S1x32x512 .f32) (ix3 0 j r) = (A : FVec Ideal S8x32x2048 .f32) (ix3 ⟨t.val / 4, hb⟩ j ⟨512 * (t.val % 4) + r.val, hp⟩) := by
  blk_ext [index16 t]

/-- The gates. -/
theorem final16 (b : Fin 8) (j : Fin 32) (p : Fin 2048) :
    ((dats m 0 c).arrAt 16 cfg0.N : FVec Ideal S8x32x2048 .f32) (ix3 b j p) = gate (zrow (argX m c) (argW m c) (argG m c) b p) j.val := by
  obtain ⟨t, r, h1, h2, h3⟩ := point_of b p
  have ho := after16 m c t (reads m c b p t r h1 h2) j
  have hc := congrFun ((blocks16 m c t (flush0_16 _)).trans (flushed16 m c t)) (ix3 0 j r)
  rw [after0_16] at ho
  refine Eq.trans ?_ ho
  refine Eq.trans ?_ hc
  refine Eq.trans ?_ (blk16 c _ t j r (h3 ▸ b.isLt) (h2 ▸ p.isLt)).symm
  exact congrArg₂ (fun b p => ((dats m 0 c).arrAt 16 cfg0.N : FVec Ideal S8x32x2048 .f32) (ix3 b j p)) (Fin.ext h3.symm) (Fin.ext h2.symm)

/-- A block of the array, read at an index. -/
theorem blk12 (A : Buf (Elt Ideal) ((c : Thread nD τ).loc main_v32_4)) (t : Fin cfg0.N) (i : Fin 4) (j : Fin 64) (r : Fin 512) (hb : t.val / 4 < 8) (hp : 512 * (t.val % 4) + r.val < 2048) :
    (((cfg0.win 12).blk t).view.read (Elt Ideal) A : FVec Ideal S1x4x64x512 .bf16) (ix4 0 i j r) = (A : FVec Ideal S8x4x64x2048 .bf16) (ix4 ⟨t.val / 4, hb⟩ i j ⟨512 * (t.val % 4) + r.val, hp⟩) := by
  blk_ext [index12 t]

/-- The keys by head. -/
theorem final12 (b : Fin 8) (i : Fin 4) (j : Fin 64) (p : Fin 2048) :
    ((dats m 0 c).arrAt 12 cfg0.N : FVec Ideal S8x4x64x2048 .bf16) (ix4 b i j p) = keys (zrow (argX m c) (argW m c) (argG m c) b p) (cosAt p.val) (sinAt p.val) i.val j.val := by
  obtain ⟨t, r, h1, h2, h3⟩ := point_of b p
  have ho := after12 m c t (reads m c b p t r h1 h2) i j
  have hc := congrFun ((blocks12 m c t (flush0_12 _)).trans (flushed12 m c t)) (ix4 0 i j r)
  rw [after0_12] at ho
  refine Eq.trans ?_ ho
  refine Eq.trans ?_ hc
  refine Eq.trans ?_ (blk12 c _ t i j r (h3 ▸ b.isLt) (h2 ▸ p.isLt)).symm
  exact congrArg₂ (fun b p => ((dats m 0 c).arrAt 12 cfg0.N : FVec Ideal S8x4x64x2048 .bf16) (ix4 b i j p)) (Fin.ext h3.symm) (Fin.ext h2.symm)

/-- A block of the array, read at an index. -/
theorem blk13 (A : Buf (Elt Ideal) ((c : Thread nD τ).loc main_v32_5)) (t : Fin cfg0.N) (i : Fin 4) (j : Fin 128) (r : Fin 512) (hb : t.val / 4 < 8) (hp : 512 * (t.val % 4) + r.val < 2048) :
    (((cfg0.win 13).blk t).view.read (Elt Ideal) A : FVec Ideal S1x4x128x512 .bf16) (ix4 0 i j r) = (A : FVec Ideal S8x4x128x2048 .bf16) (ix4 ⟨t.val / 4, hb⟩ i j ⟨512 * (t.val % 4) + r.val, hp⟩) := by
  blk_ext [index13 t]

/-- The values by head, then the ones and the zeros. -/
theorem final13 (b : Fin 8) (i : Fin 4) (j : Fin 128) (p : Fin 2048) :
    ((dats m 0 c).arrAt 13 cfg0.N : FVec Ideal S8x4x128x2048 .bf16) (ix4 b i j p) = vals (zrow (argX m c) (argW m c) (argG m c) b p) i.val j.val := by
  obtain ⟨t, r, h1, h2, h3⟩ := point_of b p
  have ho := after13 m c t (reads m c b p t r h1 h2) i j
  have hc := congrFun ((blocks13 m c t (flush0_13 _)).trans (flushed13 m c t)) (ix4 0 i j r)
  rw [after0_13] at ho
  refine Eq.trans ?_ ho
  refine Eq.trans ?_ hc
  refine Eq.trans ?_ (blk13 c _ t i j r (h3 ▸ b.isLt) (h2 ▸ p.isLt)).symm
  exact congrArg₂ (fun b p => ((dats m 0 c).arrAt 13 cfg0.N : FVec Ideal S8x4x128x2048 .bf16) (ix4 b i j p)) (Fin.ext h3.symm) (Fin.ext h2.symm)

/-- A block of the array, read at an index. -/
theorem blk14 (A : Buf (Elt Ideal) ((c : Thread nD τ).loc main_v32_6)) (t : Fin cfg0.N) (r j : Fin 512) (h : 512 * t.val + r.val < 16384) :
    (((cfg0.win 14).blk t).view.read (Elt Ideal) A : FVec Ideal S512x512 .f32) (ix2 r j) = (A : FVec Ideal S16384x512 .f32) (ix2 ⟨512 * t.val + r.val, h⟩ j) := by
  blk_ext [index14 t]

/-- The recurrent heads' gates. -/
theorem final14 (b : Fin 8) (p : Fin 2048) (n : Fin 16384) (hn : n.val = 2048 * b.val + p.val) (j : Fin 512) :
    ((dats m 0 c).arrAt 14 cfg0.N : FVec Ideal S16384x512 .f32) (ix2 n j) = zrow (argX m c) (argW m c) (argG m c) b p (1304 + j.val) := by
  obtain ⟨t, r, h1, h2, h3⟩ := point_of b p
  have e : n.val = 512 * t.val + r.val := by omega
  have ho := after14 m c t (reads m c b p t r h1 h2) j
  have hc := congrFun ((blocks14 m c t (flush0_14 _)).trans (flushed14 m c t)) (ix2 r j)
  rw [after0_14] at ho
  refine Eq.trans ?_ ho
  refine Eq.trans ?_ hc
  refine Eq.trans ?_ (blk14 c _ t r j (e ▸ n.isLt)).symm
  exact congrArg (fun n => ((dats m 0 c).arrAt 14 cfg0.N : FVec Ideal S16384x512 .f32) (ix2 n j)) (Fin.ext e)

/-- A block of the array, read at an index. -/
theorem blk15 (A : Buf (Elt Ideal) ((c : Thread nD τ).loc main_v32_7)) (t : Fin cfg0.N) (r j : Fin 512) (h : 512 * t.val + r.val < 16384) :
    (((cfg0.win 15).blk t).view.read (Elt Ideal) A : FVec Ideal S512x512 .f32) (ix2 r j) = (A : FVec Ideal S16384x512 .f32) (ix2 ⟨512 * t.val + r.val, h⟩ j) := by
  blk_ext [index15 t]

/-- The recurrent heads' rows. -/
theorem final15 (b : Fin 8) (p : Fin 2048) (n : Fin 16384) (hn : n.val = 2048 * b.val + p.val) (j : Fin 512) :
    ((dats m 0 c).arrAt 15 cfg0.N : FVec Ideal S16384x512 .f32) (ix2 n j) = zrow (argX m c) (argW m c) (argG m c) b p (1816 + j.val) := by
  obtain ⟨t, r, h1, h2, h3⟩ := point_of b p
  have e : n.val = 512 * t.val + r.val := by omega
  have ho := after15 m c t (reads m c b p t r h1 h2) j
  have hc := congrFun ((blocks15 m c t (flush0_15 _)).trans (flushed15 m c t)) (ix2 r j)
  rw [after0_15] at ho
  refine Eq.trans ?_ ho
  refine Eq.trans ?_ hc
  refine Eq.trans ?_ (blk15 c _ t r j (e ▸ n.isLt)).symm
  exact congrArg (fun n => ((dats m 0 c).arrAt 15 cfg0.N : FVec Ideal S16384x512 .f32) (ix2 n j)) (Fin.ext e)

end Cert.Proj.Ker

end
-- ==== Proof.Proj.Ref.lean ====
/-
  The projection's reference, read at an index: the projected rows, the rotated heads, and the nine results.
-/
module

public import proofs.«01_k».proof.Proof.Proj.Spec
public import proofs.«01_k».proof.Proof.Gen.Reference4Ideal.Run
public import Idealize.ShloMosaic.Lib.ValueLayout

@[expose] public section

set_option maxRecDepth 16384

noncomputable section

namespace Cert.Proj.Ref

open Idealize.ShloMosaic Idealize.ShloMosaic.TcCoe Cert.Reference4Ideal Cert.Reference4Ideal.Gen Cert.Reference4Ideal.Value

/-! ## The results, as the reference writes them -/

/-- The queries, a column for each position. -/
def out0 (V0 : Valuation τ sig (Elt Ideal)) : FVec Ideal S8x512x2048 .bf16 :=
  truncf .bf16 (mulf (transpose S8x512x2048 [0, 2, 1] (shapeCast _ (res_main_v17 (V0)) shapeCasts_S8x2048x8x64_S8x2048x512) transposes_S8x2048x512_S8x512x2048_0_2_1) (broadcastInDim S8x512x2048 ![] bcast_S_S8x512x2048 (constant S_ .f32 0x3E000000#32))) bitsLt_bf16_f32

/-- The rotated queries by head. -/
def cat1 (V0 : Valuation τ sig (Elt Ideal)) : FVec Ideal S8x2048x8x64 .f32 :=
  ((concatenate S8x2048x8x64 3 [⟨S8x2048x8x8, ((subf (mulf (res_main_v138 (V0)) (broadcastInDim S8x2048x8x8 ![0, 1, 2, 3] bcast_S1x2048x1x8_S8x2048x8x8_0_1_2_3 (broadcastInDim S1x2048x1x8 ![1, 2, 3] bcast_S2048x1x8_S1x2048x1x8_1_2_3 (res_main_v135 (V0))))) (mulf (res_main_v139 (V0)) (broadcastInDim S8x2048x8x8 ![0, 1, 2, 3] bcast_S1x2048x1x8_S8x2048x8x8_0_1_2_3 (broadcastInDim S1x2048x1x8 ![1, 2, 3] bcast_S2048x1x8_S1x2048x1x8_1_2_3 (res_main_v137 (V0)))))) : (⟨S8x2048x8x8, .f32⟩ : BufTy).Contents (Elt Ideal))⟩, ⟨S8x2048x8x8, ((addf (mulf (res_main_v139 (V0)) (broadcastInDim S8x2048x8x8 ![0, 1, 2, 3] bcast_S1x2048x1x8_S8x2048x8x8_0_1_2_3 (broadcastInDim S1x2048x1x8 ![1, 2, 3] bcast_S2048x1x8_S1x2048x1x8_1_2_3 (res_main_v135 (V0))))) (mulf (res_main_v138 (V0)) (broadcastInDim S8x2048x8x8 ![0, 1, 2, 3] bcast_S1x2048x1x8_S8x2048x8x8_0_1_2_3 (broadcastInDim S1x2048x1x8 ![1, 2, 3] bcast_S2048x1x8_S1x2048x1x8_1_2_3 (res_main_v137 (V0)))))) : (⟨S8x2048x8x8, .f32⟩ : BufTy).Contents (Elt Ideal))⟩, ⟨S8x2048x8x48, ((extractStridedSlice S8x2048x8x48 ![0, 0, 0, 16] (res_main_v17 (V0)) slices_S8x2048x8x64_S8x2048x8x48_0_0_0_16) : (⟨S8x2048x8x48, .f32⟩ : BufTy).Contents (Elt Ideal))⟩] concatenates_S8x2048x8x8_S8x2048x8x8_S8x2048x8x48_S8x2048x8x64_d3 : (⟨S8x2048x8x64, .f32⟩ : BufTy).Contents (Elt Ideal)))

/-- The queries, rotated, a column for each position. -/
def turned (V0 : Valuation τ sig (Elt Ideal)) : FVec Ideal S8x512x2048 .f32 :=
  transpose S8x512x2048 [0, 2, 1] (shapeCast S8x2048x512 (cat1 V0) shapeCasts_S8x2048x8x64_S8x2048x512) transposes_S8x2048x512_S8x512x2048_0_2_1

/-- The queries, rotated. -/
def out1 (V0 : Valuation τ sig (Elt Ideal)) : FVec Ideal S8x512x2048 .bf16 :=
  truncf .bf16 (mulf (turned V0) (broadcastInDim S8x512x2048 ![] bcast_S_S8x512x2048 (constant S_ .f32 0x3E000000#32))) bitsLt_bf16_f32

/-- The compressed and the selected branch by head. -/
def cat2 (V0 : Valuation τ sig (Elt Ideal)) : FVec Ideal S8x2048x8x64 .f32 :=
  ((concatenate S8x2048x8x64 2 [⟨S8x2048x2x64, ((shapeCast _ (extractStridedSlice S8x2048x128 ![0, 0, 512] (res_main_v15 (V0)) slices_S8x2048x2328_S8x2048x128_0_0_512) shapeCasts_S8x2048x128_S8x2048x2x64) : (⟨S8x2048x2x64, .f32⟩ : BufTy).Contents (Elt Ideal))⟩, ⟨S8x2048x2x64, ((shapeCast _ (extractStridedSlice S8x2048x128 ![0, 0, 640] (res_main_v15 (V0)) slices_S8x2048x2328_S8x2048x128_0_0_640) shapeCasts_S8x2048x128_S8x2048x2x64) : (⟨S8x2048x2x64, .f32⟩ : BufTy).Contents (Elt Ideal))⟩, ⟨S8x2048x2x64, ((res_main_v67 (V0)) : (⟨S8x2048x2x64, .f32⟩ : BufTy).Contents (Elt Ideal))⟩, ⟨S8x2048x2x64, ((res_main_v25 (V0)) : (⟨S8x2048x2x64, .f32⟩ : BufTy).Contents (Elt Ideal))⟩] concatenates_S8x2048x2x64_S8x2048x2x64_S8x2048x2x64_S8x2048x2x64_S8x2048x8x64_d2 : (⟨S8x2048x8x64, .f32⟩ : BufTy).Contents (Elt Ideal)))

/-- The compressed and the selected branch, a column for each position. -/
def out2 (V0 : Valuation τ sig (Elt Ideal)) : FVec Ideal S8x512x2048 .f32 :=
  transpose S8x512x2048 [0, 2, 1] (shapeCast _ (cat2 V0) shapeCasts_S8x2048x8x64_S8x2048x512) transposes_S8x2048x512_S8x512x2048_0_2_1

/-- The window branch by head. -/
def cat3 (V0 : Valuation τ sig (Elt Ideal)) : FVec Ideal S8x2048x4x64 .f32 :=
  (concatenate S8x2048x4x64 2 [⟨S8x2048x2x64, (res_main_v102 (V0))⟩, ⟨S8x2048x2x64, (res_main_v29 (V0))⟩] concatenates_S8x2048x2x64_S8x2048x2x64_S8x2048x4x64_d2)

/-- The window branch, a column for each position. -/
def out3 (V0 : Valuation τ sig (Elt Ideal)) : FVec Ideal S8x256x2048 .f32 :=
  transpose S8x256x2048 [0, 2, 1] (shapeCast _ (cat3 V0) shapeCasts_S8x2048x4x64_S8x2048x256) transposes_S8x2048x256_S8x256x2048_0_2_1

/-- The keys by head. -/
def out4 (V0 : Valuation τ sig (Elt Ideal)) : FVec Ideal S8x4x64x2048 .bf16 :=
  truncf .bf16 (transpose S8x4x64x2048 [0, 2, 3, 1] (concatenate S8x2048x4x64 2 [⟨S8x2048x2x64, (res_main_v67 (V0))⟩, ⟨S8x2048x2x64, (res_main_v102 (V0))⟩] concatenates_S8x2048x2x64_S8x2048x2x64_S8x2048x4x64_d2) transposes_S8x2048x4x64_S8x4x64x2048_0_2_3_1) bitsLt_bf16_f32

/-- The values by head, then ones and zeros. -/
def out5 (V0 : Valuation τ sig (Elt Ideal)) : FVec Ideal S8x4x128x2048 .bf16 :=
  concatenate S8x4x128x2048 2 [⟨S8x4x64x2048, (truncf .bf16 (transpose S8x4x64x2048 [0, 2, 3, 1] (concatenate S8x2048x4x64 2 [⟨S8x2048x2x64, (res_main_v25 (V0))⟩, ⟨S8x2048x2x64, (res_main_v29 (V0))⟩] concatenates_S8x2048x2x64_S8x2048x2x64_S8x2048x4x64_d2) transposes_S8x2048x4x64_S8x4x64x2048_0_2_3_1) bitsLt_bf16_f32)⟩, ⟨S8x4x64x2048, (concatenate S8x4x64x2048 2 [⟨S8x4x1x2048, (broadcastInDim S8x4x1x2048 ![] bcast_S_S8x4x1x2048 (constant S_ .bf16 0x3F80#16))⟩, ⟨S8x4x63x2048, (broadcastInDim S8x4x63x2048 ![] bcast_S_S8x4x63x2048 (constant S_ .bf16 0x0000#16))⟩] concatenates_S8x4x1x2048_S8x4x63x2048_S8x4x64x2048_d2)⟩] concatenates_S8x4x64x2048_S8x4x64x2048_S8x4x128x2048_d2

/-- The recurrent heads' gates. -/
def out6 (V0 : Valuation τ sig (Elt Ideal)) : FVec Ideal S16384x512 .f32 :=
  shapeCast _ (extractStridedSlice S8x2048x512 ![0, 0, 1304] (res_main_v15 (V0)) slices_S8x2048x2328_S8x2048x512_0_0_1304) shapeCasts_S8x2048x512_S16384x512

/-- The recurrent heads' rows. -/
def out7 (V0 : Valuation τ sig (Elt Ideal)) : FVec Ideal S16384x512 .f32 :=
  shapeCast _ (extractStridedSlice S8x2048x512 ![0, 0, 1816] (res_main_v15 (V0)) slices_S8x2048x2328_S8x2048x512_0_0_1816) shapeCasts_S8x2048x512_S16384x512

/-- The gates, a column for each position. -/
def out8 (V0 : Valuation τ sig (Elt Ideal)) : FVec Ideal S8x32x2048 .f32 :=
  transpose S8x32x2048 [0, 2, 1] (shapeCast _ (Host.divf (broadcastInDim S8x2048x2x16 ![] bcast_S_S8x2048x2x16 (constant S_ .f32 0x3F800000#32)) (addf (broadcastInDim S8x2048x2x16 ![] bcast_S_S8x2048x2x16 (constant S_ .f32 0x3F800000#32)) (Host.exp (Host.negf (pad S8x2048x2x16 ![0, 0, 0, 0] ![0, 0, 0, 4] ![0, 0, 0, 0] (shapeCast _ (transpose S8x2048x2x3x4 [0, 1, 3, 2, 4] (shapeCast _ (extractStridedSlice S8x2048x24 ![0, 0, 1280] (res_main_v15 (V0)) slices_S8x2048x2328_S8x2048x24_0_0_1280) shapeCasts_S8x2048x24_S8x2048x3x2x4) transposes_S8x2048x3x2x4_S8x2048x2x3x4_0_1_3_2_4) shapeCasts_S8x2048x2x3x4_S8x2048x2x12) (sitofp .f32 (constantI S_ 32 0#32)) pads_S8x2048x2x12_S8x2048x2x16_000_000_000_040 h_S_))))) shapeCasts_S8x2048x2x16_S8x2048x32) transposes_S8x2048x32_S8x32x2048_0_2_1

/-! ## Their parts at an index -/

/-- A concatenation of the two turned eights and of the rest of a head is the head, rotated. -/
theorem rope_dite (Z co si : ℕ → EReal) (o e : ℕ) (ho : o % 64 = 0) (he : e < 64) {A : e < 8 → EReal} {B : ¬e < 8 → e - 8 < 8 → EReal} {C : ¬e < 8 → ¬e - 8 < 8 → EReal}
    (hA : ∀ h, A h = Z (o + e) * co e - Z (o + 8 + e) * si e) (hB : ∀ h h', B h h' = Z (o + 8 + (e - 8)) * co (e - 8) + Z (o + (e - 8)) * si (e - 8))
    (hC : ∀ h h', C h h' = Z (o + 16 + (e - 8 - 8))) :
    (dite (e < 8) A fun h => dite (e - 8 < 8) (B h) (C h)) = rope Z co si (o + e) := by
  refine dite_of (fun h => (hA h).trans (rope_lo Z co si o e ho h)) fun h => dite_of (fun h' => (hB h h').trans ?_) fun h' => (hC h h').trans ?_
  · rw [rope_mid Z co si o (e - 8) ho h']
    exact congrArg _ (by omega)
  · rw [rope_hi Z co si o (e - 8 - 8) ho (by omega)]
    exact congrArg _ (by omega)

/-- Two axes merged into one: the entry of column `j` is the entry of head `j / 64`, place `j % 64`. -/
theorem merge_at {H M : ℕ} (T : (⟨4, ![8, 2048, H, 64]⟩ : Shape).Idx → EReal) (h : (⟨4, ![8, 2048, H, 64]⟩ : Shape).ShapeCasts (⟨3, ![8, 2048, M]⟩ : Shape)) (b : Fin 8) (p : Fin 2048) (j : Fin M) (i : Fin H) (e : Fin 64)
    (hM : M = H * 64) (hj : j.val = 64 * i.val + e.val) : shapeCast (⟨3, ![8, 2048, M]⟩ : Shape) T h (ix3 b p j) = T (ix4 b p i e) := by
  subst hM
  refine shapeCast_apply T h (ix3 b p j) (ix4 b p i e) ?_
  rw [Shape.rowMajor_val_three, Shape.rowMajor_val_four]
  show ((b.val * 2048 + p.val) * H + i.val) * 64 + e.val = (b.val * 2048 + p.val) * (H * 64) + j.val
  rw [hj, Nat.add_mul, Nat.mul_assoc]
  omega

/-- A transposed array of 512 columns. -/
theorem swap512 (T : FVec Ideal S8x2048x512 .f32) (b : Fin 8) (p : Fin 2048) (j : Fin 512) :
    transpose S8x512x2048 [0, 2, 1] T transposes_S8x2048x512_S8x512x2048_0_2_1 (ix3 b j p) = T (ix3 b p j) :=
  ValueIdx.transpose_ix3_021_apply _ _ b j p

/-- A transposed array of 256 columns. -/
theorem swap256 (T : FVec Ideal S8x2048x256 .f32) (b : Fin 8) (p : Fin 2048) (j : Fin 256) :
    transpose S8x256x2048 [0, 2, 1] T transposes_S8x2048x256_S8x256x2048_0_2_1 (ix3 b j p) = T (ix3 b p j) :=
  ValueIdx.transpose_ix3_021_apply _ _ b j p

/-- A scaled array at an index. -/
theorem scaled_at (T : FVec Ideal S8x512x2048 .f32) (i : S8x512x2048.Idx) :
    (truncf .bf16 (mulf T (broadcastInDim S8x512x2048 ![] bcast_S_S8x512x2048 (constant S_ .f32 0x3E000000#32))) bitsLt_bf16_f32 : FVec Ideal S8x512x2048 .bf16) i = T i * scale := by
  rfl

/-- The projected rows. -/
theorem z_at (V0 : Valuation τ sig (Elt Ideal)) (b : Fin 8) (p : Fin 2048) (n : Fin 2328) :
    (res_main_v15 V0 : FVec Ideal S8x2048x2328 .f32) (ix3 b p n) = zrow (V0 (Proc.devRef .tc main_arg0)) (V0 (Proc.devRef .tc main_arg1)) (V0 (Proc.devRef .tc main_arg2)) b p n.val := by
  pointwise [res_main_v15]
  unfold zrow col
  refine Finset.sum_congr (M := EReal) rfl fun k _ => congrArg₂ (fun a b : EReal => a * b) rfl ?_
  exact wcol_of (V0 (Proc.devRef .tc main_arg1)) k n.val n.isLt

section
variable (V0 : Valuation τ sig (Elt Ideal)) (b : Fin 8) (p : Fin 2048) (Z : ℕ → EReal)
  (hz : ∀ n : Fin 2328, (res_main_v15 V0 : FVec Ideal S8x2048x2328 .f32) (ix3 b p n) = Z n.val)
include hz

/-- The selected branch's keys, rotated. -/
theorem v67_at (h : Fin 2) (e : Fin 64) : (res_main_v67 V0 : FVec Ideal S8x2048x2x64 .f32) (ix4 b p h e) = rope Z (cosAt p.val) (sinAt p.val) (768 + 64 * h.val + e.val) := by
  pointwise [res_main_v67, res_main_v50, res_main_v51, res_main_v47, res_main_v49, res_main_v45, res_main_v23]
  refine rope_dite Z (cosAt p.val) (sinAt p.val) (768 + 64 * h.val) e.val (by omega) e.isLt (fun _ => ?_) (fun _ _ => ?_) (fun _ _ => ?_)
  · simp only [hz]
    exact congrArg₂ (fun m n => Z m * cosAt p.val e.val - Z n * sinAt p.val e.val) (by omega) (by omega)
  · simp only [hz]
    exact congrArg₂ (fun m n => Z m * cosAt p.val (e.val - 8) + Z n * sinAt p.val (e.val - 8)) (by omega) (by omega)
  · rw [hz]
    exact congrArg Z (by show 768 + (h.val * 64 + (16 + (e.val - 8 - 8))) = _; omega)

/-- The window branch's keys, rotated. -/
theorem v102_at (h : Fin 2) (e : Fin 64) : (res_main_v102 V0 : FVec Ideal S8x2048x2x64 .f32) (ix4 b p h e) = rope Z (cosAt p.val) (sinAt p.val) (1024 + 64 * h.val + e.val) := by
  pointwise [res_main_v102, res_main_v85, res_main_v86, res_main_v82, res_main_v84, res_main_v80, res_main_v27]
  refine rope_dite Z (cosAt p.val) (sinAt p.val) (1024 + 64 * h.val) e.val (by omega) e.isLt (fun _ => ?_) (fun _ _ => ?_) (fun _ _ => ?_)
  · simp only [hz]
    exact congrArg₂ (fun m n => Z m * cosAt p.val e.val - Z n * sinAt p.val e.val) (by omega) (by omega)
  · simp only [hz]
    exact congrArg₂ (fun m n => Z m * cosAt p.val (e.val - 8) + Z n * sinAt p.val (e.val - 8)) (by omega) (by omega)
  · rw [hz]
    exact congrArg Z (by show 1024 + (h.val * 64 + (16 + (e.val - 8 - 8))) = _; omega)

/-- The selected branch's values. -/
theorem v25_at (h : Fin 2) (e : Fin 64) : (res_main_v25 V0 : FVec Ideal S8x2048x2x64 .f32) (ix4 b p h e) = Z (896 + 64 * h.val + e.val) := by
  pointwise [res_main_v25]
  rw [hz]
  exact congrArg Z (by show 896 + (h.val * 64 + e.val) = _; omega)

/-- The window branch's values. -/
theorem v29_at (h : Fin 2) (e : Fin 64) : (res_main_v29 V0 : FVec Ideal S8x2048x2x64 .f32) (ix4 b p h e) = Z (1152 + 64 * h.val + e.val) := by
  pointwise [res_main_v29]
  rw [hz]
  exact congrArg Z (by show 1152 + (h.val * 64 + e.val) = _; omega)

/-- The rotated queries by head. -/
theorem cat1_at (h : Fin 8) (e : Fin 64) : cat1 V0 (ix4 b p h e) = rope Z (cosAt p.val) (sinAt p.val) (64 * h.val + e.val) := by
  pointwise [cat1, res_main_v138, res_main_v139, res_main_v135, res_main_v137, res_main_v133, res_main_v17]
  refine rope_dite Z (cosAt p.val) (sinAt p.val) (64 * h.val) e.val (by omega) e.isLt (fun _ => ?_) (fun _ _ => ?_) (fun _ _ => ?_)
  · simp only [hz]
    exact congrArg₂ (fun m n => Z m * cosAt p.val e.val - Z n * sinAt p.val e.val) (by omega) (by omega)
  · simp only [hz]
    exact congrArg₂ (fun m n => Z m * cosAt p.val (e.val - 8) + Z n * sinAt p.val (e.val - 8)) (by omega) (by omega)
  · rw [hz]
    exact congrArg Z (by show h.val * 64 + (16 + (e.val - 8 - 8)) = _; omega)

/-- The compressed and the selected branch by head. -/
theorem cat2_at (h : Fin 8) (e : Fin 64) : cat2 V0 (ix4 b p h e) = kvs Z (cosAt p.val) (sinAt p.val) (64 * h.val + e.val) := by
  have hks := v67_at V0 b p Z hz
  have hvs := v25_at V0 b p Z hz
  unfold cat2
  generalize res_main_v67 V0 = ks at *
  generalize res_main_v25 V0 = vs at *
  generalize hR : kvs Z (cosAt p.val) (sinAt p.val) (64 * h.val + e.val) = R
  pointwise
  rw [← hR]
  unfold kvs
  refine dite_of (fun h1 => ?_) fun h1 => dite_of (fun h2 => ?_) fun h2 => dite_of (fun h3 => ?_) fun h3 => ?_
  · refine Eq.trans ?_ (if_pos (by omega)).symm
    exact (hz _).trans (congrArg Z (by show 512 + (h.val * 64 + e.val) = _; omega))
  · refine Eq.trans ?_ (if_pos (by omega)).symm
    exact (hz _).trans (congrArg Z (by show 640 + ((h.val - 2) * 64 + e.val) = _; omega))
  · refine Eq.trans ?_ ((if_neg (by omega)).trans (if_pos (by omega))).symm
    exact (hks _ _).trans (congrArg _ (by show 768 + 64 * (h.val - 2 - 2) + e.val = _; omega))
  · refine Eq.trans ?_ ((if_neg (by omega)).trans (if_neg (by omega))).symm
    exact (hvs _ _).trans (congrArg Z (by show 896 + 64 * (h.val - 2 - 2 - 2) + e.val = _; omega))

/-- The window branch by head. -/
theorem cat3_at (h : Fin 4) (e : Fin 64) : cat3 V0 (ix4 b p h e) = win Z (cosAt p.val) (sinAt p.val) (64 * h.val + e.val) := by
  have hks := v102_at V0 b p Z hz
  have hvs := v29_at V0 b p Z hz
  unfold cat3
  generalize res_main_v102 V0 = ks at *
  generalize res_main_v29 V0 = vs at *
  generalize hR : win Z (cosAt p.val) (sinAt p.val) (64 * h.val + e.val) = R
  pointwise
  rw [← hR]
  unfold win
  refine dite_of (fun h1 => ?_) fun h1 => ?_
  · refine Eq.trans ?_ (if_pos (by omega)).symm
    exact (hks _ _).trans (congrArg _ (by show 1024 + 64 * h.val + e.val = _; omega))
  · refine Eq.trans ?_ (if_neg (by omega)).symm
    exact (hvs _ _).trans (congrArg Z (by show 1152 + 64 * (h.val - 2) + e.val = _; omega))

/-! ## The nine results -/

/-- The queries. -/
theorem out0_at (j : Fin 512) : out0 V0 (ix3 b j p) = Z j.val * scale := by
  pointwise [out0, res_main_v17]
  rw [hz]
  rfl

/-- The queries, rotated, before the scale. -/
theorem turned_at (j : Fin 512) : turned V0 (ix3 b j p) = rope Z (cosAt p.val) (sinAt p.val) j.val := by
  have e : j.val = 64 * (j.val / 64) + j.val % 64 := by omega
  have h : shapeCast S8x2048x512 (cat1 V0) shapeCasts_S8x2048x8x64_S8x2048x512 (ix3 b p j) = rope Z (cosAt p.val) (sinAt p.val) j.val :=
    ((merge_at (cat1 V0) shapeCasts_S8x2048x8x64_S8x2048x512 b p j ⟨j.val / 64, by omega⟩ ⟨j.val % 64, by omega⟩ rfl e).trans ((cat1_at V0 b p Z hz _ _).trans (congrArg _ e.symm)))
  exact (swap512 _ b p j).trans h

/-- The queries, rotated. -/
theorem out1_at (j : Fin 512) : out1 V0 (ix3 b j p) = rope Z (cosAt p.val) (sinAt p.val) j.val * scale :=
  (scaled_at (turned V0) (ix3 b j p)).trans (congrArg (fun a : EReal => a * scale) (turned_at V0 b p Z hz j))

/-- The compressed and the selected branch. -/
theorem out2_at (j : Fin 512) : out2 V0 (ix3 b j p) = kvs Z (cosAt p.val) (sinAt p.val) j.val := by
  have e : j.val = 64 * (j.val / 64) + j.val % 64 := by omega
  have h : shapeCast S8x2048x512 (cat2 V0) shapeCasts_S8x2048x8x64_S8x2048x512 (ix3 b p j) = kvs Z (cosAt p.val) (sinAt p.val) j.val :=
    ((merge_at (cat2 V0) shapeCasts_S8x2048x8x64_S8x2048x512 b p j ⟨j.val / 64, by omega⟩ ⟨j.val % 64, by omega⟩ rfl e).trans ((cat2_at V0 b p Z hz _ _).trans (congrArg _ e.symm)))
  exact (swap512 _ b p j).trans h

/-- The window branch. -/
theorem out3_at (j : Fin 256) : out3 V0 (ix3 b j p) = win Z (cosAt p.val) (sinAt p.val) j.val := by
  have e : j.val = 64 * (j.val / 64) + j.val % 64 := by omega
  have h : shapeCast S8x2048x256 (cat3 V0) shapeCasts_S8x2048x4x64_S8x2048x256 (ix3 b p j) = win Z (cosAt p.val) (sinAt p.val) j.val :=
    ((merge_at (cat3 V0) shapeCasts_S8x2048x4x64_S8x2048x256 b p j ⟨j.val / 64, by omega⟩ ⟨j.val % 64, by omega⟩ rfl e).trans ((cat3_at V0 b p Z hz _ _).trans (congrArg _ e.symm)))
  exact (swap256 _ b p j).trans h

/-- The keys by head. -/
theorem out4_at (i : Fin 4) (j : Fin 64) : out4 V0 (ix4 b i j p) = keys Z (cosAt p.val) (sinAt p.val) i.val j.val := by
  have hk := v67_at V0 b p Z hz
  have hw := v102_at V0 b p Z hz
  unfold out4
  generalize res_main_v67 V0 = ks at *
  generalize res_main_v102 V0 = kw at *
  generalize hR : keys Z (cosAt p.val) (sinAt p.val) i.val j.val = R
  pointwise
  rw [← hR]
  unfold keys
  refine dite_of (fun h1 => ?_) fun h1 => ?_
  · exact (hk _ _).trans (if_pos h1).symm
  · exact (hw _ _).trans (if_neg h1).symm

/-- The values by head, then the ones and the zeros. -/
theorem out5_at (i : Fin 4) (j : Fin 128) : out5 V0 (ix4 b i j p) = vals Z i.val j.val := by
  have hk := v25_at V0 b p Z hz
  have hw := v29_at V0 b p Z hz
  unfold out5
  generalize res_main_v25 V0 = ks at *
  generalize res_main_v29 V0 = kw at *
  generalize hR : vals Z i.val j.val = R
  pointwise
  rw [← hR]
  unfold vals
  refine dite_of (fun h1 => ?_) fun h1 => ?_
  · refine Eq.trans ?_ (if_pos h1).symm
    refine dite_of (fun h2 => ?_) fun h2 => ?_
    · exact (hk _ _).trans (if_pos h2).symm
    · exact (hw _ _).trans (if_neg h2).symm
  · refine Eq.trans ?_ (if_neg h1).symm
    refine dite_of (fun h2 => ?_) fun h2 => ?_
    · exact (if_pos (by omega)).symm
    · exact (if_neg (by omega)).symm

/-- The recurrent heads' gates. -/
theorem out6_at (n : Fin 16384) (hb : n.val / 2048 = b.val) (hp : n.val % 2048 = p.val) (j : Fin 512) : out6 V0 (ix2 n j) = Z (1304 + j.val) := by
  pointwise [out6]
  refine Eq.trans ?_ (hz ⟨1304 + j.val, by omega⟩)
  exact congrArg₂ (fun b p => (res_main_v15 V0 : FVec Ideal S8x2048x2328 .f32) (ix3 b p ⟨1304 + j.val, by omega⟩)) (Fin.ext hb) (Fin.ext hp)

/-- The recurrent heads' rows. -/
theorem out7_at (n : Fin 16384) (hb : n.val / 2048 = b.val) (hp : n.val % 2048 = p.val) (j : Fin 512) : out7 V0 (ix2 n j) = Z (1816 + j.val) := by
  pointwise [out7]
  refine Eq.trans ?_ (hz ⟨1816 + j.val, by omega⟩)
  exact congrArg₂ (fun b p => (res_main_v15 V0 : FVec Ideal S8x2048x2328 .f32) (ix3 b p ⟨1816 + j.val, by omega⟩)) (Fin.ext hb) (Fin.ext hp)

/-- The gates. -/
theorem out8_at (j : Fin 32) : out8 V0 (ix3 b j p) = gate Z j.val := by
  generalize hR : gate Z j.val = R
  pointwise [out8]
  rw [← hR]
  have hj := j.isLt
  have e : 1280 + (j.val % 16 / 4 * 8 + j.val / 16 * 4 + j.val % 16 % 4) = 1280 + j.val % 16 / 4 * 8 + j.val / 16 * 4 + j.val % 4 := by
    rw [Nat.mod_mod_of_dvd j.val (show 4 ∣ 16 by decide), Nat.add_assoc, Nat.add_assoc, Nat.add_assoc]
  refine congrArg (fun a : EReal => Ideal.div 1 (1 + Ideal.exp (-a))) ?_
  unfold gateArg
  refine dite_of (fun h => ?_) fun h => ?_
  · refine Eq.trans ?_ (if_pos h.2).symm
    exact (hz _).trans (congrArg Z e)
  · have h2 : ¬j.val % 16 < 12 := fun q => h ⟨by omega, q⟩
    refine Eq.trans ?_ (if_neg h2).symm
    show (((0#32 : BitVec 32).toInt : ℝ) : EReal) = 0
    norm_num

end

end Cert.Proj.Ref

end
-- ==== Proof.Proj.Equal.lean ====
/-
  The projection: the kernel's nine arrays of results are the reference's.
-/
module

public import proofs.«01_k».proof.Proof.Proj.Final
public import proofs.«01_k».proof.Proof.Proj.Ref

@[expose] public section

noncomputable section

namespace Cert.Proj

open Idealize.ShloMosaic Idealize.ShloMosaic.TcCoe Idealize.ShloMosaic.StableHlo

/-- An index of a matrix, by its two coordinates. -/
theorem idx2 {a b : ℕ} (i : (⟨2, ![a, b]⟩ : Shape).Idx) : i = ix2 (i 0) (i 1) := by
  refine funext fun x => ?_
  match x with
  | ⟨0, _⟩ => rfl
  | ⟨1, _⟩ => rfl

/-- An index of an array of rank three, by its coordinates. -/
theorem idx3 {a b c : ℕ} (i : (⟨3, ![a, b, c]⟩ : Shape).Idx) : i = ix3 (i 0) (i 1) (i 2) := by
  refine funext fun x => ?_
  match x with
  | ⟨0, _⟩ => rfl
  | ⟨1, _⟩ => rfl
  | ⟨2, _⟩ => rfl

/-- An index of an array of rank four, by its coordinates. -/
theorem idx4 {a b c d : ℕ} (i : (⟨4, ![a, b, c, d]⟩ : Shape).Idx) : i = ix4 (i 0) (i 1) (i 2) (i 3) := by
  refine funext fun x => ?_
  match x with
  | ⟨0, _⟩ => rfl
  | ⟨1, _⟩ => rfl
  | ⟨2, _⟩ => rfl
  | ⟨3, _⟩ => rfl

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)
  (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
  (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
  (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
include h0 h1 h2

/-- From memories that agree on the arguments, the projected rows are one. -/
theorem row_at (b : Fin 8) (p : Fin 2048) (n : Fin 2328) :
    (Cert.Reference4Ideal.Value.res_main_v15 (launchContents m' c) : FVec Ideal Cert.Reference4Ideal.S8x2048x2328 .f32) (ix3 b p n)
      = zrow (Ker.argX m c) (Ker.argW m c) (Ker.argG m c) b p n.val := by
  refine (Ref.z_at _ b p n).trans ?_
  show zrow (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) b p n.val = _
  rw [h0, h1, h2]

/-- The two programs' queries are one array. -/
theorem eq0 : (Ref.out0 (launchContents m' c) : FVec Ideal Cert.Reference4Ideal.S8x512x2048 .bf16)
    = (Cert.Kernel4Ideal.Gen.dats m 0 c).arrAt 8 Cert.Kernel4Ideal.cfg0.N := by
  refine funext fun i => ?_
  rw [idx3 i]
  exact (Ref.out0_at _ (i 0) (i 2) _ (row_at m m' c h0 h1 h2 (i 0) (i 2)) (i 1)).trans (Ker.final8 m c (i 0) (i 1) (i 2)).symm

/-- The two programs' rotated queries are one array. -/
theorem eq1 : (Ref.out1 (launchContents m' c) : FVec Ideal Cert.Reference4Ideal.S8x512x2048 .bf16)
    = (Cert.Kernel4Ideal.Gen.dats m 0 c).arrAt 9 Cert.Kernel4Ideal.cfg0.N := by
  refine funext fun i => ?_
  rw [idx3 i]
  exact (Ref.out1_at _ (i 0) (i 2) _ (row_at m m' c h0 h1 h2 (i 0) (i 2)) (i 1)).trans (Ker.final9 m c (i 0) (i 1) (i 2)).symm

/-- The two programs' compressed and selected branches are one array. -/
theorem eq2 : (Ref.out2 (launchContents m' c) : FVec Ideal Cert.Reference4Ideal.S8x512x2048 .f32)
    = (Cert.Kernel4Ideal.Gen.dats m 0 c).arrAt 10 Cert.Kernel4Ideal.cfg0.N := by
  refine funext fun i => ?_
  rw [idx3 i]
  exact (Ref.out2_at _ (i 0) (i 2) _ (row_at m m' c h0 h1 h2 (i 0) (i 2)) (i 1)).trans (Ker.final10 m c (i 0) (i 1) (i 2)).symm

/-- The two programs' window branches are one array. -/
theorem eq3 : (Ref.out3 (launchContents m' c) : FVec Ideal Cert.Reference4Ideal.S8x256x2048 .f32)
    = (Cert.Kernel4Ideal.Gen.dats m 0 c).arrAt 11 Cert.Kernel4Ideal.cfg0.N := by
  refine funext fun i => ?_
  rw [idx3 i]
  exact (Ref.out3_at _ (i 0) (i 2) _ (row_at m m' c h0 h1 h2 (i 0) (i 2)) (i 1)).trans (Ker.final11 m c (i 0) (i 1) (i 2)).symm

/-- The two programs' keys are one array. -/
theorem eq4 : (Ref.out4 (launchContents m' c) : FVec Ideal Cert.Reference4Ideal.S8x4x64x2048 .bf16)
    = (Cert.Kernel4Ideal.Gen.dats m 0 c).arrAt 12 Cert.Kernel4Ideal.cfg0.N := by
  refine funext fun i => ?_
  rw [idx4 i]
  exact (Ref.out4_at _ (i 0) (i 3) _ (row_at m m' c h0 h1 h2 (i 0) (i 3)) (i 1) (i 2)).trans (Ker.final12 m c (i 0) (i 1) (i 2) (i 3)).symm

/-- The two programs' values are one array. -/
theorem eq5 : (Ref.out5 (launchContents m' c) : FVec Ideal Cert.Reference4Ideal.S8x4x128x2048 .bf16)
    = (Cert.Kernel4Ideal.Gen.dats m 0 c).arrAt 13 Cert.Kernel4Ideal.cfg0.N := by
  refine funext fun i => ?_
  rw [idx4 i]
  exact (Ref.out5_at _ (i 0) (i 3) _ (row_at m m' c h0 h1 h2 (i 0) (i 3)) (i 1) (i 2)).trans (Ker.final13 m c (i 0) (i 1) (i 2) (i 3)).symm

/-- The two programs' recurrent heads' gates are one array. -/
theorem eq6 : (Ref.out6 (launchContents m' c) : FVec Ideal Cert.Reference4Ideal.S16384x512 .f32)
    = (Cert.Kernel4Ideal.Gen.dats m 0 c).arrAt 14 Cert.Kernel4Ideal.cfg0.N := by
  refine funext fun i => ?_
  rw [idx2 i]
  obtain ⟨n, hn⟩ : {n : Fin 16384 // n = i 0} := ⟨i 0, rfl⟩
  rw [← hn]
  have hl := n.isLt
  exact (Ref.out6_at _ ⟨n.val / 2048, by omega⟩ ⟨n.val % 2048, by omega⟩ _ (row_at m m' c h0 h1 h2 _ _) n rfl rfl (i 1)).trans
    (Ker.final14 m c ⟨n.val / 2048, by omega⟩ ⟨n.val % 2048, by omega⟩ n (by show n.val = 2048 * (n.val / 2048) + n.val % 2048; omega) (i 1)).symm

/-- The two programs' recurrent heads' rows are one array. -/
theorem eq7 : (Ref.out7 (launchContents m' c) : FVec Ideal Cert.Reference4Ideal.S16384x512 .f32)
    = (Cert.Kernel4Ideal.Gen.dats m 0 c).arrAt 15 Cert.Kernel4Ideal.cfg0.N := by
  refine funext fun i => ?_
  rw [idx2 i]
  obtain ⟨n, hn⟩ : {n : Fin 16384 // n = i 0} := ⟨i 0, rfl⟩
  rw [← hn]
  have hl := n.isLt
  exact (Ref.out7_at _ ⟨n.val / 2048, by omega⟩ ⟨n.val % 2048, by omega⟩ _ (row_at m m' c h0 h1 h2 _ _) n rfl rfl (i 1)).trans
    (Ker.final15 m c ⟨n.val / 2048, by omega⟩ ⟨n.val % 2048, by omega⟩ n (by show n.val = 2048 * (n.val / 2048) + n.val % 2048; omega) (i 1)).symm

/-- The two programs' gates are one array. -/
theorem eq8 : (Ref.out8 (launchContents m' c) : FVec Ideal Cert.Reference4Ideal.S8x32x2048 .f32)
    = (Cert.Kernel4Ideal.Gen.dats m 0 c).arrAt 16 Cert.Kernel4Ideal.cfg0.N := by
  refine funext fun i => ?_
  rw [idx3 i]
  exact (Ref.out8_at _ (i 0) (i 2) _ (row_at m m' c h0 h1 h2 (i 0) (i 2)) (i 1)).trans (Ker.final16 m c (i 0) (i 1) (i 2)).symm

end

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Pre_lam_nonneg
public import proofs.«01_k».proof.Proof.RefRun
public import proofs.«01_k».proof.Proof.Equal
public import proofs.«01_k».proof.Proof.Mlp.Equal2
public import proofs.«01_k».proof.Proof.Mlp.Equal3
public import proofs.«01_k».proof.Proof.Proj.Equal
public import Idealize.ShloMosaic.Adequacy
public import Idealize.ShloMosaic.Init

@[expose] public section

noncomputable section

namespace Cert.Proof

open Idealize.ShloMosaic Idealize.SL.Sem Cert.Kernel

/-- The reference's run leaves its arguments as they were; it has no semaphore. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The two programs compute one pair of arrays, where no decay parameter is negative. -/
theorem algebraic : Cert.algebraic_KernelIdeal_ReferenceIdeal_pre_lam_nonneg := by
  intro m ρ m' ρ' hpre hagree
  have hP : ∀ c d, 0 ≤ (Cert.Lru.par m c).lam d := fun c d => Cert.Lru.nonneg_of_pre _ _ _ _ _ _ _ _ _ _ (hpre c) d
  refine ⟨fun c => Cert.KernelIdeal.Value.G10 m c, fun c => Cert.KernelIdeal.Value.G11 m c, Cert.KernelIdeal.Value.run (F := Ideal) m ρ, ?_⟩
  have hrun := Cert.ReferenceIdeal.Iter.run_iter (F := Ideal) m' ρ'
    (fun c => Cert.Lru.Ref.it (m' (c.tc.loc Cert.ReferenceIdeal.main_arg0)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)))
    (fun c => rfl) (fun c n => rfl)
  refine (θ_run _ _ _).mono (fun _ h c => ⟨(h c).1.trans ?_, (h c).2.1.trans ?_, (h c).2.2⟩) hrun
  · obtain ⟨h0, h1, h2, h3, h4, h5, h6, h7, h8, h9⟩ := hagree c
    rw [h0, h1, h2, h3, h4, h5, h6, h7, h8, h9]
    exact Cert.Lru.y_eq m c (hP c)
  · obtain ⟨h0, h1, h2, h3, h4, h5, h6, h7, h8, h9⟩ := hagree c
    rw [h0, h2, h3, h4, h5, h6, h7, h8]
    exact Cert.Lru.h_eq m c (hP c)

/-- The run of the second half's reference leaves its arguments as they were; it has no semaphore. -/
theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The two programs of the second half compute one array. -/
theorem algebraic2 : Cert.algebraic_Kernel2Ideal_Reference2Ideal := by
  intro m ρ m' ρ' hpre hagree
  refine ⟨fun c => (Cert.Kernel2Ideal.Gen.dats m 0 c).arrAt 9 Cert.Kernel2Ideal.cfg0.N, Cert.Kernel2Ideal.Value.run_blocks (F := Ideal) m ρ, ?_⟩
  refine (θ_run _ _ _).mono (fun _ h c => ⟨(h c).1.trans ?_, (h c).2⟩) (Cert.Reference2Ideal.Value.run (F := Ideal) m' ρ')
  obtain ⟨h0, h1, h2, h3, h4, h5, h6, h7, h8⟩ := hagree c
  exact Cert.Mlp.equal2 m m' c h0 h1 h2 h3 h4 h5 h6 h7 h8

/-- The run of the second half's reference on the sample leaves its arguments as they were; it has no semaphore. -/
theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The two programs of the second half on the sample compute one array. -/
theorem algebraic3 : Cert.algebraic_Kernel3Ideal_Reference3Ideal := by
  intro m ρ m' ρ' hpre hagree
  refine ⟨fun c => (Cert.Kernel3Ideal.Gen.dats m 0 c).arrAt 9 Cert.Kernel3Ideal.cfg0.N, Cert.Kernel3Ideal.Value.run_blocks (F := Ideal) m ρ, ?_⟩
  refine (θ_run _ _ _).mono (fun _ h c => ⟨(h c).1.trans ?_, (h c).2⟩) (Cert.Reference3Ideal.Value.run (F := Ideal) m' ρ')
  obtain ⟨h0, h1, h2, h3, h4, h5, h6, h7, h8⟩ := hagree c
  exact Cert.Mlp.equal3 m m' c h0 h1 h2 h3 h4 h5 h6 h7 h8

/-- The run of the projection's reference leaves its arguments as they were; it has no semaphore. -/
theorem frame_ri4 : Cert.quiescent_Reference4Ideal := fun m ρ _ =>
  (θ_run Cert.Reference4Ideal.defs _ _).mono
    (fun r h => ⟨fun c => (h c).2.2.2.2.2.2.2.2.2, Idealize.ShloMosaic.sem_eq_zero_of_no_sems (by decide) r.2⟩)
    (Cert.Reference4Ideal.Value.run (F := Ideal) m ρ)

/-- The two programs of the projection compute the same nine arrays. -/
theorem algebraic4 : Cert.algebraic_Kernel4Ideal_Reference4Ideal := by
  intro m ρ m' ρ' hpre hagree
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N, fun c => (Cert.Kernel4Ideal.Gen.dats m 0 c).arrAt 16 Cert.Kernel4Ideal.cfg0.N,
    Cert.Kernel4Ideal.Value.run_blocks (F := Ideal) m ρ, ?_⟩
  refine (θ_run _ _ _).mono (fun _ h c => ?_) (Cert.Reference4Ideal.Value.run (F := Ideal) m' ρ')
  obtain ⟨h0, h1, h2⟩ := hagree c
  obtain ⟨e0, e1, e2, e3, e4, e5, e6, e7, e8, ha⟩ := h c
  exact ⟨e0.trans (Cert.Proj.eq0 m m' c h0 h1 h2), e1.trans (Cert.Proj.eq1 m m' c h0 h1 h2), e2.trans (Cert.Proj.eq2 m m' c h0 h1 h2), e3.trans (Cert.Proj.eq3 m m' c h0 h1 h2), e4.trans (Cert.Proj.eq4 m m' c h0 h1 h2), e5.trans (Cert.Proj.eq5 m m' c h0 h1 h2), e6.trans (Cert.Proj.eq6 m m' c h0 h1 h2), e7.trans (Cert.Proj.eq7 m m' c h0 h1 h2), e8.trans (Cert.Proj.eq8 m m' c h0 h1 h2), ha⟩

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_lam_nonneg.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  trivial, algebraic, trivial, algebraic2, trivial, algebraic3, trivial, algebraic4⟩

end Cert.Proof

end
